-- ==== Defs.lean ====
def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ffnt (m : (ℓ : Loc Cert.Ffnt.nD Cert.Ffnt.τ Cert.Ffnt.sig) → Buf (Elt Bits) ℓ) : Prop :=
  True

def Pre_FfntIdeal (m : (ℓ : Loc Cert.FfntIdeal.nD Cert.FfntIdeal.τ Cert.FfntIdeal.sig) → Buf (Elt Ideal) ℓ) : Prop :=
  True

def Pre_FfntRefIdeal (m : (ℓ : Loc Cert.FfntRefIdeal.nD Cert.FfntRefIdeal.τ Cert.FfntRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
      ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
      ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
      ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
      ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
      ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5)
      ∧ r.2.mem ((c.tc : Thread Cert.SsdRefIdeal.nD Cert.SsdRefIdeal.τ).loc Cert.SsdRefIdeal.main_arg6) = m ((c.tc : Thread Cert.SsdRefIdeal.nD Cert.SsdRefIdeal.τ).loc Cert.SsdRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Ffnt [hFfnt : Cert.Ffnt.Facts] : Prop :=
  ∀ (m : (ℓ : Loc Cert.Ffnt.nD Cert.Ffnt.τ Cert.Ffnt.sig) → Buf (Elt Bits) ℓ) (g : Dev Cert.Ffnt.nD → PrngReg), Pre_Ffnt m →
    θ_run (Cert.Ffnt.defs (F := Bits)) (onTc (τ := Cert.Ffnt.τ) (Cert.Ffnt.main (F := Bits))) ⟨m, fun _ => 0, g⟩ (fun r => (∀ c : Dev Cert.Ffnt.nD,
      r.2.mem ((c.tc : Thread Cert.Ffnt.nD Cert.Ffnt.τ).loc Cert.Ffnt.main_arg0) = m ((c.tc : Thread Cert.Ffnt.nD Cert.Ffnt.τ).loc Cert.Ffnt.main_arg0)
      ∧ r.2.mem ((c.tc : Thread Cert.Ffnt.nD Cert.Ffnt.τ).loc Cert.Ffnt.main_arg1) = m ((c.tc : Thread Cert.Ffnt.nD Cert.Ffnt.τ).loc Cert.Ffnt.main_arg1)
      ∧ r.2.mem ((c.tc : Thread Cert.Ffnt.nD Cert.Ffnt.τ).loc Cert.Ffnt.main_arg2) = m ((c.tc : Thread Cert.Ffnt.nD Cert.Ffnt.τ).loc Cert.Ffnt.main_arg2)
      ∧ r.2.mem ((c.tc : Thread Cert.Ffnt.nD Cert.Ffnt.τ).loc Cert.Ffnt.main_arg3) = m ((c.tc : Thread Cert.Ffnt.nD Cert.Ffnt.τ).loc Cert.Ffnt.main_arg3)
      ∧ r.2.mem ((c.tc : Thread Cert.Ffnt.nD Cert.Ffnt.τ).loc Cert.Ffnt.main_arg4) = m ((c.tc : Thread Cert.Ffnt.nD Cert.Ffnt.τ).loc Cert.Ffnt.main_arg4)
      ∧ r.2.mem ((c.tc : Thread Cert.Ffnt.nD Cert.Ffnt.τ).loc Cert.Ffnt.main_arg5) = m ((c.tc : Thread Cert.Ffnt.nD Cert.Ffnt.τ).loc Cert.Ffnt.main_arg5)
      ∧ r.2.mem ((c.tc : Thread Cert.Ffnt.nD Cert.Ffnt.τ).loc Cert.Ffnt.main_arg6) = m ((c.tc : Thread Cert.Ffnt.nD Cert.Ffnt.τ).loc Cert.Ffnt.main_arg6)
      ∧ r.2.mem ((c.tc : Thread Cert.Ffnt.nD Cert.Ffnt.τ).loc Cert.Ffnt.main_arg7) = m ((c.tc : Thread Cert.Ffnt.nD Cert.Ffnt.τ).loc Cert.Ffnt.main_arg7)
      ∧ r.2.mem ((c.tc : Thread Cert.Ffnt.nD Cert.Ffnt.τ).loc Cert.Ffnt.main_arg8) = m ((c.tc : Thread Cert.Ffnt.nD Cert.Ffnt.τ).loc Cert.Ffnt.main_arg8))
      ∧ r.2.sem = fun _ => 0)

def quiescent_FfntIdeal [hFfntIdeal : Cert.FfntIdeal.Facts] : Prop :=
  ∀ (m : (ℓ : Loc Cert.FfntIdeal.nD Cert.FfntIdeal.τ Cert.FfntIdeal.sig) → Buf (Elt Ideal) ℓ) (g : Dev Cert.FfntIdeal.nD → PrngReg), Pre_FfntIdeal m →
    θ_run (Cert.FfntIdeal.defs (F := Ideal)) (onTc (τ := Cert.FfntIdeal.τ) (Cert.FfntIdeal.main (F := Ideal))) ⟨m, fun _ => 0, g⟩ (fun r => (∀ c : Dev Cert.FfntIdeal.nD,
      r.2.mem ((c.tc : Thread Cert.FfntIdeal.nD Cert.FfntIdeal.τ).loc Cert.FfntIdeal.main_arg0) = m ((c.tc : Thread Cert.FfntIdeal.nD Cert.FfntIdeal.τ).loc Cert.FfntIdeal.main_arg0)
      ∧ r.2.mem ((c.tc : Thread Cert.FfntIdeal.nD Cert.FfntIdeal.τ).loc Cert.FfntIdeal.main_arg1) = m ((c.tc : Thread Cert.FfntIdeal.nD Cert.FfntIdeal.τ).loc Cert.FfntIdeal.main_arg1)
      ∧ r.2.mem ((c.tc : Thread Cert.FfntIdeal.nD Cert.FfntIdeal.τ).loc Cert.FfntIdeal.main_arg2) = m ((c.tc : Thread Cert.FfntIdeal.nD Cert.FfntIdeal.τ).loc Cert.FfntIdeal.main_arg2)
      ∧ r.2.mem ((c.tc : Thread Cert.FfntIdeal.nD Cert.FfntIdeal.τ).loc Cert.FfntIdeal.main_arg3) = m ((c.tc : Thread Cert.FfntIdeal.nD Cert.FfntIdeal.τ).loc Cert.FfntIdeal.main_arg3)
      ∧ r.2.mem ((c.tc : Thread Cert.FfntIdeal.nD Cert.FfntIdeal.τ).loc Cert.FfntIdeal.main_arg4) = m ((c.tc : Thread Cert.FfntIdeal.nD Cert.FfntIdeal.τ).loc Cert.FfntIdeal.main_arg4)
      ∧ r.2.mem ((c.tc : Thread Cert.FfntIdeal.nD Cert.FfntIdeal.τ).loc Cert.FfntIdeal.main_arg5) = m ((c.tc : Thread Cert.FfntIdeal.nD Cert.FfntIdeal.τ).loc Cert.FfntIdeal.main_arg5)
      ∧ r.2.mem ((c.tc : Thread Cert.FfntIdeal.nD Cert.FfntIdeal.τ).loc Cert.FfntIdeal.main_arg6) = m ((c.tc : Thread Cert.FfntIdeal.nD Cert.FfntIdeal.τ).loc Cert.FfntIdeal.main_arg6)
      ∧ r.2.mem ((c.tc : Thread Cert.FfntIdeal.nD Cert.FfntIdeal.τ).loc Cert.FfntIdeal.main_arg7) = m ((c.tc : Thread Cert.FfntIdeal.nD Cert.FfntIdeal.τ).loc Cert.FfntIdeal.main_arg7)
      ∧ r.2.mem ((c.tc : Thread Cert.FfntIdeal.nD Cert.FfntIdeal.τ).loc Cert.FfntIdeal.main_arg8) = m ((c.tc : Thread Cert.FfntIdeal.nD Cert.FfntIdeal.τ).loc Cert.FfntIdeal.main_arg8))
      ∧ r.2.sem = fun _ => 0)

def quiescent_FfntRefIdeal [hFfntRefIdeal : Cert.FfntRefIdeal.Facts] : Prop :=
  ∀ (m : (ℓ : Loc Cert.FfntRefIdeal.nD Cert.FfntRefIdeal.τ Cert.FfntRefIdeal.sig) → Buf (Elt Ideal) ℓ) (g : Dev Cert.FfntRefIdeal.nD → PrngReg), Pre_FfntRefIdeal m →
    θ_run (Cert.FfntRefIdeal.defs (F := Ideal)) (onTc (τ := Cert.FfntRefIdeal.τ) (Cert.FfntRefIdeal.main (F := Ideal))) ⟨m, fun _ => 0, g⟩ (fun r => (∀ c : Dev Cert.FfntRefIdeal.nD,
      r.2.mem ((c.tc : Thread Cert.FfntRefIdeal.nD Cert.FfntRefIdeal.τ).loc Cert.FfntRefIdeal.main_arg0) = m ((c.tc : Thread Cert.FfntRefIdeal.nD Cert.FfntRefIdeal.τ).loc Cert.FfntRefIdeal.main_arg0)
      ∧ r.2.mem ((c.tc : Thread Cert.FfntRefIdeal.nD Cert.FfntRefIdeal.τ).loc Cert.FfntRefIdeal.main_arg1) = m ((c.tc : Thread Cert.FfntRefIdeal.nD Cert.FfntRefIdeal.τ).loc Cert.FfntRefIdeal.main_arg1)
      ∧ r.2.mem ((c.tc : Thread Cert.FfntRefIdeal.nD Cert.FfntRefIdeal.τ).loc Cert.FfntRefIdeal.main_arg2) = m ((c.tc : Thread Cert.FfntRefIdeal.nD Cert.FfntRefIdeal.τ).loc Cert.FfntRefIdeal.main_arg2)
      ∧ r.2.mem ((c.tc : Thread Cert.FfntRefIdeal.nD Cert.FfntRefIdeal.τ).loc Cert.FfntRefIdeal.main_arg3) = m ((c.tc : Thread Cert.FfntRefIdeal.nD Cert.FfntRefIdeal.τ).loc Cert.FfntRefIdeal.main_arg3)
      ∧ r.2.mem ((c.tc : Thread Cert.FfntRefIdeal.nD Cert.FfntRefIdeal.τ).loc Cert.FfntRefIdeal.main_arg4) = m ((c.tc : Thread Cert.FfntRefIdeal.nD Cert.FfntRefIdeal.τ).loc Cert.FfntRefIdeal.main_arg4)
      ∧ r.2.mem ((c.tc : Thread Cert.FfntRefIdeal.nD Cert.FfntRefIdeal.τ).loc Cert.FfntRefIdeal.main_arg5) = m ((c.tc : Thread Cert.FfntRefIdeal.nD Cert.FfntRefIdeal.τ).loc Cert.FfntRefIdeal.main_arg5)
      ∧ r.2.mem ((c.tc : Thread Cert.FfntRefIdeal.nD Cert.FfntRefIdeal.τ).loc Cert.FfntRefIdeal.main_arg6) = m ((c.tc : Thread Cert.FfntRefIdeal.nD Cert.FfntRefIdeal.τ).loc Cert.FfntRefIdeal.main_arg6)
      ∧ r.2.mem ((c.tc : Thread Cert.FfntRefIdeal.nD Cert.FfntRefIdeal.τ).loc Cert.FfntRefIdeal.main_arg7) = m ((c.tc : Thread Cert.FfntRefIdeal.nD Cert.FfntRefIdeal.τ).loc Cert.FfntRefIdeal.main_arg7)
      ∧ r.2.mem ((c.tc : Thread Cert.FfntRefIdeal.nD Cert.FfntRefIdeal.τ).loc Cert.FfntRefIdeal.main_arg8) = m ((c.tc : Thread Cert.FfntRefIdeal.nD Cert.FfntRefIdeal.τ).loc Cert.FfntRefIdeal.main_arg8))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8))
      ∧ r.2.sem = fun _ => 0)

def preserves_Ssd_SsdIdeal : Prop :=
  True

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)
      ∧ m' ((c.tc : Thread Cert.SsdRefIdeal.nD Cert.SsdRefIdeal.τ).loc Cert.SsdRefIdeal.main_arg2) = m ((c.tc : Thread Cert.SsdIdeal.nD Cert.SsdIdeal.τ).loc Cert.SsdIdeal.main_arg2)
      ∧ m' ((c.tc : Thread Cert.SsdRefIdeal.nD Cert.SsdRefIdeal.τ).loc Cert.SsdRefIdeal.main_arg3) = m ((c.tc : Thread Cert.SsdIdeal.nD Cert.SsdIdeal.τ).loc Cert.SsdIdeal.main_arg3)
      ∧ m' ((c.tc : Thread Cert.SsdRefIdeal.nD Cert.SsdRefIdeal.τ).loc Cert.SsdRefIdeal.main_arg4) = m ((c.tc : Thread Cert.SsdIdeal.nD Cert.SsdIdeal.τ).loc Cert.SsdIdeal.main_arg4)
      ∧ m' ((c.tc : Thread Cert.SsdRefIdeal.nD Cert.SsdRefIdeal.τ).loc Cert.SsdRefIdeal.main_arg5) = m ((c.tc : Thread Cert.SsdIdeal.nD Cert.SsdIdeal.τ).loc Cert.SsdIdeal.main_arg5)
      ∧ m' ((c.tc : Thread Cert.SsdRefIdeal.nD Cert.SsdRefIdeal.τ).loc Cert.SsdRefIdeal.main_arg6) = m ((c.tc : Thread Cert.SsdIdeal.nD Cert.SsdIdeal.τ).loc Cert.SsdIdeal.main_arg6)) →
    ∃ (v0 : (c : Dev Cert.SsdIdeal.nD) → Buf (Elt Ideal) ((c.tc : Thread Cert.SsdIdeal.nD Cert.SsdIdeal.τ).loc Cert.SsdIdeal.main_v23)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v23) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1)
          ∧ r.2.mem ((c.tc : Thread Cert.SsdIdeal.nD Cert.SsdIdeal.τ).loc Cert.SsdIdeal.main_arg2) = m ((c.tc : Thread Cert.SsdIdeal.nD Cert.SsdIdeal.τ).loc Cert.SsdIdeal.main_arg2)
          ∧ r.2.mem ((c.tc : Thread Cert.SsdIdeal.nD Cert.SsdIdeal.τ).loc Cert.SsdIdeal.main_arg3) = m ((c.tc : Thread Cert.SsdIdeal.nD Cert.SsdIdeal.τ).loc Cert.SsdIdeal.main_arg3)
          ∧ r.2.mem ((c.tc : Thread Cert.SsdIdeal.nD Cert.SsdIdeal.τ).loc Cert.SsdIdeal.main_arg4) = m ((c.tc : Thread Cert.SsdIdeal.nD Cert.SsdIdeal.τ).loc Cert.SsdIdeal.main_arg4)
          ∧ r.2.mem ((c.tc : Thread Cert.SsdIdeal.nD Cert.SsdIdeal.τ).loc Cert.SsdIdeal.main_arg5) = m ((c.tc : Thread Cert.SsdIdeal.nD Cert.SsdIdeal.τ).loc Cert.SsdIdeal.main_arg5)
          ∧ r.2.mem ((c.tc : Thread Cert.SsdIdeal.nD Cert.SsdIdeal.τ).loc Cert.SsdIdeal.main_arg6) = m ((c.tc : Thread Cert.SsdIdeal.nD Cert.SsdIdeal.τ).loc Cert.SsdIdeal.main_arg6))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v108) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5)
          ∧ r.2.mem ((c.tc : Thread Cert.SsdRefIdeal.nD Cert.SsdRefIdeal.τ).loc Cert.SsdRefIdeal.main_arg6) = m' ((c.tc : Thread Cert.SsdRefIdeal.nD Cert.SsdRefIdeal.τ).loc Cert.SsdRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v2) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v40) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Ffnt_FfntIdeal : Prop :=
  True

def algebraic_FfntIdeal_FfntRefIdeal [hFfntIdeal : Cert.FfntIdeal.Facts] [hFfntRefIdeal : Cert.FfntRefIdeal.Facts] : Prop :=
  ∀ (m : (ℓ : Loc Cert.FfntIdeal.nD Cert.FfntIdeal.τ Cert.FfntIdeal.sig) → Buf (Elt Ideal) ℓ) (g : Dev Cert.FfntIdeal.nD → PrngReg)
    (m' : (ℓ : Loc Cert.FfntRefIdeal.nD Cert.FfntRefIdeal.τ Cert.FfntRefIdeal.sig) → Buf (Elt Ideal) ℓ) (g' : Dev Cert.FfntRefIdeal.nD → PrngReg), Pre_FfntIdeal m →
    (∀ c : Dev Cert.FfntIdeal.nD,
      m' ((c.tc : Thread Cert.FfntRefIdeal.nD Cert.FfntRefIdeal.τ).loc Cert.FfntRefIdeal.main_arg0) = m ((c.tc : Thread Cert.FfntIdeal.nD Cert.FfntIdeal.τ).loc Cert.FfntIdeal.main_arg0)
      ∧ m' ((c.tc : Thread Cert.FfntRefIdeal.nD Cert.FfntRefIdeal.τ).loc Cert.FfntRefIdeal.main_arg1) = m ((c.tc : Thread Cert.FfntIdeal.nD Cert.FfntIdeal.τ).loc Cert.FfntIdeal.main_arg1)
      ∧ m' ((c.tc : Thread Cert.FfntRefIdeal.nD Cert.FfntRefIdeal.τ).loc Cert.FfntRefIdeal.main_arg2) = m ((c.tc : Thread Cert.FfntIdeal.nD Cert.FfntIdeal.τ).loc Cert.FfntIdeal.main_arg2)
      ∧ m' ((c.tc : Thread Cert.FfntRefIdeal.nD Cert.FfntRefIdeal.τ).loc Cert.FfntRefIdeal.main_arg3) = m ((c.tc : Thread Cert.FfntIdeal.nD Cert.FfntIdeal.τ).loc Cert.FfntIdeal.main_arg3)
      ∧ m' ((c.tc : Thread Cert.FfntRefIdeal.nD Cert.FfntRefIdeal.τ).loc Cert.FfntRefIdeal.main_arg4) = m ((c.tc : Thread Cert.FfntIdeal.nD Cert.FfntIdeal.τ).loc Cert.FfntIdeal.main_arg4)
      ∧ m' ((c.tc : Thread Cert.FfntRefIdeal.nD Cert.FfntRefIdeal.τ).loc Cert.FfntRefIdeal.main_arg5) = m ((c.tc : Thread Cert.FfntIdeal.nD Cert.FfntIdeal.τ).loc Cert.FfntIdeal.main_arg5)
      ∧ m' ((c.tc : Thread Cert.FfntRefIdeal.nD Cert.FfntRefIdeal.τ).loc Cert.FfntRefIdeal.main_arg6) = m ((c.tc : Thread Cert.FfntIdeal.nD Cert.FfntIdeal.τ).loc Cert.FfntIdeal.main_arg6)
      ∧ m' ((c.tc : Thread Cert.FfntRefIdeal.nD Cert.FfntRefIdeal.τ).loc Cert.FfntRefIdeal.main_arg7) = m ((c.tc : Thread Cert.FfntIdeal.nD Cert.FfntIdeal.τ).loc Cert.FfntIdeal.main_arg7)
      ∧ m' ((c.tc : Thread Cert.FfntRefIdeal.nD Cert.FfntRefIdeal.τ).loc Cert.FfntRefIdeal.main_arg8) = m ((c.tc : Thread Cert.FfntIdeal.nD Cert.FfntIdeal.τ).loc Cert.FfntIdeal.main_arg8)) →
    ∃ (v0 : (c : Dev Cert.FfntIdeal.nD) → Buf (Elt Ideal) ((c.tc : Thread Cert.FfntIdeal.nD Cert.FfntIdeal.τ).loc Cert.FfntIdeal.main_v4)),
      θ_run (Cert.FfntIdeal.defs (F := Ideal)) (onTc (τ := Cert.FfntIdeal.τ) (Cert.FfntIdeal.main (F := Ideal))) ⟨m, fun _ => 0, g⟩ (fun r => ∀ c : Dev Cert.FfntIdeal.nD,
          r.2.mem ((c.tc : Thread Cert.FfntIdeal.nD Cert.FfntIdeal.τ).loc Cert.FfntIdeal.main_v4) = v0 c
          ∧ r.2.mem ((c.tc : Thread Cert.FfntIdeal.nD Cert.FfntIdeal.τ).loc Cert.FfntIdeal.main_arg0) = m ((c.tc : Thread Cert.FfntIdeal.nD Cert.FfntIdeal.τ).loc Cert.FfntIdeal.main_arg0)
          ∧ r.2.mem ((c.tc : Thread Cert.FfntIdeal.nD Cert.FfntIdeal.τ).loc Cert.FfntIdeal.main_arg1) = m ((c.tc : Thread Cert.FfntIdeal.nD Cert.FfntIdeal.τ).loc Cert.FfntIdeal.main_arg1)
          ∧ r.2.mem ((c.tc : Thread Cert.FfntIdeal.nD Cert.FfntIdeal.τ).loc Cert.FfntIdeal.main_arg2) = m ((c.tc : Thread Cert.FfntIdeal.nD Cert.FfntIdeal.τ).loc Cert.FfntIdeal.main_arg2)
          ∧ r.2.mem ((c.tc : Thread Cert.FfntIdeal.nD Cert.FfntIdeal.τ).loc Cert.FfntIdeal.main_arg3) = m ((c.tc : Thread Cert.FfntIdeal.nD Cert.FfntIdeal.τ).loc Cert.FfntIdeal.main_arg3)
          ∧ r.2.mem ((c.tc : Thread Cert.FfntIdeal.nD Cert.FfntIdeal.τ).loc Cert.FfntIdeal.main_arg4) = m ((c.tc : Thread Cert.FfntIdeal.nD Cert.FfntIdeal.τ).loc Cert.FfntIdeal.main_arg4)
          ∧ r.2.mem ((c.tc : Thread Cert.FfntIdeal.nD Cert.FfntIdeal.τ).loc Cert.FfntIdeal.main_arg5) = m ((c.tc : Thread Cert.FfntIdeal.nD Cert.FfntIdeal.τ).loc Cert.FfntIdeal.main_arg5)
          ∧ r.2.mem ((c.tc : Thread Cert.FfntIdeal.nD Cert.FfntIdeal.τ).loc Cert.FfntIdeal.main_arg6) = m ((c.tc : Thread Cert.FfntIdeal.nD Cert.FfntIdeal.τ).loc Cert.FfntIdeal.main_arg6)
          ∧ r.2.mem ((c.tc : Thread Cert.FfntIdeal.nD Cert.FfntIdeal.τ).loc Cert.FfntIdeal.main_arg7) = m ((c.tc : Thread Cert.FfntIdeal.nD Cert.FfntIdeal.τ).loc Cert.FfntIdeal.main_arg7)
          ∧ r.2.mem ((c.tc : Thread Cert.FfntIdeal.nD Cert.FfntIdeal.τ).loc Cert.FfntIdeal.main_arg8) = m ((c.tc : Thread Cert.FfntIdeal.nD Cert.FfntIdeal.τ).loc Cert.FfntIdeal.main_arg8))
      ∧ θ_run (Cert.FfntRefIdeal.defs (F := Ideal)) (onTc (τ := Cert.FfntRefIdeal.τ) (Cert.FfntRefIdeal.main (F := Ideal))) ⟨m', fun _ => 0, g'⟩ (fun r => ∀ c : Dev Cert.FfntRefIdeal.nD,
          r.2.mem ((c.tc : Thread Cert.FfntRefIdeal.nD Cert.FfntRefIdeal.τ).loc Cert.FfntRefIdeal.main_v81) = v0 c
          ∧ r.2.mem ((c.tc : Thread Cert.FfntRefIdeal.nD Cert.FfntRefIdeal.τ).loc Cert.FfntRefIdeal.main_arg0) = m' ((c.tc : Thread Cert.FfntRefIdeal.nD Cert.FfntRefIdeal.τ).loc Cert.FfntRefIdeal.main_arg0)
          ∧ r.2.mem ((c.tc : Thread Cert.FfntRefIdeal.nD Cert.FfntRefIdeal.τ).loc Cert.FfntRefIdeal.main_arg1) = m' ((c.tc : Thread Cert.FfntRefIdeal.nD Cert.FfntRefIdeal.τ).loc Cert.FfntRefIdeal.main_arg1)
          ∧ r.2.mem ((c.tc : Thread Cert.FfntRefIdeal.nD Cert.FfntRefIdeal.τ).loc Cert.FfntRefIdeal.main_arg2) = m' ((c.tc : Thread Cert.FfntRefIdeal.nD Cert.FfntRefIdeal.τ).loc Cert.FfntRefIdeal.main_arg2)
          ∧ r.2.mem ((c.tc : Thread Cert.FfntRefIdeal.nD Cert.FfntRefIdeal.τ).loc Cert.FfntRefIdeal.main_arg3) = m' ((c.tc : Thread Cert.FfntRefIdeal.nD Cert.FfntRefIdeal.τ).loc Cert.FfntRefIdeal.main_arg3)
          ∧ r.2.mem ((c.tc : Thread Cert.FfntRefIdeal.nD Cert.FfntRefIdeal.τ).loc Cert.FfntRefIdeal.main_arg4) = m' ((c.tc : Thread Cert.FfntRefIdeal.nD Cert.FfntRefIdeal.τ).loc Cert.FfntRefIdeal.main_arg4)
          ∧ r.2.mem ((c.tc : Thread Cert.FfntRefIdeal.nD Cert.FfntRefIdeal.τ).loc Cert.FfntRefIdeal.main_arg5) = m' ((c.tc : Thread Cert.FfntRefIdeal.nD Cert.FfntRefIdeal.τ).loc Cert.FfntRefIdeal.main_arg5)
          ∧ r.2.mem ((c.tc : Thread Cert.FfntRefIdeal.nD Cert.FfntRefIdeal.τ).loc Cert.FfntRefIdeal.main_arg6) = m' ((c.tc : Thread Cert.FfntRefIdeal.nD Cert.FfntRefIdeal.τ).loc Cert.FfntRefIdeal.main_arg6)
          ∧ r.2.mem ((c.tc : Thread Cert.FfntRefIdeal.nD Cert.FfntRefIdeal.τ).loc Cert.FfntRefIdeal.main_arg7) = m' ((c.tc : Thread Cert.FfntRefIdeal.nD Cert.FfntRefIdeal.τ).loc Cert.FfntRefIdeal.main_arg7)
          ∧ r.2.mem ((c.tc : Thread Cert.FfntRefIdeal.nD Cert.FfntRefIdeal.τ).loc Cert.FfntRefIdeal.main_arg8) = m' ((c.tc : Thread Cert.FfntRefIdeal.nD Cert.FfntRefIdeal.τ).loc Cert.FfntRefIdeal.main_arg8))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v56) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)) →
    ∃ (v0 : (c : Dev Cert.InprojIdeal.nD) → Buf (Elt Ideal) ((c.tc : Thread Cert.InprojIdeal.nD Cert.InprojIdeal.τ).loc Cert.InprojIdeal.main_v4_0)) (v1 : (c : Dev Cert.InprojIdeal.nD) → Buf (Elt Ideal) ((c.tc : Thread Cert.InprojIdeal.nD Cert.InprojIdeal.τ).loc Cert.InprojIdeal.main_v4_1)) (v2 : (c : Dev Cert.InprojIdeal.nD) → Buf (Elt Ideal) ((c.tc : Thread Cert.InprojIdeal.nD Cert.InprojIdeal.τ).loc Cert.InprojIdeal.main_v4_2)) (v3 : (c : Dev Cert.InprojIdeal.nD) → Buf (Elt Ideal) ((c.tc : Thread Cert.InprojIdeal.nD Cert.InprojIdeal.τ).loc Cert.InprojIdeal.main_v4_3)) (v4 : (c : Dev Cert.InprojIdeal.nD) → Buf (Elt Ideal) ((c.tc : Thread Cert.InprojIdeal.nD Cert.InprojIdeal.τ).loc Cert.InprojIdeal.main_v4_4)) (v5 : (c : Dev Cert.InprojIdeal.nD) → Buf (Elt Ideal) ((c.tc : Thread Cert.InprojIdeal.nD Cert.InprojIdeal.τ).loc Cert.InprojIdeal.main_v4_5)) (v6 : (c : Dev Cert.InprojIdeal.nD) → Buf (Elt Ideal) ((c.tc : Thread Cert.InprojIdeal.nD Cert.InprojIdeal.τ).loc Cert.InprojIdeal.main_v4_6)) (v7 : (c : Dev Cert.InprojIdeal.nD) → Buf (Elt Ideal) ((c.tc : Thread Cert.InprojIdeal.nD Cert.InprojIdeal.τ).loc Cert.InprojIdeal.main_v4_7)) (v8 : (c : Dev Cert.InprojIdeal.nD) → Buf (Elt Ideal) ((c.tc : Thread Cert.InprojIdeal.nD Cert.InprojIdeal.τ).loc Cert.InprojIdeal.main_v4_8)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v4_0) = v0 c
          ∧ r.2.mem ((c.tc : Thread Cert.InprojIdeal.nD Cert.InprojIdeal.τ).loc Cert.InprojIdeal.main_v4_1) = v1 c
          ∧ r.2.mem ((c.tc : Thread Cert.InprojIdeal.nD Cert.InprojIdeal.τ).loc Cert.InprojIdeal.main_v4_2) = v2 c
          ∧ r.2.mem ((c.tc : Thread Cert.InprojIdeal.nD Cert.InprojIdeal.τ).loc Cert.InprojIdeal.main_v4_3) = v3 c
          ∧ r.2.mem ((c.tc : Thread Cert.InprojIdeal.nD Cert.InprojIdeal.τ).loc Cert.InprojIdeal.main_v4_4) = v4 c
          ∧ r.2.mem ((c.tc : Thread Cert.InprojIdeal.nD Cert.InprojIdeal.τ).loc Cert.InprojIdeal.main_v4_5) = v5 c
          ∧ r.2.mem ((c.tc : Thread Cert.InprojIdeal.nD Cert.InprojIdeal.τ).loc Cert.InprojIdeal.main_v4_6) = v6 c
          ∧ r.2.mem ((c.tc : Thread Cert.InprojIdeal.nD Cert.InprojIdeal.τ).loc Cert.InprojIdeal.main_v4_7) = v7 c
          ∧ r.2.mem ((c.tc : Thread Cert.InprojIdeal.nD Cert.InprojIdeal.τ).loc Cert.InprojIdeal.main_v4_8) = v8 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v93) = v0 c
          ∧ r.2.mem ((c.tc : Thread Cert.InprojRefIdeal.nD Cert.InprojRefIdeal.τ).loc Cert.InprojRefIdeal.main_v94) = v1 c
          ∧ r.2.mem ((c.tc : Thread Cert.InprojRefIdeal.nD Cert.InprojRefIdeal.τ).loc Cert.InprojRefIdeal.main_v95) = v2 c
          ∧ r.2.mem ((c.tc : Thread Cert.InprojRefIdeal.nD Cert.InprojRefIdeal.τ).loc Cert.InprojRefIdeal.main_v97) = v3 c
          ∧ r.2.mem ((c.tc : Thread Cert.InprojRefIdeal.nD Cert.InprojRefIdeal.τ).loc Cert.InprojRefIdeal.main_v98) = v4 c
          ∧ r.2.mem ((c.tc : Thread Cert.InprojRefIdeal.nD Cert.InprojRefIdeal.τ).loc Cert.InprojRefIdeal.main_v25) = v5 c
          ∧ r.2.mem ((c.tc : Thread Cert.InprojRefIdeal.nD Cert.InprojRefIdeal.τ).loc Cert.InprojRefIdeal.main_v99) = v6 c
          ∧ r.2.mem ((c.tc : Thread Cert.InprojRefIdeal.nD Cert.InprojRefIdeal.τ).loc Cert.InprojRefIdeal.main_v100) = v7 c
          ∧ r.2.mem ((c.tc : Thread Cert.InprojRefIdeal.nD Cert.InprojRefIdeal.τ).loc Cert.InprojRefIdeal.main_v107) = v8 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8))

def Claim : Prop :=
  ∃ (hSsd : Cert.Ssd.Facts) (hSsdIdeal : Cert.SsdIdeal.Facts) (hSsdRefIdeal : Cert.SsdRefIdeal.Facts) (hFfn : Cert.Ffn.Facts) (hFfnIdeal : Cert.FfnIdeal.Facts) (hFfnRefIdeal : Cert.FfnRefIdeal.Facts) (hFfnt : Cert.Ffnt.Facts) (hFfntIdeal : Cert.FfntIdeal.Facts) (hFfntRefIdeal : Cert.FfntRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts),
    quiescent_Ssd (hSsd := hSsd)
    ∧ quiescent_SsdIdeal (hSsdIdeal := hSsdIdeal)
    ∧ quiescent_SsdRefIdeal (hSsdRefIdeal := hSsdRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Ffnt (hFfnt := hFfnt)
    ∧ quiescent_FfntIdeal (hFfntIdeal := hFfntIdeal)
    ∧ quiescent_FfntRefIdeal (hFfntRefIdeal := hFfntRefIdeal)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ preserves_Ssd_SsdIdeal
    ∧ algebraic_SsdIdeal_SsdRefIdeal (hSsdIdeal := hSsdIdeal) (hSsdRefIdeal := hSsdRefIdeal)
    ∧ preserves_Ffn_FfnIdeal
    ∧ algebraic_FfnIdeal_FfnRefIdeal (hFfnIdeal := hFfnIdeal) (hFfnRefIdeal := hFfnRefIdeal)
    ∧ preserves_Ffnt_FfntIdeal
    ∧ algebraic_FfntIdeal_FfntRefIdeal (hFfntIdeal := hFfntIdeal) (hFfntRefIdeal := hFfntRefIdeal)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
-- ==== Ssd.lean ====
abbrev S4x8192x1536 : Shape := ⟨3, ![4, 8192, 1536]⟩
abbrev S4x8192x128 : Shape := ⟨3, ![4, 8192, 128]⟩
abbrev S4x8192x1024 : Shape := ⟨3, ![4, 8192, 1024]⟩
abbrev S16 : Shape := ⟨1, ![16]⟩
abbrev S1024 : Shape := ⟨1, ![1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x1024 : Shape := ⟨2, ![128, 1024]⟩
abbrev S1x128 : Shape := ⟨2, ![1, 128]⟩
abbrev S1 : Shape := ⟨1, ![1]⟩
abbrev S2 : Shape := ⟨1, ![2]⟩
abbrev S16x64 : Shape := ⟨2, ![16, 64]⟩
abbrev S1x512x1536 : Shape := ⟨3, ![1, 512, 1536]⟩
abbrev S1x512x128 : Shape := ⟨3, ![1, 512, 128]⟩
abbrev S1x512x1024 : Shape := ⟨3, ![1, 512, 1024]⟩
abbrev S128x128 : Shape := ⟨2, ![128, 128]⟩
abbrev S1x128x1024 : Shape := ⟨3, ![1, 128, 1024]⟩
abbrev S1x128x128 : Shape := ⟨3, ![1, 128, 128]⟩
abbrev S128x512 : Shape := ⟨2, ![128, 512]⟩
abbrev S1x512 : Shape := ⟨2, ![1, 512]⟩
abbrev S256x128 : Shape := ⟨2, ![256, 128]⟩
abbrev S128x256 : Shape := ⟨2, ![128, 256]⟩

abbrev nBuf : Space → Nat
  | .hbm => 54
  | .vmem => 15
  | .smem => 0
  | _ => 0

abbrev bufTy : (tb : Table) → Fin (tcTables nBuf tb) → BufTy
  | .hbm, ⟨0, _⟩ => ⟨S4x8192x1536, .bf16⟩
  | .hbm, ⟨1, _⟩ => ⟨S4x8192x128, .f32⟩
  | .hbm, ⟨2, _⟩ => ⟨S4x8192x1024, .bf16⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1024, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S128, .i32⟩
  | .hbm, ⟨27, _⟩ => ⟨S128x1, .i32⟩
  | .hbm, ⟨28, _⟩ => ⟨S1x1024, .i32⟩
  | .hbm, ⟨29, _⟩ => ⟨S128x1024, .i32⟩
  | .hbm, ⟨30, _⟩ => ⟨S128x1024, .i32⟩
  | .hbm, ⟨31, _⟩ => ⟨S128x1024, .i1⟩
  | .hbm, ⟨32, _⟩ => ⟨S128x1024, .bf16⟩
  | .hbm, ⟨33, _⟩ => ⟨S_, .f32⟩
  | .hbm, ⟨34, _⟩ => ⟨S1x128, .f32⟩
  | .hbm, ⟨35, _⟩ => ⟨S_, .i32⟩
  | .hbm, ⟨36, _⟩ => ⟨S1, .i32⟩
  | .hbm, ⟨37, _⟩ => ⟨S_, .i32⟩
  | .hbm, ⟨38, _⟩ => ⟨S1, .i32⟩
  | .hbm, ⟨39, _⟩ => ⟨S2, .i32⟩
  | .hbm, ⟨40, _⟩ => ⟨S1x128, .f32⟩
  | .hbm, ⟨41, _⟩ => ⟨S_, .f32⟩
  | .hbm, ⟨42, _⟩ => ⟨S1x128, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S1x128, .f32⟩
  | .hbm, ⟨49, _⟩ => ⟨S16x64, .f32⟩
  | .hbm, ⟨50, _⟩ => ⟨S1024, .f32⟩
  | .hbm, ⟨51, _⟩ => ⟨S1x1024, .f32⟩
  | .hbm, ⟨52, _⟩ => ⟨S1x1024, .f32⟩
  | .hbm, ⟨53, _⟩ => ⟨S4x8192x1024, .bf16⟩
  | .local _ .vmem, ⟨0, _⟩ => ⟨S1x512x1536, .bf16⟩
  | .local _ .vmem, ⟨1, _⟩ => ⟨S1x512x1536, .bf16⟩
  | .local _ .vmem, ⟨2, _⟩ => ⟨S1x512x128, .f32⟩
  | .local _ .vmem, ⟨3, _⟩ => ⟨S1x512x128, .f32⟩
  | .local _ .vmem, ⟨4, _⟩ => ⟨S1x512x1024, .bf16⟩
  | .local _ .vmem, ⟨5, _⟩ => ⟨S1x512x1024, .bf16⟩
  | .local _ .vmem, ⟨6, _⟩ => ⟨S1x128, .f32⟩
  | .local _ .vmem, ⟨7, _⟩ => ⟨S1x128, .f32⟩
  | .local _ .vmem, ⟨8, _⟩ => ⟨S1x1024, .f32⟩
  | .local _ .vmem, ⟨9, _⟩ => ⟨S1x1024, .f32⟩
  | .local _ .vmem, ⟨10, _⟩ => ⟨S128x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S128x1024, .f32⟩
  | .local _ .vmem, ⟨14, _⟩ => ⟨S128x1024, .f32⟩
  | _, _ => ⟨S4x8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_c_0 : Ref sig .tc := ⟨.hbm, 35, rfl⟩
abbrev main_v10 : Ref sig .tc := ⟨.hbm, 36, rfl⟩
abbrev main_c_1 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_2 : Ref sig .tc := ⟨.hbm, 41, rfl⟩
abbrev main_v14 : Ref sig .tc := ⟨.hbm, 42, rfl⟩
abbrev main_c_3 : Ref sig .tc := ⟨.hbm, 43, rfl⟩
abbrev main_v15 : Ref sig .tc := ⟨.hbm, 44, rfl⟩
abbrev main_c_4 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 16], ![false, false]⟩

def k0_mult1 : BitVec 32 :=
  let c0_i32_6 : BitVec 32 := 0#32
  let c128_i32 : BitVec 32 := 128#32
  let v20 : BitVec 32 := Scalar.muli c0_i32_6 c128_i32
  v20
def k0_off1 (c0_i32_6 : BitVec 32) : Fin 3 → Nat :=
  let c0_7 : Index := 0#32
  let c128_i32 : BitVec 32 := 128#32
  let v20 : BitVec 32 := Scalar.muli c0_i32_6 c128_i32
  let v21 : BitVec 32 := v20
  let v22 : Index := Scalar.indexCast v21
  let c0_8 : Index := 0#32
  ![0, v22.toNat, 0]
def k0_off2 (c0_i32_6 : BitVec 32) : Fin 3 → Nat :=
  let c0_9 : Index := 0#32
  let c128_i32 : BitVec 32 := 128#32
  let v20 : BitVec 32 := Scalar.muli c0_i32_6 c128_i32
  let v21 : BitVec 32 := v20
  let v26 : Index := Scalar.indexCast v21
  let c0_10 : Index := 0#32
  ![0, v26.toNat, 0]
def k0_off3 (c0_i32_6 : BitVec 32) : Fin 3 → Nat :=
  let c0_21 : Index := 0#32
  let c128_i32 : BitVec 32 := 128#32
  let v20 : BitVec 32 := Scalar.muli c0_i32_6 c128_i32
  let v21 : BitVec 32 := v20
  let v75 : Index := Scalar.indexCast v21
  let c1024 : Index := 1024#32
  ![0, v75.toNat, 1024]
def k0_off4 (c0_i32_6 : BitVec 32) : Fin 3 → Nat :=
  let c0_22 : Index := 0#32
  let c128_i32 : BitVec 32 := 128#32
  let v20 : BitVec 32 := Scalar.muli c0_i32_6 c128_i32
  let v21 : BitVec 32 := v20
  let v78 : Index := Scalar.indexCast v21
  let c1280 : Index := 1280#32
  ![0, v78.toNat, 1280]
def k0_off5 (c0_i32_6 : BitVec 32) : Fin 3 → Nat :=
  let c0_65 : Index := 0#32
  let c128_i32 : BitVec 32 := 128#32
  let v20 : BitVec 32 := Scalar.muli c0_i32_6 c128_i32
  let v21 : BitVec 32 := v20
  let v263 : Index := Scalar.indexCast v21
  let c1152 : Index := 1152#32
  ![0, v263.toNat, 1152]
def k0_off6 (c0_i32_6 : BitVec 32) : Fin 3 → Nat :=
  let c0_66 : Index := 0#32
  let c128_i32 : BitVec 32 := 128#32
  let v20 : BitVec 32 := Scalar.muli c0_i32_6 c128_i32
  let v21 : BitVec 32 := v20
  let v266 : Index := Scalar.indexCast v21
  let c1408 : Index := 1408#32
  ![0, v266.toNat, 1408]
def k0_off7 (c0_i32_6 : BitVec 32) : Fin 3 → Nat :=
  let c0_112 : Index := 0#32
  let c128_i32 : BitVec 32 := 128#32
  let v20 : BitVec 32 := Scalar.muli c0_i32_6 c128_i32
  let v21 : BitVec 32 := v20
  let v457 : Index := Scalar.indexCast v21
  let c0_113 : Index := 0#32
  ![0, v457.toNat, 0]
def k0_mult2 : BitVec 32 :=
  let c1_i32 : BitVec 32 := 1#32
  let c128_i32_121 : BitVec 32 := 128#32
  let v481 : BitVec 32 := Scalar.muli c1_i32 c128_i32_121
  v481
def k0_mult3 : BitVec 32 :=
  let c2_i32 : BitVec 32 := 2#32
  let c128_i32_247 : BitVec 32 := 128#32
  let v942 : BitVec 32 := Scalar.muli c2_i32 c128_i32_247
  v942
def k0_mult4 : BitVec 32 :=
  let c3_i32 : BitVec 32 := 3#32
  let c128_i32_373 : BitVec 32 := 128#32
  let v1403 : BitVec 32 := Scalar.muli c3_i32 c128_i32_373
  v1403
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== SsdRefIdeal.lean ====
abbrev S4x8192x1536 : Shape := ⟨3, ![4, 8192, 1536]⟩
abbrev S4x8192x128 : Shape := ⟨3, ![4, 8192, 128]⟩
abbrev S4x8192x1024 : Shape := ⟨3, ![4, 8192, 1024]⟩
abbrev S16 : Shape := ⟨1, ![16]⟩
abbrev S1024 : Shape := ⟨1, ![1024]⟩
abbrev S4x8192x256 : Shape := ⟨3, ![4, 8192, 256]⟩
abbrev S4x8192x16 : Shape := ⟨3, ![4, 8192, 16]⟩
abbrev S1x1x16 : Shape := ⟨3, ![1, 1, 16]⟩
abbrev S_ : Shape := ⟨0, ![]⟩
abbrev S4x64x128x2x8x64 : Shape := ⟨6, ![4, 64, 128, 2, 8, 64]⟩
abbrev S4x64x128x2x8 : Shape := ⟨5, ![4, 64, 128, 2, 8]⟩
abbrev S4x64x128x2x128 : Shape := ⟨5, ![4, 64, 128, 2, 128]⟩
abbrev S2x8 : Shape := ⟨2, ![2, 8]⟩
abbrev S1x1x1x2x8 : Shape := ⟨5, ![1, 1, 1, 2, 8]⟩
abbrev S4x64x1x2x8 : Shape := ⟨5, ![4, 64, 1, 2, 8]⟩
abbrev S4x64x128x2x8x1 : Shape := ⟨6, ![4, 64, 128, 2, 8, 1]⟩
abbrev S4x64x2x8x64x128 : Shape := ⟨6, ![4, 64, 2, 8, 64, 128]⟩
abbrev S4x64x2x8 : Shape := ⟨4, ![4, 64, 2, 8]⟩
abbrev S4x2x8x64x128 : Shape := ⟨5, ![4, 2, 8, 64, 128]⟩
abbrev S64x4x2x8x64x128 : Shape := ⟨6, ![64, 4, 2, 8, 64, 128]⟩
abbrev S64x4x2x8 : Shape := ⟨4, ![64, 4, 2, 8]⟩
abbrev S1x4x2x8x64x128 : Shape := ⟨6, ![1, 4, 2, 8, 64, 128]⟩
abbrev S1x4x2x8 : Shape := ⟨4, ![1, 4, 2, 8]⟩
abbrev S4x2x8 : Shape := ⟨3, ![4, 2, 8]⟩
abbrev S4x2x8x1x1 : Shape := ⟨5, ![4, 2, 8, 1, 1]⟩
abbrev S128x128 : Shape := ⟨2, ![128, 128]⟩
abbrev S128x128x1x1 : Shape := ⟨4, ![128, 128, 1, 1]⟩
abbrev S4x64x128x1x2x8 : Shape := ⟨6, ![4, 64, 128, 1, 2, 8]⟩
abbrev S4x64x1x128x2x8 : Shape := ⟨6, ![4, 64, 1, 128, 2, 8]⟩
abbrev S4x64x128x128x2x8 : Shape := ⟨6, ![4, 64, 128, 128, 2, 8]⟩
abbrev S4x64x2x128x128 : Shape := ⟨5, ![4, 64, 2, 128, 128]⟩
abbrev S4x64x128x128x2 : Shape := ⟨5, ![4, 64, 128, 128, 2]⟩
abbrev S4x64x128x128x2x1 : Shape := ⟨6, ![4, 64, 128, 128, 2, 1]⟩
abbrev S4x8192x16x64 : Shape := ⟨4, ![4, 8192, 16, 64]⟩
abbrev S16x1 : Shape := ⟨2, ![16, 1]⟩
abbrev S1x1x16x1 : Shape := ⟨4, ![1, 1, 16, 1]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 196
  | .vmem => 0
  | .smem => 0
  | _ => 0

abbrev hbmTy0_0 (i : Nat) : BufTy := match i % 128 with
  | 0 => ⟨S4x8192x1536, .bf16⟩
  | 1 => ⟨S4x8192x128, .f32⟩
  | 2 => ⟨S4x8192x1024, .bf16⟩
  | 3 => ⟨S16, .f32⟩
  | 4 => ⟨S16, .f32⟩
  | 5 => ⟨S16, .f32⟩
  | 6 => ⟨S1024, .f32⟩
  | 7 => ⟨S4x8192x1536, .f32⟩
  | 8 => ⟨S4x8192x1024, .f32⟩
  | 9 => ⟨S4x8192x256, .f32⟩
  | 10 => ⟨S4x8192x256, .f32⟩
  | 11 => ⟨S4x8192x16, .f32⟩
  | 12 => ⟨S1x1x16, .f32⟩
  | 13 => ⟨S4x8192x16, .f32⟩
  | 14 => ⟨S4x8192x16, .f32⟩
  | 15 => ⟨S_, .f32⟩
  | 16 => ⟨S4x8192x16, .f32⟩
  | 17 => ⟨S4x8192x16, .f32⟩
  | 18 => ⟨S4x8192x16, .f32⟩
  | 19 => ⟨S4x8192x16, .f32⟩
  | 20 => ⟨S4x8192x16, .i1⟩
  | 21 => ⟨S4x8192x16, .f32⟩
  | 22 => ⟨S4x8192x16, .f32⟩
  | 23 => ⟨S4x8192x16, .f32⟩
  | 24 => ⟨S4x8192x16, .f32⟩
  | 25 => ⟨S4x8192x16, .f32⟩
  | 26 => ⟨S4x8192x16, .f32⟩
  | 27 => ⟨S4x8192x16, .f32⟩
  | 28 => ⟨S4x8192x16, .f32⟩
  | 29 => ⟨S16, .f32⟩
  | 30 => ⟨S16, .f32⟩
  | 31 => ⟨S4x64x128x2x8x64, .f32⟩
  | 32 => ⟨S4x64x128x2x8, .f32⟩
  | 33 => ⟨S4x64x128x2x128, .f32⟩
  | 34 => ⟨S4x64x128x2x128, .f32⟩
  | 35 => ⟨S2x8, .f32⟩
  | 36 => ⟨S1x1x1x2x8, .f32⟩
  | 37 => ⟨S4x64x128x2x8, .f32⟩
  | 38 => ⟨S4x64x128x2x8, .f32⟩
  | 39 => ⟨S_, .f32⟩
  | 40 => ⟨S_, .f32⟩
  | 41 => ⟨S4x64x128x2x8, .f32⟩
  | 42 => ⟨S4x64x1x2x8, .f32⟩
  | 43 => ⟨S4x64x128x2x8, .f32⟩
  | 44 => ⟨S4x64x128x2x8, .f32⟩
  | 45 => ⟨S4x64x128x2x8, .f32⟩
  | 46 => ⟨S4x64x128x2x8, .f32⟩
  | 47 => ⟨S4x64x128x2x8x1, .f32⟩
  | 48 => ⟨S4x64x128x2x8x64, .f32⟩
  | 49 => ⟨S4x64x128x2x8x64, .f32⟩
  | 50 => ⟨S4x64x2x8x64x128, .f32⟩
  | 51 => ⟨S4x64x1x2x8, .f32⟩
  | 52 => ⟨S4x64x2x8, .f32⟩
  | 53 => ⟨S4x64x2x8, .f32⟩
  | 54 => ⟨S_, .f32⟩
  | 55 => ⟨S4x2x8x64x128, .f32⟩
  | 56 => ⟨S64x4x2x8x64x128, .f32⟩
  | 57 => ⟨S64x4x2x8, .f32⟩
  | 58 => ⟨S_, .f32⟩
  | 59 => ⟨S64x4x2x8x64x128, .f32⟩
  | 60 => ⟨S_, .i32⟩
  | 61 => ⟨S64x4x2x8x64x128, .f32⟩
  | 62 => ⟨S64x4x2x8, .f32⟩
  | 63 => ⟨S_, .i32⟩
  | 64 => ⟨S4x2x8x64x128, .f32⟩
  | 65 => ⟨S64x4x2x8x64x128, .f32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S1x4x2x8x64x128, .f32⟩
  | 74 => ⟨S4x2x8x64x128, .f32⟩
  | 75 => ⟨S_, .i32⟩
  | 76 => ⟨S_, .i32⟩
  | 77 => ⟨S_, .i32⟩
  | 78 => ⟨S1x4x2x8, .f32⟩
  | 79 => ⟨S4x2x8, .f32⟩
  | 80 => ⟨S4x2x8x1x1, .f32⟩
  | 81 => ⟨S4x2x8x64x128, .f32⟩
  | 82 => ⟨S4x2x8x64x128, .f32⟩
  | 83 => ⟨S4x2x8x64x128, .f32⟩
  | 84 => ⟨S1x4x2x8x64x128, .f32⟩
  | 85 => ⟨S_, .i32⟩
  | 86 => ⟨S_, .i32⟩
  | 87 => ⟨S_, .i32⟩
  | 88 => ⟨S_, .i32⟩
  | 89 => ⟨S_, .i32⟩
  | 90 => ⟨S64x4x2x8x64x128, .f32⟩
  | 91 => ⟨S_, .i32⟩
  | 92 => ⟨S_, .i32⟩
  | 93 => ⟨S4x64x2x8x64x128, .f32⟩
  | 94 => ⟨S4x8192x1536, .f32⟩
  | 95 => ⟨S4x8192x1024, .f32⟩
  | 96 => ⟨S4x8192x256, .f32⟩
  | 97 => ⟨S4x8192x256, .f32⟩
  | 98 => ⟨S4x8192x16, .f32⟩
  | 99 => ⟨S1x1x16, .f32⟩
  | 100 => ⟨S4x8192x16, .f32⟩
  | 101 => ⟨S4x8192x16, .f32⟩
  | 102 => ⟨S_, .f32⟩
  | 103 => ⟨S4x8192x16, .f32⟩
  | 104 => ⟨S4x8192x16, .f32⟩
  | 105 => ⟨S4x8192x16, .f32⟩
  | 106 => ⟨S4x8192x16, .f32⟩
  | 107 => ⟨S4x8192x16, .i1⟩
  | 108 => ⟨S4x8192x16, .f32⟩
  | 109 => ⟨S4x8192x16, .f32⟩
  | 110 => ⟨S4x8192x16, .f32⟩
  | 111 => ⟨S4x8192x16, .f32⟩
  | 112 => ⟨S4x8192x16, .f32⟩
  | 113 => ⟨S4x8192x16, .f32⟩
  | 114 => ⟨S4x8192x16, .f32⟩
  | 115 => ⟨S4x8192x16, .f32⟩
  | 116 => ⟨S16, .f32⟩
  | 117 => ⟨S16, .f32⟩
  | 118 => ⟨S4x64x128x2x8x64, .f32⟩
  | 119 => ⟨S4x64x128x2x8, .f32⟩
  | 120 => ⟨S4x64x128x2x128, .f32⟩
  | 121 => ⟨S4x64x128x2x128, .f32⟩
  | 122 => ⟨S2x8, .f32⟩
  | 123 => ⟨S1x1x1x2x8, .f32⟩
  | 124 => ⟨S4x64x128x2x8, .f32⟩
  | 125 => ⟨S4x64x128x2x8, .f32⟩
  | 126 => ⟨S_, .f32⟩
  | 127 => ⟨S_, .f32⟩
  | _ => ⟨S4x8192x1536, .bf16⟩

abbrev hbmTy0_1 (i : Nat) : BufTy := match i % 128 with
  | 0 => ⟨S4x64x128x2x8, .f32⟩
  | 1 => ⟨S_, .i1⟩
  | 2 => ⟨S128x128, .i1⟩
  | 3 => ⟨S128x128, .i32⟩
  | 4 => ⟨S_, .i32⟩
  | 5 => ⟨S128x128, .i32⟩
  | 6 => ⟨S128x128, .i32⟩
  | 7 => ⟨S128x128, .i32⟩
  | 8 => ⟨S128x128, .i1⟩
  | 9 => ⟨S_, .i1⟩
  | 10 => ⟨S128x128, .i1⟩
  | 11 => ⟨S128x128, .i1⟩
  | 12 => ⟨S128x128x1x1, .i1⟩
  | 13 => ⟨S4x64x128x1x2x8, .f32⟩
  | 14 => ⟨S4x64x1x128x2x8, .f32⟩
  | 15 => ⟨S4x64x128x128x2x8, .f32⟩
  | 16 => ⟨S4x64x128x128x2x8, .f32⟩
  | 17 => ⟨S4x64x128x128x2x8, .f32⟩
  | 18 => ⟨S_, .f32⟩
  | 19 => ⟨S_, .f32⟩
  | 20 => ⟨S4x64x128x128x2x8, .i1⟩
  | 21 => ⟨S4x64x128x128x2x8, .f32⟩
  | 22 => ⟨S4x64x128x128x2x8, .f32⟩
  | 23 => ⟨S4x64x128x128x2x8, .f32⟩
  | 24 => ⟨S4x64x2x128x128, .f32⟩
  | 25 => ⟨S4x64x128x128x2, .f32⟩
  | 26 => ⟨S4x64x128x128x2x1, .f32⟩
  | 27 => ⟨S4x64x128x128x2x8, .f32⟩
  | 28 => ⟨S4x64x128x128x2x8, .f32⟩
  | 29 => ⟨S4x64x1x128x2x8, .f32⟩
  | 30 => ⟨S4x64x128x128x2x8, .f32⟩
  | 31 => ⟨S4x64x128x128x2x8, .f32⟩
  | 32 => ⟨S4x64x2x8x64x128, .f32⟩
  | 33 => ⟨S4x64x128x2x8x64, .f32⟩
  | 34 => ⟨S4x64x2x8x64x128, .f32⟩
  | 35 => ⟨S4x64x128x2x8x64, .f32⟩
  | 36 => ⟨S4x64x128x2x8, .f32⟩
  | 37 => ⟨S4x64x128x2x8x1, .f32⟩
  | 38 => ⟨S4x64x128x2x8x64, .f32⟩
  | 39 => ⟨S4x64x128x2x8x64, .f32⟩
  | 40 => ⟨S4x64x128x2x8x64, .f32⟩
  | 41 => ⟨S4x8192x16x64, .f32⟩
  | 42 => ⟨S16x1, .f32⟩
  | 43 => ⟨S4x8192x16x64, .f32⟩
  | 44 => ⟨S1x1x16x1, .f32⟩
  | 45 => ⟨S4x8192x16x64, .f32⟩
  | 46 => ⟨S4x8192x16x64, .f32⟩
  | 47 => ⟨S4x8192x16x64, .f32⟩
  | 48 => ⟨S4x8192x1024, .f32⟩
  | 49 => ⟨S4x8192x1024, .f32⟩
  | 50 => ⟨S4x8192x1024, .f32⟩
  | 51 => ⟨S4x8192x1024, .f32⟩
  | 52 => ⟨S_, .f32⟩
  | 53 => ⟨S4x8192, .f32⟩
  | 54 => ⟨S4x8192x1, .f32⟩
  | 55 => ⟨S_, .f32⟩
  | 56 => ⟨S4x8192x1, .f32⟩
  | 57 => ⟨S4x8192x1, .f32⟩
  | 58 => ⟨S_, .f32⟩
  | 59 => ⟨S4x8192x1, .f32⟩
  | 60 => ⟨S4x8192x1, .f32⟩
  | 61 => ⟨S4x8192x1, .f32⟩
  | 62 => ⟨S4x8192x1024, .f32⟩
  | 63 => ⟨S4x8192x1024, .f32⟩
  | 64 => ⟨S1x1x1024, .f32⟩
  | 65 => ⟨S4x8192x1024, .f32⟩
  | 66 => ⟨S4x8192x1024, .f32⟩
  | 67 => ⟨S4x8192x1024, .bf16⟩
  | _ => ⟨S4x8192x1536, .bf16⟩

abbrev hbmTy (i : Nat) : BufTy := match i / 128 with
  | 0 => hbmTy0_0 i
  | 1 => hbmTy0_1 i
  | _ => ⟨S4x8192x1536, .bf16⟩

abbrev bufTy : (tb : Table) → Fin (tcTables nBuf tb) → BufTy
  | .hbm, ⟨i, _⟩ => hbmTy i
  | _, _ => ⟨S4x8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call1_call0_cst : Ref sig .tc := ⟨.hbm, 39, rfl⟩
abbrev main_call1_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_0 : Ref sig .tc := ⟨.hbm, 58, rfl⟩
abbrev main_v35 : Ref sig .tc := ⟨.hbm, 59, rfl⟩
abbrev main_c : Ref sig .tc := ⟨.hbm, 60, rfl⟩
abbrev main_v36_0 : Ref sig .tc := ⟨.hbm, 61, rfl⟩
abbrev main_v36_1 : Ref sig .tc := ⟨.hbm, 62, rfl⟩
abbrev main_v36_2 : Ref sig .tc := ⟨.hbm, 63, rfl⟩
abbrev main_v36_3 : Ref sig .tc := ⟨.hbm, 64, rfl⟩
abbrev main_v36_4 : Ref sig .tc := ⟨.hbm, 65, rfl⟩
abbrev main_while0c_c_10 : Ref sig .tc := ⟨.hbm, 66, rfl⟩
abbrev main_while0c_v109 : Ref sig .tc := ⟨.hbm, 67, rfl⟩
abbrev main_while0b_call2_c : Ref sig .tc := ⟨.hbm, 68, rfl⟩
abbrev main_while0b_call2_c_0 : Ref sig .tc := ⟨.hbm, 69, rfl⟩
abbrev main_while0b_call2_c_1 : Ref sig .tc := ⟨.hbm, 70, rfl⟩
abbrev main_while0b_call2_c_2 : Ref sig .tc := ⟨.hbm, 71, rfl⟩
abbrev main_while0b_call2_c_3 : Ref sig .tc := ⟨.hbm, 72, rfl⟩
abbrev main_while0b_call2_v0 : Ref sig .tc := ⟨.hbm, 73, rfl⟩
abbrev main_while0b_v109 : Ref sig .tc := ⟨.hbm, 74, rfl⟩
abbrev main_while0b_call3_c : Ref sig .tc := ⟨.hbm, 75, rfl⟩
abbrev main_while0b_call3_c_0 : Ref sig .tc := ⟨.hbm, 76, rfl⟩
abbrev main_while0b_call3_c_1 : Ref sig .tc := ⟨.hbm, 77, rfl⟩
abbrev main_while0b_call3_v0 : Ref sig .tc := ⟨.hbm, 78, rfl⟩
abbrev main_while0b_v110 : Ref sig .tc := ⟨.hbm, 79, rfl⟩
abbrev main_while0b_v111 : Ref sig .tc := ⟨.hbm, 80, rfl⟩
abbrev main_while0b_v112 : Ref sig .tc := ⟨.hbm, 81, rfl⟩
abbrev main_while0b_v113 : Ref sig .tc := ⟨.hbm, 82, rfl⟩
abbrev main_while0b_v114 : Ref sig .tc := ⟨.hbm, 83, rfl⟩
abbrev main_while0b_call4_v0 : Ref sig .tc := ⟨.hbm, 84, rfl⟩
abbrev main_while0b_call4_c : Ref sig .tc := ⟨.hbm, 85, rfl⟩
abbrev main_while0b_call4_c_0 : Ref sig .tc := ⟨.hbm, 86, rfl⟩
abbrev main_while0b_call4_c_1 : Ref sig .tc := ⟨.hbm, 87, rfl⟩
abbrev main_while0b_call4_c_2 : Ref sig .tc := ⟨.hbm, 88, rfl⟩
abbrev main_while0b_call4_c_3 : Ref sig .tc := ⟨.hbm, 89, rfl⟩
abbrev main_while0b_v115 : Ref sig .tc := ⟨.hbm, 90, rfl⟩
abbrev main_while0b_c_10 : Ref sig .tc := ⟨.hbm, 91, rfl⟩
abbrev main_while0b_v116 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_call5_cst : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_call5_v5 : Ref sig .tc := ⟨.hbm, 108, rfl⟩
abbrev main_call5_v6 : Ref sig .tc := ⟨.hbm, 109, rfl⟩
abbrev main_call5_v7 : Ref sig .tc := ⟨.hbm, 110, rfl⟩
abbrev main_call5_v8 : Ref sig .tc := ⟨.hbm, 111, rfl⟩
abbrev main_call5_v9 : Ref sig .tc := ⟨.hbm, 112, rfl⟩
abbrev main_call5_v10 : Ref sig .tc := ⟨.hbm, 113, rfl⟩
abbrev main_call5_v11 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev main_call6_call0_cst : Ref sig .tc := ⟨.hbm, 126, rfl⟩
abbrev main_call6_call0_v0 : Ref sig .tc := ⟨.hbm, 127, rfl⟩
abbrev main_v57 : Ref sig .tc := ⟨.hbm, 128, rfl⟩
abbrev main_c_1 : Ref sig .tc := ⟨.hbm, 129, rfl⟩
abbrev main_v58 : Ref sig .tc := ⟨.hbm, 130, rfl⟩
abbrev main_call7_v0 : Ref sig .tc := ⟨.hbm, 131, rfl⟩
abbrev main_call7_c : Ref sig .tc := ⟨.hbm, 132, rfl⟩
abbrev main_call7_v1 : Ref sig .tc := ⟨.hbm, 133, rfl⟩
abbrev main_call7_v2 : Ref sig .tc := ⟨.hbm, 134, rfl⟩
abbrev main_call7_v3 : Ref sig .tc := ⟨.hbm, 135, rfl⟩
abbrev main_call7_v4 : Ref sig .tc := ⟨.hbm, 136, rfl⟩
abbrev main_call7_c_0 : Ref sig .tc := ⟨.hbm, 137, rfl⟩
abbrev main_call7_v5 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_cst_2 : Ref sig .tc := ⟨.hbm, 146, rfl⟩
abbrev main_call8_v0 : Ref sig .tc := ⟨.hbm, 147, rfl⟩
abbrev main_call8_v1 : Ref sig .tc := ⟨.hbm, 148, rfl⟩
abbrev main_call8_v2 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_v95 : Ref sig .tc := ⟨.hbm, 179, rfl⟩
abbrev main_cst_3 : Ref sig .tc := ⟨.hbm, 180, rfl⟩
abbrev main_v96 : Ref sig .tc := ⟨.hbm, 181, rfl⟩
abbrev main_v97 : Ref sig .tc := ⟨.hbm, 182, rfl⟩
abbrev main_cst_4 : Ref sig .tc := ⟨.hbm, 183, rfl⟩
abbrev main_v98 : Ref sig .tc := ⟨.hbm, 184, rfl⟩
abbrev main_v99 : Ref sig .tc := ⟨.hbm, 185, rfl⟩
abbrev main_cst_5 : Ref sig .tc := ⟨.hbm, 186, rfl⟩
abbrev main_v100 : Ref sig .tc := ⟨.hbm, 187, rfl⟩
abbrev main_v101 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩

abbrev nD : Nat := 1
abbrev τ : Topo := Topo.v7x

variable {F : FTy → Type} [FloatOps F]

abbrev main_while0_count : Scf.Loop 32 := ⟨0#32, 64#32, 1#32⟩
-- ==== Ffn.lean ====
abbrev S32768x1024 : Shape := ⟨2, ![32768, 1024]⟩
abbrev S1024 : Shape := ⟨1, ![1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 8
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x1024x5632, .bf16⟩
  | .hbm, ⟨3, _⟩ => ⟨S2x2816x1024, .bf16⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S32768x1024 : Shape := ⟨2, ![32768, 1024]⟩
abbrev S1024 : Shape := ⟨1, ![1024]⟩
abbrev S2x1024x5632 : Shape := ⟨3, ![2, 1024, 5632]⟩
abbrev S2x2816x1024 : Shape := ⟨3, ![2, 2816, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x1024x5632, .bf16⟩
  | .hbm, ⟨3, _⟩ => ⟨S2x2816x1024, .bf16⟩
  | .hbm, ⟨4, _⟩ => ⟨S1024, .f32⟩
  | .hbm, ⟨5, _⟩ => ⟨S1x1024x5632, .bf16⟩
  | .hbm, ⟨6, _⟩ => ⟨S1024x5632, .bf16⟩
  | .hbm, ⟨7, _⟩ => ⟨S1x2816x1024, .bf16⟩
  | .hbm, ⟨8, _⟩ => ⟨S2816x1024, .bf16⟩
  | .hbm, ⟨9, _⟩ => ⟨S32768x1024, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S1x1024, .f32⟩
  | .hbm, ⟨23, _⟩ => ⟨S32768x1024, .f32⟩
  | .hbm, ⟨24, _⟩ => ⟨S32768x1024, .f32⟩
  | .hbm, ⟨25, _⟩ => ⟨S1024x5632, .f32⟩
  | .hbm, ⟨26, _⟩ => ⟨S32768x5632, .f32⟩
  | .hbm, ⟨27, _⟩ => ⟨S32768x2816, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S_, .f32⟩
  | .hbm, ⟨32, _⟩ => ⟨S32768x2816, .f32⟩
  | .hbm, ⟨33, _⟩ => ⟨S32768x2816, .f32⟩
  | .hbm, ⟨34, _⟩ => ⟨S_, .f32⟩
  | .hbm, ⟨35, _⟩ => ⟨S32768x2816, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S2816x1024, .f32⟩
  | .hbm, ⟨40, _⟩ => ⟨S32768x1024, .f32⟩
  | .hbm, ⟨41, _⟩ => ⟨S32768x1024, .f32⟩
  | .hbm, ⟨42, _⟩ => ⟨S_, .f32⟩
  | .hbm, ⟨43, _⟩ => ⟨S32768, .f32⟩
  | .hbm, ⟨44, _⟩ => ⟨S32768x1, .f32⟩
  | .hbm, ⟨45, _⟩ => ⟨S_, .f32⟩
  | .hbm, ⟨46, _⟩ => ⟨S32768x1, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S32768x1, .f32⟩
  | .hbm, ⟨52, _⟩ => ⟨S32768x1024, .f32⟩
  | .hbm, ⟨53, _⟩ => ⟨S32768x1024, .f32⟩
  | .hbm, ⟨54, _⟩ => ⟨S1x1024, .f32⟩
  | .hbm, ⟨55, _⟩ => ⟨S32768x1024, .f32⟩
  | .hbm, ⟨56, _⟩ => ⟨S32768x1024, .f32⟩
  | .hbm, ⟨57, _⟩ => ⟨S_, .f32⟩
  | .hbm, ⟨58, _⟩ => ⟨S32768x1024, .f32⟩
  | .hbm, ⟨59, _⟩ => ⟨S32768x1024, .f32⟩
  | .hbm, ⟨60, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Ffnt.lean ====
abbrev S32768x1024 : Shape := ⟨2, ![32768, 1024]⟩
abbrev S1024 : Shape := ⟨1, ![1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S512x1024 : Shape := ⟨2, ![512, 1024]⟩
abbrev S1x1024x5632 : Shape := ⟨3, ![1, 1024, 5632]⟩
abbrev S1x2816x1024 : Shape := ⟨3, ![1, 2816, 1024]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 14
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x1024x5632, .bf16⟩
  | .hbm, ⟨3, _⟩ => ⟨S2x2816x1024, .bf16⟩
  | .hbm, ⟨4, _⟩ => ⟨S1024, .f32⟩
  | .hbm, ⟨5, _⟩ => ⟨S1024, .f32⟩
  | .hbm, ⟨6, _⟩ => ⟨S2x1024x5632, .bf16⟩
  | .hbm, ⟨7, _⟩ => ⟨S2x2816x1024, .bf16⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x5632, .bf16⟩
  | .local _ .vmem, ⟨8, _⟩ => ⟨S1x2816x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfntRefIdeal.lean ====
abbrev S32768x1024 : Shape := ⟨2, ![32768, 1024]⟩
abbrev S1024 : Shape := ⟨1, ![1024]⟩
abbrev S2x1024x5632 : Shape := ⟨3, ![2, 1024, 5632]⟩
abbrev S2x2816x1024 : Shape := ⟨3, ![2, 2816, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 121
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x1024x5632, .bf16⟩
  | .hbm, ⟨3, _⟩ => ⟨S2x2816x1024, .bf16⟩
  | .hbm, ⟨4, _⟩ => ⟨S1024, .f32⟩
  | .hbm, ⟨5, _⟩ => ⟨S1024, .f32⟩
  | .hbm, ⟨6, _⟩ => ⟨S2x1024x5632, .bf16⟩
  | .hbm, ⟨7, _⟩ => ⟨S2x2816x1024, .bf16⟩
  | .hbm, ⟨8, _⟩ => ⟨S1024, .f32⟩
  | .hbm, ⟨9, _⟩ => ⟨S1x1024x5632, .bf16⟩
  | .hbm, ⟨10, _⟩ => ⟨S1024x5632, .bf16⟩
  | .hbm, ⟨11, _⟩ => ⟨S1x2816x1024, .bf16⟩
  | .hbm, ⟨12, _⟩ => ⟨S2816x1024, .bf16⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S1024x5632, .f32⟩
  | .hbm, ⟨30, _⟩ => ⟨S32768x5632, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S_, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x2816, .f32⟩
  | .hbm, ⟨43, _⟩ => ⟨S2816x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x1024, .f32⟩
  | .hbm, ⟨57, _⟩ => ⟨S32768x1024, .f32⟩
  | .hbm, ⟨58, _⟩ => ⟨S1x1024, .f32⟩
  | .hbm, ⟨59, _⟩ => ⟨S32768x1024, .f32⟩
  | .hbm, ⟨60, _⟩ => ⟨S32768x1024, .f32⟩
  | .hbm, ⟨61, _⟩ => ⟨S_, .f32⟩
  | .hbm, ⟨62, _⟩ => ⟨S32768x1024, .f32⟩
  | .hbm, ⟨63, _⟩ => ⟨S32768x1024, .f32⟩
  | .hbm, ⟨64, _⟩ => ⟨S32768x1024, .f32⟩
  | .hbm, ⟨65, _⟩ => ⟨S1x1024x5632, .bf16⟩
  | .hbm, ⟨66, _⟩ => ⟨S1024x5632, .bf16⟩
  | .hbm, ⟨67, _⟩ => ⟨S1x2816x1024, .bf16⟩
  | .hbm, ⟨68, _⟩ => ⟨S2816x1024, .bf16⟩
  | .hbm, ⟨69, _⟩ => ⟨S32768x1024, .f32⟩
  | .hbm, ⟨70, _⟩ => ⟨S_, .f32⟩
  | .hbm, ⟨71, _⟩ => ⟨S32768, .f32⟩
  | .hbm, ⟨72, _⟩ => ⟨S32768x1, .f32⟩
  | .hbm, ⟨73, _⟩ => ⟨S_, .f32⟩
  | .hbm, ⟨74, _⟩ => ⟨S32768x1, .f32⟩
  | .hbm, ⟨75, _⟩ => ⟨S32768x1, .f32⟩
  | .hbm, ⟨76, _⟩ => ⟨S_, .f32⟩
  | .hbm, ⟨77, _⟩ => ⟨S32768x1, .f32⟩
  | .hbm, ⟨78, _⟩ => ⟨S32768x1, .f32⟩
  | .hbm, ⟨79, _⟩ => ⟨S32768x1, .f32⟩
  | .hbm, ⟨80, _⟩ => ⟨S32768x1024, .f32⟩
  | .hbm, ⟨81, _⟩ => ⟨S32768x1024, .f32⟩
  | .hbm, ⟨82, _⟩ => ⟨S1x1024, .f32⟩
  | .hbm, ⟨83, _⟩ => ⟨S32768x1024, .f32⟩
  | .hbm, ⟨84, _⟩ => ⟨S32768x1024, .f32⟩
  | .hbm, ⟨85, _⟩ => ⟨S1024x5632, .f32⟩
  | .hbm, ⟨86, _⟩ => ⟨S32768x5632, .f32⟩
  | .hbm, ⟨87, _⟩ => ⟨S32768x2816, .f32⟩
  | .hbm, ⟨88, _⟩ => ⟨S32768x2816, .f32⟩
  | .hbm, ⟨89, _⟩ => ⟨S32768x2816, .f32⟩
  | .hbm, ⟨90, _⟩ => ⟨S32768x2816, .f32⟩
  | .hbm, ⟨91, _⟩ => ⟨S_, .f32⟩
  | .hbm, ⟨92, _⟩ => ⟨S32768x2816, .f32⟩
  | .hbm, ⟨93, _⟩ => ⟨S32768x2816, .f32⟩
  | .hbm, ⟨94, _⟩ => ⟨S_, .f32⟩
  | .hbm, ⟨95, _⟩ => ⟨S32768x2816, .f32⟩
  | .hbm, ⟨96, _⟩ => ⟨S32768x2816, .f32⟩
  | .hbm, ⟨97, _⟩ => ⟨S32768x2816, .f32⟩
  | .hbm, ⟨98, _⟩ => ⟨S32768x2816, .f32⟩
  | .hbm, ⟨99, _⟩ => ⟨S2816x1024, .f32⟩
  | .hbm, ⟨100, _⟩ => ⟨S32768x1024, .f32⟩
  | .hbm, ⟨101, _⟩ => ⟨S32768x1024, .f32⟩
  | .hbm, ⟨102, _⟩ => ⟨S_, .f32⟩
  | .hbm, ⟨103, _⟩ => ⟨S32768, .f32⟩
  | .hbm, ⟨104, _⟩ => ⟨S32768x1, .f32⟩
  | .hbm, ⟨105, _⟩ => ⟨S_, .f32⟩
  | .hbm, ⟨106, _⟩ => ⟨S32768x1, .f32⟩
  | .hbm, ⟨107, _⟩ => ⟨S32768x1, .f32⟩
  | .hbm, ⟨108, _⟩ => ⟨S_, .f32⟩
  | .hbm, ⟨109, _⟩ => ⟨S32768x1, .f32⟩
  | .hbm, ⟨110, _⟩ => ⟨S32768x1, .f32⟩
  | .hbm, ⟨111, _⟩ => ⟨S32768x1, .f32⟩
  | .hbm, ⟨112, _⟩ => ⟨S32768x1024, .f32⟩
  | .hbm, ⟨113, _⟩ => ⟨S32768x1024, .f32⟩
  | .hbm, ⟨114, _⟩ => ⟨S1x1024, .f32⟩
  | .hbm, ⟨115, _⟩ => ⟨S32768x1024, .f32⟩
  | .hbm, ⟨116, _⟩ => ⟨S32768x1024, .f32⟩
  | .hbm, ⟨117, _⟩ => ⟨S_, .f32⟩
  | .hbm, ⟨118, _⟩ => ⟨S32768x1024, .f32⟩
  | .hbm, ⟨119, _⟩ => ⟨S32768x1024, .f32⟩
  | .hbm, ⟨120, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_5 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_6 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_call1_v0 : Ref sig .tc := ⟨.hbm, 89, rfl⟩
abbrev main_call1_v1 : Ref sig .tc := ⟨.hbm, 90, rfl⟩
abbrev main_call1_cst : Ref sig .tc := ⟨.hbm, 91, rfl⟩
abbrev main_call1_v2 : Ref sig .tc := ⟨.hbm, 92, rfl⟩
abbrev main_call1_v3 : Ref sig .tc := ⟨.hbm, 93, rfl⟩
abbrev main_call1_cst_0 : Ref sig .tc := ⟨.hbm, 94, rfl⟩
abbrev main_call1_v4 : Ref sig .tc := ⟨.hbm, 95, rfl⟩
abbrev main_call1_v5 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_9 : Ref sig .tc := ⟨.hbm, 102, rfl⟩
abbrev main_v67 : Ref sig .tc := ⟨.hbm, 103, rfl⟩
abbrev main_v68 : Ref sig .tc := ⟨.hbm, 104, rfl⟩
abbrev main_cst_10 : Ref sig .tc := ⟨.hbm, 105, rfl⟩
abbrev main_v69 : Ref sig .tc := ⟨.hbm, 106, rfl⟩
abbrev main_v70 : Ref sig .tc := ⟨.hbm, 107, rfl⟩
abbrev main_cst_11 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_12 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩

abbrev nD : Nat := 1
abbrev τ : Topo := Topo.v7x

variable {F : FTy → Type} [FloatOps F]
-- ==== Merge.lean ====
abbrev S32768x1024 : Shape := ⟨2, ![32768, 1024]⟩
abbrev S32768x3072 : Shape := ⟨2, ![32768, 3072]⟩
abbrev S8x128x128 : Shape := ⟨3, ![8, 128, 128]⟩
abbrev S8x128 : Shape := ⟨2, ![8, 128]⟩
abbrev S2x1024x1024 : Shape := ⟨3, ![2, 1024, 1024]⟩
abbrev S1024 : Shape := ⟨1, ![1024]⟩
abbrev S128x8 : Shape := ⟨2, ![128, 8]⟩
abbrev S1x1024 : Shape := ⟨2, ![1, 1024]⟩
abbrev S512x1024 : Shape := ⟨2, ![512, 1024]⟩
abbrev S512x3072 : Shape := ⟨2, ![512, 3072]⟩
abbrev S1x1024x1024 : Shape := ⟨3, ![1, 1024, 1024]⟩
abbrev S128x128 : Shape := ⟨2, ![128, 128]⟩
abbrev S1x128x128 : Shape := ⟨3, ![1, 128, 128]⟩
abbrev S128x1 : Shape := ⟨2, ![128, 1]⟩
abbrev S1024x1024 : Shape := ⟨2, ![1024, 1024]⟩
abbrev S512 : Shape := ⟨1, ![512]⟩
abbrev S512x1 : Shape := ⟨2, ![512, 1]⟩

abbrev nBuf : Space → Nat
  | .hbm => 16
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x1024, .bf16⟩
  | .hbm, ⟨5, _⟩ => ⟨S32768x3072, .bf16⟩
  | .hbm, ⟨6, _⟩ => ⟨S8x128x128, .f32⟩
  | .hbm, ⟨7, _⟩ => ⟨S8x128, .f32⟩
  | .hbm, ⟨8, _⟩ => ⟨S2x1024x1024, .bf16⟩
  | .hbm, ⟨9, _⟩ => ⟨S2x1024x1024, .bf16⟩
  | .hbm, ⟨10, _⟩ => ⟨S2x1024x1024, .bf16⟩
  | .hbm, ⟨11, _⟩ => ⟨S2x1024x1024, .bf16⟩
  | .hbm, ⟨12, _⟩ => ⟨S1024, .f32⟩
  | .hbm, ⟨13, _⟩ => ⟨S128x8, .f32⟩
  | .hbm, ⟨14, _⟩ => ⟨S1x1024, .f32⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x3072, .bf16⟩
  | .local _ .vmem, ⟨11, _⟩ => ⟨S512x3072, .bf16⟩
  | .local _ .vmem, ⟨12, _⟩ => ⟨S8x128x128, .f32⟩
  | .local _ .vmem, ⟨13, _⟩ => ⟨S128x8, .f32⟩
  | .local _ .vmem, ⟨14, _⟩ => ⟨S1x1024x1024, .bf16⟩
  | .local _ .vmem, ⟨15, _⟩ => ⟨S1x1024x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeRefIdeal.lean ====
abbrev S32768x1024 : Shape := ⟨2, ![32768, 1024]⟩
abbrev S32768x3072 : Shape := ⟨2, ![32768, 3072]⟩
abbrev S8x128x128 : Shape := ⟨3, ![8, 128, 128]⟩
abbrev S8x128 : Shape := ⟨2, ![8, 128]⟩
abbrev S2x1024x1024 : Shape := ⟨3, ![2, 1024, 1024]⟩
abbrev S1024 : Shape := ⟨1, ![1024]⟩
abbrev S256x128x8x128 : Shape := ⟨4, ![256, 128, 8, 128]⟩
abbrev S128x128 : Shape := ⟨2, ![128, 128]⟩
abbrev S_ : Shape := ⟨0, ![]⟩
abbrev S8x256x128x128 : Shape := ⟨4, ![8, 256, 128, 128]⟩
abbrev S128x8 : Shape := ⟨2, ![128, 8]⟩
abbrev S1x128x8x1 : Shape := ⟨4, ![1, 128, 8, 1]⟩
abbrev S32768x3x1024 : Shape := ⟨3, ![32768, 3, 1024]⟩
abbrev S32768x1x1024 : Shape := ⟨3, ![32768, 1, 1024]⟩
abbrev S1x1024x1024 : Shape := ⟨3, ![1, 1024, 1024]⟩
abbrev S1024x1024 : Shape := ⟨2, ![1024, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 82
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S32768x1024, .bf16⟩
  | .hbm, ⟨4, _⟩ => ⟨S32768x1024, .bf16⟩
  | .hbm, ⟨5, _⟩ => ⟨S32768x3072, .bf16⟩
  | .hbm, ⟨6, _⟩ => ⟨S8x128x128, .f32⟩
  | .hbm, ⟨7, _⟩ => ⟨S8x128, .f32⟩
  | .hbm, ⟨8, _⟩ => ⟨S2x1024x1024, .bf16⟩
  | .hbm, ⟨9, _⟩ => ⟨S2x1024x1024, .bf16⟩
  | .hbm, ⟨10, _⟩ => ⟨S2x1024x1024, .bf16⟩
  | .hbm, ⟨11, _⟩ => ⟨S2x1024x1024, .bf16⟩
  | .hbm, ⟨12, _⟩ => ⟨S1024, .f32⟩
  | .hbm, ⟨13, _⟩ => ⟨S32768x1024, .f32⟩
  | .hbm, ⟨14, _⟩ => ⟨S256x128x8x128, .f32⟩
  | .hbm, ⟨15, _⟩ => ⟨S128x128, .i32⟩
  | .hbm, ⟨16, _⟩ => ⟨S_, .i32⟩
  | .hbm, ⟨17, _⟩ => ⟨S128x128, .i32⟩
  | .hbm, ⟨18, _⟩ => ⟨S128x128, .i32⟩
  | .hbm, ⟨19, _⟩ => ⟨S128x128, .i32⟩
  | .hbm, ⟨20, _⟩ => ⟨S128x128, .i1⟩
  | .hbm, ⟨21, _⟩ => ⟨S8x128x128, .i1⟩
  | .hbm, ⟨22, _⟩ => ⟨S_, .f32⟩
  | .hbm, ⟨23, _⟩ => ⟨S8x128x128, .f32⟩
  | .hbm, ⟨24, _⟩ => ⟨S8x128x128, .f32⟩
  | .hbm, ⟨25, _⟩ => ⟨S8x256x128x128, .f32⟩
  | .hbm, ⟨26, _⟩ => ⟨S256x128x8x128, .f32⟩
  | .hbm, ⟨27, _⟩ => ⟨S128x8, .f32⟩
  | .hbm, ⟨28, _⟩ => ⟨S1x128x8x1, .f32⟩
  | .hbm, ⟨29, _⟩ => ⟨S256x128x8x128, .f32⟩
  | .hbm, ⟨30, _⟩ => ⟨S256x128x8x128, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x3072, .f32⟩
  | .hbm, ⟨35, _⟩ => ⟨S32768x3x1024, .f32⟩
  | .hbm, ⟨36, _⟩ => ⟨S32768x1x1024, .f32⟩
  | .hbm, ⟨37, _⟩ => ⟨S32768x1024, .f32⟩
  | .hbm, ⟨38, _⟩ => ⟨S32768x1024, .f32⟩
  | .hbm, ⟨39, _⟩ => ⟨S1x1024x1024, .bf16⟩
  | .hbm, ⟨40, _⟩ => ⟨S1024x1024, .bf16⟩
  | .hbm, ⟨41, _⟩ => ⟨S1024x1024, .f32⟩
  | .hbm, ⟨42, _⟩ => ⟨S32768x1024, .f32⟩
  | .hbm, ⟨43, _⟩ => ⟨S32768x1024, .f32⟩
  | .hbm, ⟨44, _⟩ => ⟨S32768x1x1024, .f32⟩
  | .hbm, ⟨45, _⟩ => ⟨S32768x1024, .f32⟩
  | .hbm, ⟨46, _⟩ => ⟨S32768x1024, .f32⟩
  | .hbm, ⟨47, _⟩ => ⟨S1x1024x1024, .bf16⟩
  | .hbm, ⟨48, _⟩ => ⟨S1024x1024, .bf16⟩
  | .hbm, ⟨49, _⟩ => ⟨S1024x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1x1024, .f32⟩
  | .hbm, ⟨54, _⟩ => ⟨S32768x1024, .f32⟩
  | .hbm, ⟨55, _⟩ => ⟨S1x1024x1024, .bf16⟩
  | .hbm, ⟨56, _⟩ => ⟨S1024x1024, .bf16⟩
  | .hbm, ⟨57, _⟩ => ⟨S1024x1024, .f32⟩
  | .hbm, ⟨58, _⟩ => ⟨S32768x1024, .f32⟩
  | .hbm, ⟨59, _⟩ => ⟨S32768x1024, .f32⟩
  | .hbm, ⟨60, _⟩ => ⟨S32768x1024, .f32⟩
  | .hbm, ⟨61, _⟩ => ⟨S1x1024x1024, .bf16⟩
  | .hbm, ⟨62, _⟩ => ⟨S1024x1024, .bf16⟩
  | .hbm, ⟨63, _⟩ => ⟨S1024x1024, .f32⟩
  | .hbm, ⟨64, _⟩ => ⟨S32768x1024, .f32⟩
  | .hbm, ⟨65, _⟩ => ⟨S32768x1024, .f32⟩
  | .hbm, ⟨66, _⟩ => ⟨S_, .f32⟩
  | .hbm, ⟨67, _⟩ => ⟨S32768, .f32⟩
  | .hbm, ⟨68, _⟩ => ⟨S32768x1, .f32⟩
  | .hbm, ⟨69, _⟩ => ⟨S_, .f32⟩
  | .hbm, ⟨70, _⟩ => ⟨S32768x1, .f32⟩
  | .hbm, ⟨71, _⟩ => ⟨S32768x1, .f32⟩
  | .hbm, ⟨72, _⟩ => ⟨S_, .f32⟩
  | .hbm, ⟨73, _⟩ => ⟨S32768x1, .f32⟩
  | .hbm, ⟨74, _⟩ => ⟨S32768x1, .f32⟩
  | .hbm, ⟨75, _⟩ => ⟨S32768x1, .f32⟩
  | .hbm, ⟨76, _⟩ => ⟨S32768x1024, .f32⟩
  | .hbm, ⟨77, _⟩ => ⟨S32768x1024, .f32⟩
  | .hbm, ⟨78, _⟩ => ⟨S1x1024, .f32⟩
  | .hbm, ⟨79, _⟩ => ⟨S32768x1024, .f32⟩
  | .hbm, ⟨80, _⟩ => ⟨S32768x1024, .f32⟩
  | .hbm, ⟨81, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_cst : Ref sig .tc := ⟨.hbm, 22, rfl⟩
abbrev main_call0_v6 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst : Ref sig .tc := ⟨.hbm, 66, rfl⟩
abbrev main_v44 : Ref sig .tc := ⟨.hbm, 67, rfl⟩
abbrev main_v45 : Ref sig .tc := ⟨.hbm, 68, rfl⟩
abbrev main_cst_0 : Ref sig .tc := ⟨.hbm, 69, rfl⟩
abbrev main_v46 : Ref sig .tc := ⟨.hbm, 70, rfl⟩
abbrev main_v47 : Ref sig .tc := ⟨.hbm, 71, rfl⟩
abbrev main_cst_1 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S2x1024x5632 : Shape := ⟨3, ![2, 1024, 5632]⟩
abbrev S2x1024x128 : Shape := ⟨3, ![2, 1024, 128]⟩
abbrev S2x1024x5120 : Shape := ⟨3, ![2, 1024, 5120]⟩
abbrev S4x1536 : Shape := ⟨2, ![4, 1536]⟩
abbrev S1536 : Shape := ⟨1, ![1536]⟩
abbrev S1x1024 : Shape := ⟨2, ![1, 1024]⟩
abbrev S1x1536 : Shape := ⟨2, ![1, 1536]⟩
abbrev S32768x1536 : Shape := ⟨2, ![32768, 1536]⟩
abbrev S32768x128 : Shape := ⟨2, ![32768, 128]⟩
abbrev S32768x3072 : Shape := ⟨2, ![32768, 3072]⟩
abbrev S256x1024 : Shape := ⟨2, ![256, 1024]⟩
abbrev S1x1024x5632 : Shape := ⟨3, ![1, 1024, 5632]⟩
abbrev S1x1024x128 : Shape := ⟨3, ![1, 1024, 128]⟩
abbrev S1x1024x5120 : Shape := ⟨3, ![1, 1024, 5120]⟩
abbrev S256x1536 : Shape := ⟨2, ![256, 1536]⟩
abbrev S256x128 : Shape := ⟨2, ![256, 128]⟩
abbrev S256x3072 : Shape := ⟨2, ![256, 3072]⟩
abbrev S264x1536 : Shape := ⟨2, ![264, 1536]⟩
abbrev S8x1536 : Shape := ⟨2, ![8, 1536]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S1x256 : Shape := ⟨2, ![1, 256]⟩
abbrev S1024x128 : Shape := ⟨2, ![1024, 128]⟩

abbrev nBuf : Space → Nat
  | .hbm => 22
  | .vmem => 31
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x1024x5632, .bf16⟩
  | .hbm, ⟨3, _⟩ => ⟨S2x1024x128, .bf16⟩
  | .hbm, ⟨4, _⟩ => ⟨S2x1024x5120, .bf16⟩
  | .hbm, ⟨5, _⟩ => ⟨S4x1536, .f32⟩
  | .hbm, ⟨6, _⟩ => ⟨S1536, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1x1536, .f32⟩
  | .hbm, ⟨11, _⟩ => ⟨S1x1024, .f32⟩
  | .hbm, ⟨12, _⟩ => ⟨S1x1024, .f32⟩
  | .hbm, ⟨13, _⟩ => ⟨S32768x1024, .bf16⟩
  | .hbm, ⟨14, _⟩ => ⟨S32768x1024, .bf16⟩
  | .hbm, ⟨15, _⟩ => ⟨S32768x1024, .bf16⟩
  | .hbm, ⟨16, _⟩ => ⟨S32768x1024, .bf16⟩
  | .hbm, ⟨17, _⟩ => ⟨S32768x1536, .bf16⟩
  | .hbm, ⟨18, _⟩ => ⟨S32768x128, .f32⟩
  | .hbm, ⟨19, _⟩ => ⟨S32768x1024, .bf16⟩
  | .hbm, ⟨20, _⟩ => ⟨S32768x1024, .bf16⟩
  | .hbm, ⟨21, _⟩ => ⟨S32768x3072, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x1024x128, .bf16⟩
  | .local _ .vmem, ⟨5, _⟩ => ⟨S1x1024x5120, .bf16⟩
  | .local _ .vmem, ⟨6, _⟩ => ⟨S4x1536, .f32⟩
  | .local _ .vmem, ⟨7, _⟩ => ⟨S1x1536, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1536, .bf16⟩
  | .local _ .vmem, ⟨19, _⟩ => ⟨S256x1536, .bf16⟩
  | .local _ .vmem, ⟨20, _⟩ => ⟨S256x128, .f32⟩
  | .local _ .vmem, ⟨21, _⟩ => ⟨S256x128, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x3072, .bf16⟩
  | .local _ .vmem, ⟨27, _⟩ => ⟨S256x3072, .bf16⟩
  | .local _ .vmem, ⟨28, _⟩ => ⟨S264x1536, .f32⟩
  | .local _ .vmem, ⟨29, _⟩ => ⟨S256x1024, .f32⟩
  | .local _ .vmem, ⟨30, _⟩ => ⟨S256x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev main_v4_5 : Ref sig .tc := ⟨.hbm, 18, rfl⟩
abbrev main_v4_6 : Ref sig .tc := ⟨.hbm, 19, rfl⟩
abbrev main_v4_7 : Ref sig .tc := ⟨.hbm, 20, rfl⟩
abbrev main_v4_8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x3072 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InprojRefIdeal.lean ====
abbrev S32768x1024 : Shape := ⟨2, ![32768, 1024]⟩
abbrev S1024 : Shape := ⟨1, ![1024]⟩
abbrev S2x1024x5632 : Shape := ⟨3, ![2, 1024, 5632]⟩
abbrev S2x1024x128 : Shape := ⟨3, ![2, 1024, 128]⟩
abbrev S2x1024x5120 : Shape := ⟨3, ![2, 1024, 5120]⟩
abbrev S4x1536 : Shape := ⟨2, ![4, 1536]⟩
abbrev S1536 : Shape := ⟨1, ![1536]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1024x5632 : Shape := ⟨3, ![1, 1024, 5632]⟩
abbrev S1024x5632 : Shape := ⟨2, ![1024, 5632]⟩
abbrev S32768x5632 : Shape := ⟨2, ![32768, 5632]⟩
abbrev S32768x1536 : Shape := ⟨2, ![32768, 1536]⟩
abbrev S1x1024x128 : Shape := ⟨3, ![1, 1024, 128]⟩
abbrev S1024x128 : Shape := ⟨2, ![1024, 128]⟩
abbrev S32768x128 : Shape := ⟨2, ![32768, 128]⟩
abbrev S1x1024x5120 : Shape := ⟨3, ![1, 1024, 5120]⟩
abbrev S1024x5120 : Shape := ⟨2, ![1024, 5120]⟩
abbrev S32768x5120 : Shape := ⟨2, ![32768, 5120]⟩
abbrev S32768x2048 : Shape := ⟨2, ![32768, 2048]⟩
abbrev S32768x3072 : Shape := ⟨2, ![32768, 3072]⟩
abbrev S4x8192x1536 : Shape := ⟨3, ![4, 8192, 1536]⟩
abbrev S4x8195x1536 : Shape := ⟨3, ![4, 8195, 1536]⟩
abbrev S1x1536 : Shape := ⟨2, ![1, 1536]⟩

abbrev nBuf : Space → Nat
  | .hbm => 149
  | .vmem => 0
  | .smem => 0
  | _ => 0

abbrev hbmTy0_0 (i : Nat) : BufTy := match i % 128 with
  | 0 => ⟨S32768x1024, .f32⟩
  | 1 => ⟨S1024, .f32⟩
  | 2 => ⟨S2x1024x5632, .bf16⟩
  | 3 => ⟨S2x1024x128, .bf16⟩
  | 4 => ⟨S2x1024x5120, .bf16⟩
  | 5 => ⟨S4x1536, .f32⟩
  | 6 => ⟨S1536, .f32⟩
  | 7 => ⟨S1024, .f32⟩
  | 8 => ⟨S1024, .f32⟩
  | 9 => ⟨S32768x1024, .f32⟩
  | 10 => ⟨S_, .f32⟩
  | 11 => ⟨S32768, .f32⟩
  | 12 => ⟨S32768x1, .f32⟩
  | 13 => ⟨S_, .f32⟩
  | 14 => ⟨S32768x1, .f32⟩
  | 15 => ⟨S32768x1, .f32⟩
  | 16 => ⟨S_, .f32⟩
  | 17 => ⟨S32768x1, .f32⟩
  | 18 => ⟨S32768x1, .f32⟩
  | 19 => ⟨S32768x1, .f32⟩
  | 20 => ⟨S32768x1024, .f32⟩
  | 21 => ⟨S32768x1024, .f32⟩
  | 22 => ⟨S1x1024, .f32⟩
  | 23 => ⟨S32768x1024, .f32⟩
  | 24 => ⟨S32768x1024, .f32⟩
  | 25 => ⟨S1x1024x5632, .bf16⟩
  | 26 => ⟨S1024x5632, .bf16⟩
  | 27 => ⟨S1024x5632, .f32⟩
  | 28 => ⟨S32768x5632, .f32⟩
  | 29 => ⟨S32768x1024, .f32⟩
  | 30 => ⟨S32768x1024, .f32⟩
  | 31 => ⟨S32768x1024, .f32⟩
  | 32 => ⟨S32768x1024, .f32⟩
  | 33 => ⟨S32768x1536, .f32⟩
  | 34 => ⟨S1x1024x128, .bf16⟩
  | 35 => ⟨S1024x128, .bf16⟩
  | 36 => ⟨S1024x128, .f32⟩
  | 37 => ⟨S32768x128, .f32⟩
  | 38 => ⟨S1x1024x5120, .bf16⟩
  | 39 => ⟨S1024x5120, .bf16⟩
  | 40 => ⟨S1024x5120, .f32⟩
  | 41 => ⟨S32768x5120, .f32⟩
  | 42 => ⟨S32768x2048, .f32⟩
  | 43 => ⟨S32768x3072, .f32⟩
  | 44 => ⟨S32768x2048, .f32⟩
  | 45 => ⟨S32768x2048, .f32⟩
  | 46 => ⟨S_, .f32⟩
  | 47 => ⟨S32768x2048, .f32⟩
  | 48 => ⟨S32768x2048, .f32⟩
  | 49 => ⟨S32768x2048, .f32⟩
  | 50 => ⟨S_, .f32⟩
  | 51 => ⟨S32768x2048, .f32⟩
  | 52 => ⟨S32768x2048, .f32⟩
  | 53 => ⟨S32768x2048, .f32⟩
  | 54 => ⟨S_, .f32⟩
  | 55 => ⟨S32768x2048, .f32⟩
  | 56 => ⟨S32768x2048, .f32⟩
  | 57 => ⟨S_, .f32⟩
  | 58 => ⟨S32768x2048, .f32⟩
  | 59 => ⟨S32768x2048, .f32⟩
  | 60 => ⟨S32768x2048, .f32⟩
  | 61 => ⟨S32768x1024, .f32⟩
  | 62 => ⟨S32768x1024, .f32⟩
  | 63 => ⟨S_, .f32⟩
  | 64 => ⟨S32768x1024, .f32⟩
  | 65 => ⟨S32768x1024, .f32⟩
  | 66 => ⟨S4x8192x1536, .f32⟩
  | 67 => ⟨S_, .f32⟩
  | 68 => ⟨S4x8195x1536, .f32⟩
  | 69 => ⟨S1x1536, .f32⟩
  | 70 => ⟨S4x8192x1536, .f32⟩
  | 71 => ⟨S4x8192x1536, .f32⟩
  | 72 => ⟨S4x8192x1536, .f32⟩
  | 73 => ⟨S1x1536, .f32⟩
  | 74 => ⟨S4x8192x1536, .f32⟩
  | 75 => ⟨S4x8192x1536, .f32⟩
  | 76 => ⟨S4x8192x1536, .f32⟩
  | 77 => ⟨S4x8192x1536, .f32⟩
  | 78 => ⟨S1x1536, .f32⟩
  | 79 => ⟨S4x8192x1536, .f32⟩
  | 80 => ⟨S4x8192x1536, .f32⟩
  | 81 => ⟨S4x8192x1536, .f32⟩
  | 82 => ⟨S4x8192x1536, .f32⟩
  | 83 => ⟨S1x1536, .f32⟩
  | 84 => ⟨S4x8192x1536, .f32⟩
  | 85 => ⟨S4x8192x1536, .f32⟩
  | 86 => ⟨S4x8192x1536, .f32⟩
  | 87 => ⟨S4x8192x1536, .f32⟩
  | 88 => ⟨S4x8192x1536, .f32⟩
  | 89 => ⟨S4x8192x1536, .f32⟩
  | 90 => ⟨S4x8192x1536, .f32⟩
  | 91 => ⟨S_, .f32⟩
  | 92 => ⟨S4x8192x1536, .f32⟩
  | 93 => ⟨S4x8192x1536, .f32⟩
  | 94 => ⟨S_, .f32⟩
  | 95 => ⟨S4x8192x1536, .f32⟩
  | 96 => ⟨S4x8192x1536, .f32⟩
  | 97 => ⟨S4x8192x1536, .f32⟩
  | 98 => ⟨S32768x1536, .f32⟩
  | 99 => ⟨S_, .f32⟩
  | 100 => ⟨S32768, .f32⟩
  | 101 => ⟨S32768x1, .f32⟩
  | 102 => ⟨S_, .f32⟩
  | 103 => ⟨S32768x1, .f32⟩
  | 104 => ⟨S32768x1, .f32⟩
  | 105 => ⟨S32768x1024, .f32⟩
  | 106 => ⟨S32768x1024, .f32⟩
  | 107 => ⟨S32768x1024, .f32⟩
  | 108 => ⟨S_, .f32⟩
  | 109 => ⟨S32768, .f32⟩
  | 110 => ⟨S32768x1, .f32⟩
  | 111 => ⟨S_, .f32⟩
  | 112 => ⟨S32768x1, .f32⟩
  | 113 => ⟨S32768x1, .f32⟩
  | 114 => ⟨S_, .f32⟩
  | 115 => ⟨S32768x1, .f32⟩
  | 116 => ⟨S32768x1, .f32⟩
  | 117 => ⟨S32768x1, .f32⟩
  | 118 => ⟨S32768x1024, .f32⟩
  | 119 => ⟨S32768x1024, .f32⟩
  | 120 => ⟨S32768x1024, .f32⟩
  | 121 => ⟨S32768x1024, .f32⟩
  | 122 => ⟨S32768x1024, .f32⟩
  | 123 => ⟨S32768x1024, .f32⟩
  | 124 => ⟨S32768x1024, .bf16⟩
  | 125 => ⟨S32768x1024, .bf16⟩
  | 126 => ⟨S32768x1024, .bf16⟩
  | 127 => ⟨S32768x1024, .f32⟩
  | _ => ⟨S32768x1024, .f32⟩

abbrev hbmTy0_1 (i : Nat) : BufTy := match i % 128 with
  | 0 => ⟨S32768x1024, .f32⟩
  | 1 => ⟨S_, .f32⟩
  | 2 => ⟨S32768x1024, .f32⟩
  | 3 => ⟨S32768x1024, .f32⟩
  | 4 => ⟨S_, .f32⟩
  | 5 => ⟨S32768x1024, .f32⟩
  | 6 => ⟨S32768x1024, .f32⟩
  | 7 => ⟨S32768x1024, .f32⟩
  | 8 => ⟨S32768x1024, .bf16⟩
  | 9 => ⟨S32768x1536, .bf16⟩
  | 10 => ⟨S32768x1024, .bf16⟩
  | 11 => ⟨S32768x1024, .bf16⟩
  | 12 => ⟨S32768x3072, .f32⟩
  | 13 => ⟨S32768x3072, .f32⟩
  | 14 => ⟨S_, .f32⟩
  | 15 => ⟨S32768x3072, .f32⟩
  | 16 => ⟨S32768x3072, .f32⟩
  | 17 => ⟨S_, .f32⟩
  | 18 => ⟨S32768x3072, .f32⟩
  | 19 => ⟨S32768x3072, .f32⟩
  | 20 => ⟨S32768x3072, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_cst_5 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_6 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_call0_v0 : Ref sig .tc := ⟨.hbm, 89, rfl⟩
abbrev main_call0_v1 : Ref sig .tc := ⟨.hbm, 90, rfl⟩
abbrev main_call0_cst : Ref sig .tc := ⟨.hbm, 91, rfl⟩
abbrev main_call0_v2 : Ref sig .tc := ⟨.hbm, 92, rfl⟩
abbrev main_call0_v3 : Ref sig .tc := ⟨.hbm, 93, rfl⟩
abbrev main_call0_cst_0 : Ref sig .tc := ⟨.hbm, 94, rfl⟩
abbrev main_call0_v4 : Ref sig .tc := ⟨.hbm, 95, rfl⟩
abbrev main_call0_v5 : Ref sig .tc := ⟨.hbm, 96, rfl⟩
abbrev main_v71 : Ref sig .tc := ⟨.hbm, 97, rfl⟩
abbrev main_v72 : Ref sig .tc := ⟨.hbm, 98, rfl⟩
abbrev main_cst_8 : Ref sig .tc := ⟨.hbm, 99, rfl⟩
abbrev main_v73 : Ref sig .tc := ⟨.hbm, 100, rfl⟩
abbrev main_v74 : Ref sig .tc := ⟨.hbm, 101, rfl⟩
abbrev main_cst_9 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_10 : Ref sig .tc := ⟨.hbm, 108, rfl⟩
abbrev main_v80 : Ref sig .tc := ⟨.hbm, 109, rfl⟩
abbrev main_v81 : Ref sig .tc := ⟨.hbm, 110, rfl⟩
abbrev main_cst_11 : Ref sig .tc := ⟨.hbm, 111, rfl⟩
abbrev main_v82 : Ref sig .tc := ⟨.hbm, 112, rfl⟩
abbrev main_v83 : Ref sig .tc := ⟨.hbm, 113, rfl⟩
abbrev main_cst_12 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_call1_v0 : Ref sig .tc := ⟨.hbm, 127, rfl⟩
abbrev main_call1_v1 : Ref sig .tc := ⟨.hbm, 128, rfl⟩
abbrev main_call1_cst : Ref sig .tc := ⟨.hbm, 129, rfl⟩
abbrev main_call1_v2 : Ref sig .tc := ⟨.hbm, 130, rfl⟩
abbrev main_call1_v3 : Ref sig .tc := ⟨.hbm, 131, rfl⟩
abbrev main_call1_cst_0 : Ref sig .tc := ⟨.hbm, 132, rfl⟩
abbrev main_call1_v4 : Ref sig .tc := ⟨.hbm, 133, rfl⟩
abbrev main_call1_v5 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_cst_13 : Ref sig .tc := ⟨.hbm, 142, rfl⟩
abbrev main_v103 : Ref sig .tc := ⟨.hbm, 143, rfl⟩
abbrev main_v104 : Ref sig .tc := ⟨.hbm, 144, rfl⟩
abbrev main_cst_14 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩

abbrev nD : Nat := 1
abbrev τ : Topo := Topo.v7x

variable {F : FTy → Type} [FloatOps F]
-- ==== Proof.Blocks.lean ====
/-
  Reading an array at an index known by its coordinates: what the lemmas about the kernels' blocks have in common.
-/
module

public import Idealize.ShloMosaic.Lib.Pointwise

@[expose] public section

noncomputable section

namespace Cert.Proof

open Idealize.ShloMosaic

theorem at2 {α : Type} {n0 n1 : ℕ} (A : (⟨2, ![n0, n1]⟩ : Shape).Idx → α) {j : (⟨2, ![n0, n1]⟩ : Shape).Idx} {a : Fin n0} {b : Fin n1}
    (h0 : (j 0).val = a.val) (h1 : (j 1).val = b.val) : A j = A (ix2 a b) := by
  congr 1
  funext d
  apply Fin.ext
  match d with
  | ⟨0, _⟩ => exact h0
  | ⟨1, _⟩ => exact h1

theorem at3 {α : Type} {n0 n1 n2 : ℕ} (A : (⟨3, ![n0, n1, n2]⟩ : Shape).Idx → α) {j : (⟨3, ![n0, n1, n2]⟩ : Shape).Idx}
    {a : Fin n0} {b : Fin n1} {c : Fin n2} (h0 : (j 0).val = a.val) (h1 : (j 1).val = b.val) (h2 : (j 2).val = c.val) :
    A j = A (ix3 a b c) := by
  congr 1
  funext d
  apply Fin.ext
  match d with
  | ⟨0, _⟩ => exact h0
  | ⟨1, _⟩ => exact h1
  | ⟨2, _⟩ => exact h2

end Cert.Proof

end
-- ==== Proof.Rows.lean ====
/-
  The layer's row-wise mathematics over the extended reals: the root-mean-square norm of a row of 1024 entries, the
  gate `x · sigmoid x`, and one half of the feed-forward block applied to one row. The kernels' blocks and the
  references' arrays are both shown, row by row, to be these functions.
-/
module

public import Idealize.ShloMosaic.Lib.Pointwise

@[expose] public section

noncomputable section

namespace Cert.Proof

open Idealize.ShloMosaic
open scoped BigOperators

/-- A row's root-mean-square norm with gain `g`: the entry over the root of (the mean square plus 1e-6), times the gain. -/
def rms (g v : Fin 1024 → EReal) (c : Fin 1024) : EReal :=
  v c * Ideal.rsqrt (Ideal.div (∑ k, v k * v k) (Ideal.ofBits .f32 0x44800000#32) + Ideal.ofBits .f32 0x358637BD#32) * g c

/-- The gate: `x` times its logistic sigmoid. -/
def swish (x : EReal) : EReal := x * Ideal.div 1 (1 + Ideal.exp (-x))

/-- One hidden unit's share of output column `c`: the gated pair of products with the row, times the unit's weight. -/
def unit (xn : Fin 1024 → EReal) (wgu : Fin 1024 → Fin 5632 → EReal) (wd : Fin 2816 → Fin 1024 → EReal)
    (c : Fin 1024) (k : Fin 2816) : EReal :=
  swish (∑ i, xn i * wgu i ⟨k.val, by omega⟩) * (∑ i, xn i * wgu i ⟨2816 + k.val, by omega⟩) * wd k c

/-- The feed-forward product of a normalized row: the sum over the 2816 hidden units. -/
def ffn (xn : Fin 1024 → EReal) (wgu : Fin 1024 → Fin 5632 → EReal) (wd : Fin 2816 → Fin 1024 → EReal)
    (c : Fin 1024) : EReal := ∑ k, unit xn wgu wd c k

/-- A feed-forward half of the block on one row: the row plus half the norm of the feed-forward product of its norm. -/
def ffnHalf (h preG postG : Fin 1024 → EReal) (wgu : Fin 1024 → Fin 5632 → EReal) (wd : Fin 2816 → Fin 1024 → EReal)
    (c : Fin 1024) : EReal :=
  h c + Ideal.ofBits .f32 0x3F000000#32 * rms postG (ffn (rms preG h) wgu wd) c

end Cert.Proof

end
-- ==== Proof.Merge.Rows.lean ====
/-
  The branch-merging step on one row: the gated spatial mixing of a chunk of 128 rows, the three branches' projections
  weighed by their gates, the output projection, its norm, and the row added.
-/
module

public import proofs.«01_k».proof.Proof.Rows

@[expose] public section

noncomputable section

namespace Cert.Proof

open Idealize.ShloMosaic
open scoped BigOperators

/-- The group of 128 columns a column lies in. -/
def grp (c : Fin 1024) : Fin 8 := ⟨c.val / 128, by omega⟩

/-- Row `i` of a chunk's spatial mixing, at one column: the chunk's rows up to `i` weighed by row `i` of the group's
    matrix, plus the group's bias. -/
def spatial (w : Fin 8 → Fin 128 → Fin 128 → EReal) (b : Fin 8 → Fin 128 → EReal) (v : Fin 128 → EReal) (g : Fin 8)
    (i : Fin 128) : EReal := (∑ j, v j * (if j ≤ i then w g i j else 0)) + b g i

/-- The three branches' projections, each times its gate. -/
def branches (ya ys yc : Fin 1024 → EReal) (gs : Fin 3072 → EReal) (pa ps pc : Fin 1024 → Fin 1024 → EReal) (k : Fin 1024) : EReal :=
  gs ⟨k.val, by omega⟩ * (∑ a, ya a * pa a k) + gs ⟨1024 + k.val, by omega⟩ * (∑ a, ys a * ps a k)
    + gs ⟨2048 + k.val, by omega⟩ * (∑ a, yc a * pc a k)

/-- The step on one row: the row plus the norm of the output projection of the branches. -/
def mergeRow (h ya ys yc : Fin 1024 → EReal) (gs : Fin 3072 → EReal) (pa ps pc wo : Fin 1024 → Fin 1024 → EReal)
    (g : Fin 1024 → EReal) (l : Fin 1024) : EReal :=
  h l + rms g (fun l => ∑ k, branches ya ys yc gs pa ps pc k * wo k l) l

/-- Comparing row and column numbers below 128 as 32-bit words is comparing them. -/
theorem select_le (i j : Fin 128) (A B : EReal) :
    Scalar.select (IntOp.cmpi .sge (BitVec.ofNat 32 i.val) (BitVec.ofNat 32 j.val)) A B = if j ≤ i then A else B := by
  have h : (IntOp.cmpi .sge (BitVec.ofNat 32 i.val) (BitVec.ofNat 32 j.val)) = if j ≤ i then 1#1 else 0#1 := by
    revert i j
    decide +kernel
  rw [h]
  split <;> rfl

end Cert.Proof

end
-- ==== Proof.Ssd.Scan.lean ====
/-
  The recurrence on numbers: one chunk of 128 steps of a sequence, its output rows and the state it hands on.
-/
module

public import proofs.«01_k».proof.Proof.Rows

@[expose] public section

noncomputable section

namespace Cert.Proof.Ssd

open Idealize.ShloMosaic
open scoped BigOperators

/-- The step size: the logarithm of one plus the exponential, in the form that does not overflow. -/
def softplus (x : EReal) : EReal := max x 0 + Ideal.log1p (Ideal.exp (0 - max x (-x)))

/-- The head a channel belongs to: 64 channels each. -/
def hd (c : Fin 1024) : Fin 16 := ⟨c.val / 64, by omega⟩

/-- The group a channel belongs to: 512 channels each. -/
def gp (c : Fin 1024) : Fin 2 := ⟨c.val / 512, by omega⟩

/-- What a chunk's rows hold: the channels, the two groups' input and output vectors, the step sizes. -/
structure Chunk where
  x : Fin 128 → Fin 1024 → EReal
  B : Fin 2 → Fin 128 → Fin 128 → EReal
  C : Fin 2 → Fin 128 → Fin 128 → EReal
  dt : Fin 128 → Fin 16 → EReal

/-- The log-decay from the chunk's start to row `i`, inclusive. -/
def Chunk.acs (k : Chunk) (a : Fin 16 → EReal) (i : Fin 128) (h : Fin 16) : EReal := ∑ j, if j ≤ i then k.dt j h * a h else 0

/-- The state after the chunk. -/
def Chunk.next (k : Chunk) (a : Fin 16 → EReal) (st : Fin 128 → Fin 1024 → EReal) (n : Fin 128) (c : Fin 1024) : EReal :=
  st n c * Ideal.exp (k.acs a 127 (hd c))
    + ∑ i, k.B (gp c) i n * (k.x i c * (Ideal.exp (k.acs a 127 (hd c) - k.acs a i (hd c)) * k.dt i (hd c)))

/-- The recurrence's output at row `i`: what the state before the chunk gives, and what the chunk's own rows give. -/
def Chunk.y (k : Chunk) (a : Fin 16 → EReal) (st : Fin 128 → Fin 1024 → EReal) (i : Fin 128) (c : Fin 1024) : EReal :=
  (∑ n, k.C (gp c) i n * st n c) * Ideal.exp (k.acs a i (hd c))
    + ∑ j, (∑ n, k.C (gp c) i n * k.B (gp c) j n)
        * (if j ≤ i then Ideal.exp (k.acs a i (hd c) - k.acs a j (hd c)) else 0) * k.dt j (hd c) * k.x j c

/-- The layer's row: the output and the skip, gated by `z`, normalized. -/
def Chunk.out (k : Chunk) (a : Fin 16 → EReal) (st : Fin 128 → Fin 1024 → EReal) (ds g : Fin 1024 → EReal) (z : Fin 128 → Fin 1024 → EReal)
    (i : Fin 128) (c : Fin 1024) : EReal :=
  rms g (fun c => (k.y a st i c + ds c * k.x i c) * z i c) c

/-- The state before chunk `q` of a sequence of chunks that starts from `st`. -/
def states (ks : ℕ → Chunk) (a : Fin 16 → EReal) (st : Fin 128 → Fin 1024 → EReal) : ℕ → Fin 128 → Fin 1024 → EReal
  | 0 => st
  | q + 1 => (ks q).next a (states ks a st q)

/-! ### Signs, and the splits of a number into parts -/

theorem exp_nonneg (x : EReal) : 0 ≤ Ideal.exp x := by
  induction x using EReal.rec with
  | bot => exact le_refl _
  | top => exact le_top
  | coe r => exact EReal.coe_nonneg.2 (Real.exp_pos r).le

theorem exp_ne_top {x : EReal} (h : x ≠ ⊤) : Ideal.exp x ≠ ⊤ := by
  induction x using EReal.rec with
  | bot => exact EReal.zero_ne_top
  | top => exact absurd rfl h
  | coe r => exact EReal.coe_ne_top _

theorem log1p_nonneg {x : EReal} (h : 0 ≤ x) : 0 ≤ Ideal.log1p x := by
  induction x using EReal.rec with
  | bot => exact absurd h (by decide)
  | top => exact le_top
  | coe r =>
    have hr : 0 ≤ r := EReal.coe_nonneg.1 h
    show 0 ≤ Ideal.log ((1 : ℝ) + (r : EReal))
    rw [← EReal.coe_add]
    show (0 : EReal) ≤ if 1 + r ≤ 0 then ⊥ else (Real.log (1 + r) : EReal)
    rw [if_neg (by linarith)]
    exact EReal.coe_nonneg.2 (Real.log_nonneg (by linarith))

theorem softplus_nonneg (x : EReal) : 0 ≤ softplus x :=
  add_nonneg (le_max_right _ _) (log1p_nonneg (exp_nonneg _))

theorem decay_nonpos (x : EReal) : 0 - Ideal.exp x ≤ 0 := by
  rw [zero_sub, EReal.neg_le, neg_zero]
  exact exp_nonneg x

theorem mul_nonpos {x y : EReal} (hx : 0 ≤ x) (hy : y ≤ 0) : x * y ≤ 0 := by
  have h : 0 ≤ x * (-y) := mul_nonneg hx (by rw [EReal.le_neg, neg_zero]; exact hy)
  rw [mul_neg, EReal.le_neg, neg_zero] at h
  exact h

/-- The three parts of a number that is not positive add up to it. -/
theorem split3 {x : EReal} (h : x ≤ 0) : x + (x - x) + (x - x - (x - x)) = x := by
  induction x using EReal.rec with
  | bot => rfl
  | top => exact absurd h (by decide)
  | coe r =>
    rw [← EReal.coe_sub, ← EReal.coe_sub, ← EReal.coe_add, ← EReal.coe_add]
    congr 1
    ring

theorem sub_self_of {x : EReal} (h0 : 0 ≤ x) (h : x ≠ ⊤) : x - x = 0 := by
  induction x using EReal.rec with
  | bot => exact absurd h0 (by decide)
  | top => exact absurd rfl h
  | coe r => rw [← EReal.coe_sub, sub_self, EReal.coe_zero]

/-- A lower-triangular product in three parts is the sum up to the row. -/
theorem sum3 (d : Fin 128 → EReal) (hd : ∀ k, d k ≤ 0) (r : Fin 128) :
    (∑ k : Fin 128, (if k ≤ r then (1 : EReal) else 0) * d k) + (∑ k : Fin 128, (if k ≤ r then (1 : EReal) else 0) * (d k - d k))
      + (∑ k : Fin 128, (if k ≤ r then (1 : EReal) else 0) * (d k - d k - (d k - d k))) = ∑ k, if k ≤ r then d k else 0 := by
  rw [← Finset.sum_add_distrib, ← Finset.sum_add_distrib]
  refine Finset.sum_congr rfl fun k _ => ?_
  split
  · rw [one_mul, one_mul, one_mul]
    exact split3 (hd k)
  · rw [zero_mul, zero_mul, zero_mul, add_zero, add_zero]

theorem acs_nonpos (d : Fin 128 → EReal) (hd : ∀ k, d k ≤ 0) (r : Fin 128) : (∑ k, if k ≤ r then d k else 0) ≤ 0 :=
  Finset.sum_nonpos fun k _ => by split; exact hd k; exact le_refl _

/-- A product with a matrix whose column holds a single one. -/
theorem sum_pick (v : Fin 128 → EReal) (k : Fin 128) : (∑ l, v l * (if l = k then (1 : EReal) else 0)) = v k := by
  simp only [mul_ite, mul_one, mul_zero, Finset.sum_ite_eq', Finset.mem_univ, if_true]

/-- The same in two parts. -/
theorem sum_pick2 (v : Fin 128 → EReal) (k : Fin 128) (h0 : 0 ≤ v k) (h : v k ≠ ⊤) :
    (∑ l, v l * (if l = k then (1 : EReal) else 0)) + (∑ l, (v l - v l) * (if l = k then (1 : EReal) else 0)) = v k := by
  rw [sum_pick v, sum_pick (fun l => v l - v l), sub_self_of h0 h, add_zero]

end Cert.Proof.Ssd

end
-- ==== Proof.Ssd.Heads.lean ====
/-
  What one chunk adds to a pair of heads inside itself, and that the body's spellings of it are one.
-/
module

public import proofs.«01_k».proof.Proof.Blocks
public import proofs.«01_k».proof.Proof.Merge.Rows
public import proofs.«01_k».proof.Proof.Ssd.Scan
public import proofs.«01_k».proof.Proof.Gen.SsdIdeal.Value

@[expose] public section

noncomputable section

namespace Cert.Proof.Ssd

open Idealize.ShloMosaic Idealize.ShloMosaic.TcCoe Cert.SsdIdeal Cert.SsdIdeal.Gen
open scoped BigOperators

/-- A head's weights of the chunk's rows `j` in its rows `i`. -/
def weights (h : ℕ) (s : S128x128.Slices ![0, h] S128x1) (s' : S128x128.Slices ![h, 0] S1x128)
    (A AT DT CB : FVec Ideal S128x128 .f32) : FVec Ideal S128x128 .f32 :=
  mulf (mulf CB (select k0_pay5 (exp (subf (broadcastTo S128x128 (extractStridedSlice S128x1 ![0, h] A s) broadcasts_S128x1_S128x128)
    (broadcastTo S128x128 (extractStridedSlice S1x128 ![h, 0] AT s') broadcasts_S1x128_S128x128))) (broadcast S128x128 (Scalar.ofBits .f32 0x00000000#32))))
    (broadcastTo S128x128 (extractStridedSlice S1x128 ![h, 0] DT s') broadcasts_S1x128_S128x128)

/-- Two heads' weighted sums added to the 128 channels they share, by one product of twice the width. -/
def both (w0 w1 : FVec Ideal S128x128 .f32) (xp : FVec Ideal S128x128 .bf16) (y : FVec Ideal S128x128 .f32) : FVec Ideal S128x128 .f32 :=
  shapeCast S128x128 (addf y (matmul dot_S128x256_S256x128_S128x128_1_0_0_1_n_n none
    (concatenate S128x256 1 [⟨S128x128, truncf .bf16 w0 bitsLt_bf16_f32⟩, ⟨S128x128, truncf .bf16 w1 bitsLt_bf16_f32⟩] concatenates_S128x128_S128x128_S128x256_d1)
    (concatenate S256x128 0 [⟨S128x128, select k0_pay7 xp (broadcast S128x128 (Scalar.sitofp .bf16 0#32))⟩,
      ⟨S128x128, select k0_pay7 (broadcast S128x128 (Scalar.sitofp .bf16 0#32)) xp⟩] concatenates_S128x128_S128x128_S256x128_d0)
    (constant S128x128 .f32 0x00000000#32))) shapeCasts_S128x128_S128x128

/-- The pair of heads `h`, `h'` at the channels from `o`. -/
def pair (h h' : ℕ) (s : S128x128.Slices ![0, h] S128x1) (s' : S128x128.Slices ![h, 0] S1x128)
    (t : S128x128.Slices ![0, h'] S128x1) (t' : S128x128.Slices ![h', 0] S1x128) (o : ℕ) (u : S128x1024.Slices ![0, o] S128x128)
    (xx : FVec Ideal S128x1024 .bf16) (A AT DT CB y : FVec Ideal S128x128 .f32) : FVec Ideal S128x128 .f32 :=
  both (weights h s s' A AT DT CB) (weights h' t t' A AT DT CB) (extractStridedSlice S128x128 ![0, o] xx u) y

/-- The weights at an index. -/
theorem weights_apply (h : ℕ) (s : S128x128.Slices ![0, h] S128x1) (s' : S128x128.Slices ![h, 0] S1x128) (hh : h < 128)
    (A AT DT CB : FVec Ideal S128x128 .f32) (i j : Fin 128) :
    weights h s s' A AT DT CB (ix2 i j)
      = CB (ix2 i j) * (if j ≤ i then Ideal.exp (A (ix2 i ⟨h, hh⟩) - AT (ix2 ⟨h, hh⟩ j)) else 0) * DT (ix2 ⟨h, hh⟩ j) := by
  pointwise [weights, k0_pay5]
  rw [select_le]
  split
  · rfl
  · rw [mul_zero, zero_mul]

/-- Comparing a lane number with 64. -/
theorem select_first (c : Fin 128) (A B : EReal) :
    Scalar.select (IntOp.cmpi .slt (BitVec.ofNat 32 c.val) 64#32) A B = if c.val < 64 then A else B := by
  have h : (IntOp.cmpi .slt (BitVec.ofNat 32 c.val) 64#32) = if c.val < 64 then 1#1 else 0#1 := by
    revert c
    decide +kernel
  rw [h]
  split <;> rfl

theorem zero_right (a : EReal) : a * (((0#32).toInt : ℝ) : EReal) = 0 := by
  simp

theorem both_apply (w0 w1 : FVec Ideal S128x128 .f32) (xp : FVec Ideal S128x128 .bf16) (y : FVec Ideal S128x128 .f32) (i c : Fin 128) :
    both w0 w1 xp y (ix2 i c) = y (ix2 i c) + ∑ j, (if c.val < 64 then w0 (ix2 i j) else w1 (ix2 i j)) * xp (ix2 j c) := by
  pointwise [both, k0_pay7]
  simp only [select_first]
  congr 1
  split
  · rw [Finset.sum_congr rfl fun x _ => zero_right _, Finset.sum_const_zero, add_zero]
  · rw [Finset.sum_congr rfl fun x _ => zero_right _, Finset.sum_const_zero, zero_add]

/-- The products of a chunk's output vectors with its input vectors. -/
def cbOf (b c : FVec Ideal S128x128 .bf16) : FVec Ideal S128x128 .f32 :=
  matmul dot_S128x128_S128x128_S128x128_1_1_0_0_n_n none c b (constant S128x128 .f32 0x00000000#32)

theorem cbOf_apply (b c : FVec Ideal S128x128 .bf16) (i j : Fin 128) : cbOf b c (ix2 i j) = ∑ n, c (ix2 i n) * b (ix2 j n) := by
  pointwise [cbOf]

section
variable (xx : FVec Ideal S128x1024 .bf16) (A AT DT CB y : FVec Ideal S128x128 .f32)

/-- The pair of heads 0 and 1. -/
def pair0 : FVec Ideal S128x128 .f32 :=
  pair 0 1 slices_S128x128_o0_0_S128x1 slices_S128x128_o0_0_S1x128 slices_S128x128_o0_1_S128x1 slices_S128x128_o1_0_S1x128
    0 slices_S128x1024_o0_0_S128x128 xx A AT DT CB y

/-- The pair of heads 2 and 3. -/
def pair1 : FVec Ideal S128x128 .f32 :=
  pair 2 3 slices_S128x128_o0_2_S128x1 slices_S128x128_o2_0_S1x128 slices_S128x128_o0_3_S128x1 slices_S128x128_o3_0_S1x128
    128 slices_S128x1024_o0_128_S128x128 xx A AT DT CB y

/-- The pair of heads 4 and 5. -/
def pair2 : FVec Ideal S128x128 .f32 :=
  pair 4 5 slices_S128x128_o0_4_S128x1 slices_S128x128_o4_0_S1x128 slices_S128x128_o0_5_S128x1 slices_S128x128_o5_0_S1x128
    256 slices_S128x1024_o0_256_S128x128 xx A AT DT CB y

/-- The pair of heads 6 and 7. -/
def pair3 : FVec Ideal S128x128 .f32 :=
  pair 6 7 slices_S128x128_o0_6_S128x1 slices_S128x128_o6_0_S1x128 slices_S128x128_o0_7_S128x1 slices_S128x128_o7_0_S1x128
    384 slices_S128x1024_o0_384_S128x128 xx A AT DT CB y

/-- The pair of heads 8 and 9. -/
def pair4 : FVec Ideal S128x128 .f32 :=
  pair 8 9 slices_S128x128_o0_8_S128x1 slices_S128x128_o8_0_S1x128 slices_S128x128_o0_9_S128x1 slices_S128x128_o9_0_S1x128
    512 slices_S128x1024_o0_512_S128x128 xx A AT DT CB y

/-- The pair of heads 10 and 11. -/
def pair5 : FVec Ideal S128x128 .f32 :=
  pair 10 11 slices_S128x128_o0_10_S128x1 slices_S128x128_o10_0_S1x128 slices_S128x128_o0_11_S128x1 slices_S128x128_o11_0_S1x128
    640 slices_S128x1024_o0_640_S128x128 xx A AT DT CB y

/-- The pair of heads 12 and 13. -/
def pair6 : FVec Ideal S128x128 .f32 :=
  pair 12 13 slices_S128x128_o0_12_S128x1 slices_S128x128_o12_0_S1x128 slices_S128x128_o0_13_S128x1 slices_S128x128_o13_0_S1x128
    768 slices_S128x1024_o0_768_S128x128 xx A AT DT CB y

/-- The pair of heads 14 and 15. -/
def pair7 : FVec Ideal S128x128 .f32 :=
  pair 14 15 slices_S128x128_o0_14_S128x1 slices_S128x128_o14_0_S1x128 slices_S128x128_o0_15_S128x1 slices_S128x128_o15_0_S1x128
    896 slices_S128x1024_o0_896_S128x128 xx A AT DT CB y

end

theorem pair_apply (h h' : ℕ) (s : S128x128.Slices ![0, h] S128x1) (s' : S128x128.Slices ![h, 0] S1x128)
    (t : S128x128.Slices ![0, h'] S128x1) (t' : S128x128.Slices ![h', 0] S1x128) (o : ℕ) (u : S128x1024.Slices ![0, o] S128x128)
    (xx : FVec Ideal S128x1024 .bf16) (A AT DT CB y : FVec Ideal S128x128 .f32) (hh : h < 128) (hh' : h' < 128) (ho : o + 128 ≤ 1024)
    (l : Fin 128) (i d : Fin 128) (e : l.val = if d.val < 64 then h else h') :
    pair h h' s s' t t' o u xx A AT DT CB y (ix2 i d)
      = y (ix2 i d) + ∑ j, CB (ix2 i j) * (if j ≤ i then Ideal.exp (A (ix2 i l) - AT (ix2 l j)) else 0) * DT (ix2 l j)
          * xx (ix2 j ⟨o + d.val, by omega⟩) := by
  unfold pair
  rw [both_apply]
  congr 1
  refine Finset.sum_congr rfl fun j _ => ?_
  have ex : extractStridedSlice S128x128 ![0, o] xx u (ix2 j d) = xx (ix2 j ⟨o + d.val, by omega⟩) := by
    pointwise
  rw [ex, weights_apply h s s' hh, weights_apply h' t t' hh']
  congr 1
  split at e
  · rename_i hd
    rw [if_pos hd, show l = ⟨h, hh⟩ from Fin.ext e]
  · rename_i hd
    rw [if_neg hd, show l = ⟨h', hh'⟩ from Fin.ext e]

/-! ### The spellings in the four chunks -/

section
variable (xx : FVec Ideal S128x1024 .bf16) (A AT DT CB y : FVec Ideal S128x128 .f32) (b c : FVec Ideal S128x128 .bf16)

theorem pair7_d : k0_pay193 k0_pay5 k0_pay7 xx A AT DT CB y = pair7 xx A AT DT CB y := rfl
theorem pair6_d : k0_pay192 (k0_pay191 k0_pay5 k0_pay7 xx A AT DT CB y) = pair6 xx A AT DT CB y := rfl
theorem pair5_d : k0_pay190 (k0_pay187 k0_pay5 A AT DT CB) (k0_pay188 k0_pay5 A AT DT CB) (k0_pay189 k0_pay7 xx) y = pair5 xx A AT DT CB y := rfl
theorem pair4_d : k0_pay186 k0_pay7 (k0_pay182 k0_pay5 A AT DT b c) (k0_pay183 k0_pay5 A AT DT b c) (k0_pay184 xx) k0_pay185 y = pair4 xx A AT DT (cbOf b c) y := rfl
theorem pair3_d : k0_pay176 k0_pay5 k0_pay7 xx A AT DT CB (k0_pay175 A) y = pair3 xx A AT DT CB y := rfl
theorem pair2_d : k0_pay174 k0_pay5 k0_pay7 xx A AT DT CB y = pair2 xx A AT DT CB y := rfl
theorem pair1_d : k0_pay173 (k0_pay171 k0_pay7 xx) y (k0_pay172 k0_pay5 A AT DT CB) (constant S128x128 FTy.f32 0#32) = pair1 xx A AT DT CB y := rfl
theorem pair0_d : k0_pay170 k0_pay7 (k0_pay166 k0_pay5 A AT DT CB) (k0_pay167 k0_pay5 A AT DT CB) (k0_pay168 xx) (k0_pay169 k0_pay7 xx) 0#32 y = pair0 xx A AT DT CB y := rfl
theorem pair7_c : k0_pay147 k0_pay5 k0_pay7 xx A AT DT CB y = pair7 xx A AT DT CB y := rfl
theorem pair6_c : k0_pay146 k0_pay5 k0_pay7 xx A AT DT CB y = pair6 xx A AT DT CB y := rfl
theorem pair5_c : k0_pay145 (k0_pay142 k0_pay5 A AT DT CB) (k0_pay143 k0_pay5 A AT DT CB) (k0_pay144 k0_pay7 xx) y = pair5 xx A AT DT CB y := rfl
theorem pair4_c : k0_pay141 k0_pay7 (k0_pay137 k0_pay5 A AT DT b c (constant S128x128 FTy.f32 0#32)) (k0_pay138 k0_pay5 A AT DT b c (constant S128x128 FTy.f32 0#32)) (k0_pay139 xx) k0_pay140 y = pair4 xx A AT DT (cbOf b c) y := rfl
theorem pair3_c : k0_pay131 k0_pay5 k0_pay7 xx A AT DT CB (k0_pay129 A) (k0_pay130 AT) y = pair3 xx A AT DT CB y := rfl
theorem pair2_c : k0_pay128 k0_pay5 k0_pay7 xx A AT DT CB y = pair2 xx A AT DT CB y := rfl
theorem pair1_c : k0_pay127 y (k0_pay126 k0_pay5 k0_pay7 xx A AT DT CB) = pair1 xx A AT DT CB y := rfl
theorem pair0_c : k0_pay125 k0_pay7 (k0_pay120 k0_pay5 A AT DT CB) (k0_pay121 k0_pay5 A AT DT CB) (k0_pay122 xx) (k0_pay123 k0_pay7 xx) k0_pay124 y = pair0 xx A AT DT CB y := rfl
theorem pair7_b : k0_pay100 k0_pay5 k0_pay7 xx A AT DT CB y = pair7 xx A AT DT CB y := rfl
theorem pair6_b : k0_pay99 k0_pay5 k0_pay7 xx A AT DT CB y = pair6 xx A AT DT CB y := rfl
theorem pair5_b : k0_pay98 (k0_pay96 k0_pay7 xx) y (k0_pay97 k0_pay5 A AT DT CB) = pair5 xx A AT DT CB y := rfl
theorem pair4_b : k0_pay95 k0_pay7 (k0_pay91 k0_pay5 A AT DT CB) (k0_pay92 k0_pay5 A AT DT CB) (k0_pay93 xx) (k0_pay94 k0_pay7 xx) y = pair4 xx A AT DT CB y := rfl
theorem pair3_b : k0_pay85 k0_pay5 k0_pay7 xx A AT DT CB (k0_pay83 AT) (k0_pay84 A) y = pair3 xx A AT DT CB y := rfl
theorem pair2_b : k0_pay82 k0_pay5 k0_pay7 xx A AT DT CB y = pair2 xx A AT DT CB y := rfl
theorem pair1_b : k0_pay81 (k0_pay80 k0_pay5 k0_pay7 xx A AT DT CB y) = pair1 xx A AT DT CB y := rfl
theorem pair0_b : k0_pay79 k0_pay7 (k0_pay74 k0_pay5 A AT DT CB) (k0_pay75 k0_pay5 A AT DT CB) (k0_pay76 xx) (k0_pay77 k0_pay7 xx) k0_pay78 y = pair0 xx A AT DT CB y := rfl
theorem pair7_a : k0_pay54 k0_pay5 k0_pay7 xx A AT DT CB (k0_pay53 A) y = pair7 xx A AT DT CB y := rfl
theorem pair6_a : k0_pay52 k0_pay5 k0_pay7 xx A AT DT CB y = pair6 xx A AT DT CB y := rfl
theorem pair5_a : k0_pay51 (k0_pay49 k0_pay7 xx) y (k0_pay50 k0_pay5 A AT DT CB) (constant S128x128 FTy.f32 0#32) = pair5 xx A AT DT CB y := rfl
theorem pair4_a : k0_pay48 k0_pay7 (k0_pay44 k0_pay5 A AT DT CB) (k0_pay45 k0_pay5 A AT DT CB) (k0_pay46 xx) (k0_pay47 k0_pay7 xx) 0#32 y = pair4 xx A AT DT CB y := rfl
theorem pair3_a : k0_pay38 k0_pay5 k0_pay7 xx A AT DT CB (k0_pay36 A) (k0_pay37 AT) y = pair3 xx A AT DT CB y := rfl
theorem pair2_a : k0_pay35 k0_pay5 k0_pay7 xx A AT DT CB y = pair2 xx A AT DT CB y := rfl
theorem pair1_a : k0_pay34 (k0_pay33 k0_pay5 k0_pay7 xx A AT DT CB y) = pair1 xx A AT DT CB y := rfl
theorem pair0_a : k0_pay32 (k0_pay27 k0_pay5 A AT DT CB) (k0_pay28 k0_pay5 A AT DT CB) (k0_pay30 k0_pay7 xx) (k0_pay31 k0_pay7 xx) y = pair0 xx A AT DT CB y := rfl

end

end Cert.Proof.Ssd

end
-- ==== Proof.Ssd.Parts.lean ====
/-
  The parts of one chunk in the kernel's body, at an index: the step sizes, the log-decays, their exponentials spread
  over the channels, and the state handed on.
-/
module

public import proofs.«01_k».proof.Proof.Ssd.Heads

@[expose] public section

noncomputable section

namespace Cert.Proof.Ssd

open Idealize.ShloMosaic Idealize.ShloMosaic.TcCoe Cert.SsdIdeal Cert.SsdIdeal.Gen
open scoped BigOperators

/-! ### The spellings in the four chunks -/

section
variable (v7 : FVec Ideal S1x128 .f32) (v9 : FVec Ideal S128x1024 .bf16) (T : FVec Ideal S128x128 .bf16) (m a : FVec Ideal S128x128 .f32)
  (D : Vec Ideal S1x128x128 .f32) (X : Vec Ideal S1x128 .f32) (XX Z : Vec Ideal S1x128x1024 .bf16) (xs Y : FVec Ideal S128x1024 .f32)
  (B C : Vec Ideal S1x128x128 .bf16) (b c : FVec Ideal S128x128 .bf16) (EA : FVec Ideal S128x1024 .f32) (st : Vec Ideal S128x512 .f32)
  (CD : FVec Ideal S1x1024 .f32) (XW : FVec Ideal S128x1024 .bf16) (ds g : Vec Ideal S1x1024 .f32)

/-- The last of a chunk: the skip, the gate and the norm. -/
def lastOf : FVec Ideal S1x128x1024 .bf16 := k0_pay56 (k0_pay55 xs Y ds) Z g

theorem max_b : k0_pay60 D X = k0_pay11 D X := rfl
theorem max_c : k0_pay106 D X = k0_pay11 D X := rfl
theorem abs_b : k0_pay61 D X = k0_pay12 D X := rfl
theorem abs_c : k0_pay107 D X = k0_pay12 D X := rfl
theorem half_b : k0_pay57 XX = k0_pay8 XX := rfl
theorem half_c : k0_pay103 XX = k0_pay8 XX := rfl
theorem half_d : k0_pay150 XX = k0_pay8 XX := rfl
theorem full_b : k0_pay58 XX = k0_pay9 XX := rfl
theorem full_c : k0_pay104 XX = k0_pay9 XX := rfl
theorem full_d : k0_pay151 XX = k0_pay9 XX := rfl
theorem acs_b : k0_pay63 v7 T m a (FloatOps.ofBits FTy.f32 0#32) = k0_pay15 v7 T m a k0_pay13 := rfl
theorem acs_c : k0_pay109 v7 T m a = k0_pay15 v7 T m a k0_pay13 := rfl
theorem acs_d : k0_pay155 v7 T (k0_pay152 D X) (k0_pay153 D X) = k0_pay15 v7 T (k0_pay11 D X) (k0_pay12 D X) k0_pay13 := rfl
theorem acsT_b : k0_pay64 v7 T m a (FloatOps.ofBits FTy.f32 0#32) = k0_pay16 v7 T m a k0_pay13 := rfl
theorem acsT_c : k0_pay110 v7 T m a = k0_pay16 v7 T m a k0_pay13 := rfl
theorem acsT_d : k0_pay156 v7 T (k0_pay152 D X) (k0_pay153 D X) = k0_pay16 v7 T (k0_pay11 D X) (k0_pay12 D X) k0_pay13 := rfl
theorem dtT_b : k0_pay65 m a (FloatOps.ofBits FTy.f32 0#32) = k0_pay17 m a k0_pay13 := rfl
theorem dtT_c : k0_pay111 m a = k0_pay17 m a k0_pay13 := rfl
theorem dtT_d : k0_pay157 (k0_pay152 D X) (k0_pay153 D X) = k0_pay17 (k0_pay11 D X) (k0_pay12 D X) k0_pay13 := rfl
theorem ea_b : k0_pay66 v7 v9 T m a (FloatOps.ofBits FTy.f32 0#32) = k0_pay18 v7 v9 T m a k0_pay13 := rfl
theorem ea_c : k0_pay112 v7 v9 T m a = k0_pay18 v7 v9 T m a k0_pay13 := rfl
theorem ea_d : k0_pay158 v7 v9 T (k0_pay152 D X) (k0_pay153 D X) = k0_pay18 v7 v9 T (k0_pay11 D X) (k0_pay12 D X) k0_pay13 := rfl
theorem cd_b : k0_pay67 v7 v9 T m a (FloatOps.ofBits FTy.f32 0#32) = k0_pay19 v7 v9 T m a k0_pay13 := rfl
theorem cd_c : k0_pay113 v7 v9 T m a = k0_pay19 v7 v9 T m a k0_pay13 := rfl
theorem cd_d : k0_pay159 v7 v9 T (k0_pay152 D X) (k0_pay153 D X) = k0_pay19 v7 v9 T (k0_pay11 D X) (k0_pay12 D X) k0_pay13 := rfl
theorem xw_b : k0_pay68 v7 v9 T xs m a (FloatOps.ofBits FTy.f32 0#32) = k0_pay20 v7 v9 T xs m a k0_pay13 := rfl
theorem xw_c : k0_pay114 v7 v9 T xs m a = k0_pay20 v7 v9 T xs m a k0_pay13 := rfl
theorem xw_d : k0_pay160 v7 v9 T xs (k0_pay152 D X) (k0_pay153 D X) = k0_pay20 v7 v9 T xs (k0_pay11 D X) (k0_pay12 D X) k0_pay13 := rfl
theorem cast_39 : k0_pay39 B = k0_pay21 B := rfl
theorem cast_69 : k0_pay69 B = k0_pay21 B := rfl
theorem cast_86 : k0_pay86 B = k0_pay21 B := rfl
theorem cast_115 : k0_pay115 B = k0_pay21 B := rfl
theorem cast_132 : k0_pay132 B = k0_pay21 B := rfl
theorem cast_161 : k0_pay161 B = k0_pay21 B := rfl
theorem cast_177 : k0_pay177 B = k0_pay21 B := rfl
theorem cast_22 : k0_pay22 B = k0_pay21 B := rfl
theorem cast_40 : k0_pay40 B = k0_pay21 B := rfl
theorem cast_70 : k0_pay70 B = k0_pay21 B := rfl
theorem cast_87 : k0_pay87 B = k0_pay21 B := rfl
theorem cast_116 : k0_pay116 B = k0_pay21 B := rfl
theorem cast_133 : k0_pay133 B = k0_pay21 B := rfl
theorem cast_162 : k0_pay162 B = k0_pay21 B := rfl
theorem cast_178 : k0_pay178 B = k0_pay21 B := rfl
theorem cb_23 : k0_pay23 B C = cbOf (k0_pay21 B) (k0_pay21 C) := rfl
theorem cb_41 : k0_pay41 B C = cbOf (k0_pay21 B) (k0_pay21 C) := rfl
theorem cb_71 : k0_pay71 B C = cbOf (k0_pay21 B) (k0_pay21 C) := rfl
theorem cb_88 : k0_pay88 B C = cbOf (k0_pay21 B) (k0_pay21 C) := rfl
theorem cb_117 : k0_pay117 B C = cbOf (k0_pay21 B) (k0_pay21 C) := rfl
theorem cb_163 : k0_pay163 B C = cbOf (k0_pay21 B) (k0_pay21 C) := rfl
theorem cb_134 : k0_pay134 b c (constant S128x128 FTy.f32 0#32) = cbOf b c := rfl
theorem cb_179 : k0_pay179 b c = cbOf b c := rfl
theorem off_a : k0_pay25 EA c (k0_pay24 st) = k0_pay72 EA c st := rfl
theorem off_c : k0_pay118 EA c st = k0_pay72 EA c st := rfl
theorem off_d : k0_pay164 EA c st = k0_pay72 EA c st := rfl
theorem offR_b : k0_pay89 EA c st = k0_pay42 EA c st := rfl
theorem offR_c : k0_pay135 EA c st = k0_pay42 EA c st := rfl
theorem offR_d : k0_pay180 EA c st = k0_pay42 EA c st := rfl
theorem next_b : k0_pay73 CD XW b st = k0_pay26 CD XW b st := rfl
theorem next_c : k0_pay119 CD XW b st = k0_pay26 CD XW b st := rfl
theorem next_d : k0_pay165 CD XW b st = k0_pay26 CD XW b st := rfl
theorem nextR_b : k0_pay90 CD XW b st = k0_pay43 CD XW b st := rfl
theorem nextR_c : k0_pay136 CD XW b st = k0_pay43 CD XW b st := rfl
theorem nextR_d : k0_pay181 CD XW b st = k0_pay43 CD XW b st := rfl
theorem last_a : k0_pay56 (k0_pay55 xs Y ds) Z g = lastOf Z xs Y ds g := rfl
theorem last_b : k0_pay102 Y (k0_pay101 xs ds) Z g = lastOf Z xs Y ds g := rfl
theorem last_c : k0_pay149 xs Y (k0_pay148 ds) Z g = lastOf Z xs Y ds g := rfl
theorem last_d : k0_pay1 (k0_pay195 xs Y (k0_pay194 ds) Z) (k0_pay196 g) (k0_pay197 xs Y (k0_pay194 ds) Z) k0_pay198 = lastOf Z xs Y ds g := rfl

end

/-! ### The parts at an index -/

/-- The lane that holds a channel's head. -/
def lane (c : Fin 1024) : Fin 128 := ⟨c.val / 64, by omega⟩

/-- The lane that holds a head. -/
def laneOf (h : Fin 16) : Fin 128 := ⟨h.val, by omega⟩

section
variable (D : Vec Ideal S1x128x128 .f32) (X3 X4 : Vec Ideal S1x128 .f32) (X7 : Vec Ideal S128x1024 .bf16)

/-- The step sizes, lane by lane. -/
def dtL (i l : Fin 128) : EReal := softplus (D (ix3 0 i l) + X3 (ix2 0 l))

/-- The decay rates, lane by lane. -/
def aL (l : Fin 128) : EReal := 0 - Ideal.exp (X4 (ix2 0 l))

/-- The log-decays, lane by lane. -/
def acsL (i l : Fin 128) : EReal := ∑ j, if j ≤ i then dtL D X3 j l * aL X4 l else 0

theorem step_nonpos (i l : Fin 128) : dtL D X3 i l * aL X4 l ≤ 0 := mul_nonpos (softplus_nonneg _) (decay_nonpos _)

theorem acsL_nonpos (i l : Fin 128) : acsL D X3 X4 i l ≤ 0 := acs_nonpos _ (fun k => step_nonpos D X3 X4 k l) i

abbrev dtV : FVec Ideal S128x128 .f32 := k0_pay14 (k0_pay11 D X3) (k0_pay12 D X3) k0_pay13
abbrev acsV : FVec Ideal S128x128 .f32 := k0_pay15 (k0_pay3 X4) k0_pay6 (k0_pay11 D X3) (k0_pay12 D X3) k0_pay13
abbrev acsT : FVec Ideal S128x128 .f32 := k0_pay16 (k0_pay3 X4) k0_pay6 (k0_pay11 D X3) (k0_pay12 D X3) k0_pay13
abbrev dtT : FVec Ideal S128x128 .f32 := k0_pay17 (k0_pay11 D X3) (k0_pay12 D X3) k0_pay13
abbrev eaV : FVec Ideal S128x1024 .f32 := k0_pay18 (k0_pay3 X4) (k0_pay4 X7) k0_pay6 (k0_pay11 D X3) (k0_pay12 D X3) k0_pay13
abbrev cdV : FVec Ideal S1x1024 .f32 := k0_pay19 (k0_pay3 X4) (k0_pay4 X7) k0_pay6 (k0_pay11 D X3) (k0_pay12 D X3) k0_pay13
abbrev xwV (XX : Vec Ideal S1x128x1024 .bf16) : FVec Ideal S128x1024 .bf16 :=
  k0_pay20 (k0_pay3 X4) (k0_pay4 X7) k0_pay6 (k0_pay9 XX) (k0_pay11 D X3) (k0_pay12 D X3) k0_pay13

theorem dtV_apply (i l : Fin 128) : dtV D X3 (ix2 i l) = dtL D X3 i l := by
  unfold dtL softplus
  pointwise [k0_pay14, k0_pay13, k0_pay11, k0_pay12, k0_pay10]
  rfl

theorem tri_apply (i j : Fin 128) : (k0_pay6 : FVec Ideal S128x128 .bf16) (ix2 i j) = if j ≤ i then 1 else 0 := by
  pointwise [k0_pay6, k0_pay5]
  exact select_le i j 1 0

theorem rate_apply (l : Fin 128) : k0_pay3 X4 (ix2 0 l) = aL X4 l := by
  unfold aL
  pointwise [k0_pay3]

theorem acsV_apply (i l : Fin 128) : acsV D X3 X4 (ix2 i l) = acsL D X3 X4 i l := by
  refine Eq.trans ?_ (sum3 _ (fun k => step_nonpos D X3 X4 k l) i)
  simp only [← tri_apply, ← rate_apply, ← dtV_apply]
  pointwise [acsV, k0_pay15]

theorem acsT_apply (l j : Fin 128) : acsT D X3 X4 (ix2 l j) = acsL D X3 X4 j l := by
  rw [← acsV_apply]
  pointwise [acsT, k0_pay16]

theorem dtT_apply (l j : Fin 128) : dtT D X3 (ix2 l j) = dtL D X3 j l := by
  rw [← dtV_apply]
  pointwise [dtT, k0_pay17]

variable (hE : ∀ (l : Fin 128) (c : Fin 1024), X7 (ix2 l c) = if l = lane c then 1 else 0)
include hE

theorem eaV_apply (i : Fin 128) (c : Fin 1024) : eaV D X3 X4 X7 (ix2 i c) = Ideal.exp (acsL D X3 X4 i (lane c)) := by
  have h := sum_pick2 (fun l => Ideal.exp (acsL D X3 X4 i l)) (lane c) (exp_nonneg _)
    (exp_ne_top (ne_top_of_le_ne_top EReal.zero_ne_top (acsL_nonpos D X3 X4 i _)))
  refine Eq.trans ?_ h
  simp only [← acsV_apply, ← hE]
  pointwise [eaV, k0_pay18, k0_pay4]

theorem cdV_apply (c : Fin 1024) : cdV D X3 X4 X7 (ix2 0 c) = Ideal.exp (acsL D X3 X4 127 (lane c)) := by
  rw [← eaV_apply D X3 X4 X7 hE]
  pointwise [cdV, k0_pay19]

theorem xwV_apply (XX : Vec Ideal S1x128x1024 .bf16) (i : Fin 128) (c : Fin 1024) :
    xwV D X3 X4 X7 XX (ix2 i c)
      = XX (ix3 0 i c) * (Ideal.exp (acsL D X3 X4 127 (lane c) - acsL D X3 X4 i (lane c)) * dtL D X3 i (lane c)) := by
  rw [← sum_pick (fun l => Ideal.exp (acsL D X3 X4 127 l - acsL D X3 X4 i l) * dtL D X3 i l) (lane c)]
  simp only [← acsV_apply, ← dtV_apply, ← hE]
  pointwise [xwV, k0_pay20, k0_pay4, k0_pay9, k0_pay8]

end

theorem cast_apply (B : Vec Ideal S1x128x128 .bf16) (i n : Fin 128) : k0_pay21 B (ix2 i n) = B (ix3 0 i n) := by
  pointwise [k0_pay21]

theorem off_apply (EA : FVec Ideal S128x1024 .f32) (c : FVec Ideal S128x128 .bf16) (st : Vec Ideal S128x512 .f32) (i : Fin 128) (d : Fin 512) :
    k0_pay72 EA c st (ix2 i d) = (∑ n, c (ix2 i n) * st (ix2 n d)) * EA (ix2 i ⟨d.val, by omega⟩) := by
  pointwise [k0_pay72]

theorem offR_apply (EA : FVec Ideal S128x1024 .f32) (c : FVec Ideal S128x128 .bf16) (st : Vec Ideal S128x512 .f32) (i : Fin 128) (d : Fin 512) :
    k0_pay42 EA c st (ix2 i d) = (∑ n, c (ix2 i n) * st (ix2 n d)) * EA (ix2 i ⟨512 + d.val, by omega⟩) := by
  pointwise [k0_pay42]

theorem next_apply (CD : FVec Ideal S1x1024 .f32) (XW : FVec Ideal S128x1024 .bf16) (b : FVec Ideal S128x128 .bf16) (st : Vec Ideal S128x512 .f32)
    (n : Fin 128) (d : Fin 512) :
    k0_pay26 CD XW b st (ix2 n d) = st (ix2 n d) * CD (ix2 0 ⟨d.val, by omega⟩) + ∑ i, b (ix2 i n) * XW (ix2 i ⟨d.val, by omega⟩) := by
  pointwise [k0_pay26]

theorem nextR_apply (CD : FVec Ideal S1x1024 .f32) (XW : FVec Ideal S128x1024 .bf16) (b : FVec Ideal S128x128 .bf16) (st : Vec Ideal S128x512 .f32)
    (n : Fin 128) (d : Fin 512) :
    k0_pay43 CD XW b st (ix2 n d)
      = st (ix2 n d) * CD (ix2 0 ⟨512 + d.val, by omega⟩) + ∑ i, b (ix2 i n) * XW (ix2 i ⟨512 + d.val, by omega⟩) := by
  pointwise [k0_pay43]

theorem last_apply (XX Z : Vec Ideal S1x128x1024 .bf16) (Y : Vec Ideal S128x1024 .f32) (ds g : Vec Ideal S1x1024 .f32) (i : Fin 128) (c : Fin 1024) :
    lastOf Z (k0_pay9 XX) Y ds g (ix3 0 i c)
      = rms (fun c => g (ix2 0 c)) (fun c => (Y (ix2 i c) + ds (ix2 0 c) * XX (ix3 0 i c)) * Z (ix3 0 i c)) c := by
  pointwise [lastOf, k0_pay56, k0_pay55, k0_pay9, k0_pay8]
  rfl

end Cert.Proof.Ssd

end
-- ==== Proof.Ssd.Tile.lean ====
/-
  The buffers of the recurrence's body that hold 128 rows of 1024 columns, read after writes of columns; and one chunk of
  the body: its output and the state it hands on.
-/
module

public import proofs.«01_k».proof.Proof.Ssd.Parts
public import Idealize.ShloMosaic.Lib.Pipeline.ReadBack
public import Idealize.ShloMosaic.Lib.Pipeline.ValueKit.Tiles

@[expose] public section

noncomputable section

namespace Cert.Proof.Ssd

open Idealize.ShloMosaic Idealize.ShloMosaic.TcCoe Cert.SsdIdeal Cert.SsdIdeal.Gen
open scoped BigOperators

/-- Off a write, the earlier writes. -/
theorem canon_off (a n : ℕ) (i : ∀ x, ![0, a] x + ![128, n] x ≤ S128x1024.size x)
    (w : Vec Ideal (⟨2, ![128, n]⟩ : Shape) .f32) (L : List (View.Piece (Elt Ideal) S128x1024 .f32)) (r : Fin 128) (c : Fin 1024)
    (h : c.val < a ∨ a + n ≤ c.val) :
    View.canon ((⟨Rect.unit ![0, a] ![128, n] i, w⟩ : View.Piece (Elt Ideal) S128x1024 .f32) :: L) (ix2 r c) = View.canon L (ix2 r c) := by
  refine View.canon_cons_of_not_mem _ _ ?_
  intro hm
  have := (Rect.mem_set_unit (inb := i)).mp hm 1
  have e : a ≤ c.val ∧ c.val < a + n := this
  omega

/-- On a write, what it wrote. -/
theorem canon_on (a n : ℕ) (i : ∀ x, ![0, a] x + ![128, n] x ≤ S128x1024.size x)
    (w : Vec Ideal (⟨2, ![128, n]⟩ : Shape) .f32) (L : List (View.Piece (Elt Ideal) S128x1024 .f32)) (r : Fin 128) (c : Fin 1024) (d : Fin n)
    (h : c.val = a + d.val) :
    View.canon ((⟨Rect.unit ![0, a] ![128, n] i, w⟩ : View.Piece (Elt Ideal) S128x1024 .f32) :: L) (ix2 r c) = w (ix2 r d) := by
  have e : (ix2 r c : S128x1024.Idx) = (Rect.unit ![0, a] ![128, n] i : Rect S128x1024).emb (ix2 r d : (⟨2, ![128, n]⟩ : Shape).Idx) := by
    funext x
    apply Fin.ext
    fin_cases x
    · show r.val = 0 + 1 * r.val; omega
    · show c.val = a + 1 * d.val; omega
  rw [e]
  exact View.canon_cons_emb _ _ _ _

/-- A window's index. -/
theorem window_idx (b n : ℕ) (i : ∀ x, ![0, b] x + ![128, n] x ≤ S128x1024.size x) (j : (⟨2, ![128, n]⟩ : Shape).Idx) (r : Fin 128) (c : Fin 1024)
    (h0 : (j 0).val = r.val) (h1 : b + (j 1).val = c.val) :
    (Rect.unit ![0, b] ![128, n] i : Rect S128x1024).toLoadRect.idx j = ix2 r c := by
  funext x
  apply Fin.ext
  fin_cases x
  · show 0 + 1 * (j 0).val = r.val; omega
  · show b + 1 * (j 1).val = c.val; omega

theorem win_bound {b n : ℕ} (i : ∀ x, ![0, b] x + ![128, n] x ≤ S128x1024.size x) : b + n ≤ 1024 := i 1

/-- A load of columns skips a write of other columns. -/
theorem rc_skip {sig : RefSig} {κ : Kind} {sp : Space} (v : View sig κ sp S128x1024 .f32) (a n b n' : ℕ)
    (i : ∀ x, ![0, a] x + ![128, n] x ≤ S128x1024.size x) (i' : ∀ x, ![0, b] x + ![128, n'] x ≤ S128x1024.size x)
    (w : Vec Ideal (⟨2, ![128, n]⟩ : Shape) .f32) (L : List (View.Piece (Elt Ideal) S128x1024 .f32)) (h : (decide (a + n ≤ b) || decide (b + n' ≤ a)) = true) :
    v.readCov ((⟨Rect.unit ![0, a] ![128, n] i, w⟩ : View.Piece (Elt Ideal) S128x1024 .f32) :: L) (Rect.unit ![0, b] ![128, n'] i').toLoadRect
      = v.readCov L (Rect.unit ![0, b] ![128, n'] i').toLoadRect := by
  rw [View.readCov_eq_canon', View.readCov_eq_canon']
  funext (j : (⟨2, ![128, n']⟩ : Shape).Idx)
  have hb := win_bound i'
  have hj : (j 1).val < n' := (j 1).isLt
  have e := window_idx b n' i' j (j 0 : Fin 128) ⟨b + (j 1).val, by omega⟩ rfl rfl
  show View.canon _ _ = View.canon _ _
  rw [e]
  simp only [Bool.or_eq_true, decide_eq_true_eq] at h
  exact canon_off a n i w L _ _ (by show b + (j 1).val < a ∨ a + n ≤ b + (j 1).val; omega)

/-- A load of the columns just written. -/
theorem rc_same {sig : RefSig} {κ : Kind} {sp : Space} (v : View sig κ sp S128x1024 .f32) (a n : ℕ)
    (i : ∀ x, ![0, a] x + ![128, n] x ≤ S128x1024.size x)
    (w : Vec Ideal (⟨2, ![128, n]⟩ : Shape) .f32) (L : List (View.Piece (Elt Ideal) S128x1024 .f32)) :
    v.readCov ((⟨Rect.unit ![0, a] ![128, n] i, w⟩ : View.Piece (Elt Ideal) S128x1024 .f32) :: L) (Rect.unit ![0, a] ![128, n] i).toLoadRect
      = w := by
  rw [View.readCov_eq_canon']
  funext (j : (⟨2, ![128, n]⟩ : Shape).Idx)
  have hb := win_bound i
  have hj : (j 1).val < n := (j 1).isLt
  have e := window_idx a n i j (j 0 : Fin 128) ⟨a + (j 1).val, by omega⟩ rfl rfl
  show View.canon _ _ = _
  rw [e]
  refine (canon_on a n i w L _ _ (j 1 : Fin n) rfl).trans ?_
  exact congrArg w (eq_ix2 j).symm

/-- The 128 columns from `b` of the 512 columns from `a`. -/
def win (a b : ℕ) (h : (decide (a ≤ b) && decide (b + 128 ≤ a + 512)) = true) (w : Vec Ideal S128x512 .f32) : Vec Ideal S128x128 .f32 :=
  fun j => w (ix2 (j 0 : Fin 128) (⟨b - a + (j 1).val, by have := (j 1).isLt; simp at h; change (j 1).val < 128 at this; omega⟩ : Fin 512))

theorem win_apply (a b : ℕ) (h : (decide (a ≤ b) && decide (b + 128 ≤ a + 512)) = true) (w : Vec Ideal S128x512 .f32) (i d : Fin 128)
    (l : Fin 512) (e : b + d.val = a + l.val) : win a b h w (ix2 i d) = w (ix2 i l) := by
  unfold win
  have h' := h
  simp only [Bool.and_eq_true, decide_eq_true_eq] at h'
  exact at2 w rfl (by show b - a + d.val = l.val; omega)

/-- A load of 128 of the 512 columns just written. -/
theorem rc_in {sig : RefSig} {κ : Kind} {sp : Space} (v : View sig κ sp S128x1024 .f32) (a b : ℕ)
    (i : ∀ x, ![0, a] x + ![128, 512] x ≤ S128x1024.size x) (i' : ∀ x, ![0, b] x + ![128, 128] x ≤ S128x1024.size x)
    (w : Vec Ideal S128x512 .f32) (L : List (View.Piece (Elt Ideal) S128x1024 .f32)) (h : (decide (a ≤ b) && decide (b + 128 ≤ a + 512)) = true) :
    v.readCov ((⟨Rect.unit ![0, a] ![128, 512] i, w⟩ : View.Piece (Elt Ideal) S128x1024 .f32) :: L) (Rect.unit ![0, b] ![128, 128] i').toLoadRect
      = win a b h w := by
  rw [View.readCov_eq_canon']
  funext (j : (⟨2, ![128, 128]⟩ : Shape).Idx)
  have hb := win_bound i'
  have hj : (j 1).val < 128 := (j 1).isLt
  have e := window_idx b 128 i' j (j 0 : Fin 128) ⟨b + (j 1).val, by omega⟩ rfl rfl
  show View.canon _ _ = _
  rw [e]
  simp only [Bool.and_eq_true, decide_eq_true_eq] at h
  exact canon_on a 512 i w L _ _ ⟨b - a + (j 1).val, by omega⟩ (by show b + (j 1).val = a + (b - a + (j 1).val); omega)

/-- Eight pieces of 128 columns side by side. -/
def glue (w0 w1 w2 w3 w4 w5 w6 w7 : Vec Ideal S128x128 .f32) : Vec Ideal S128x1024 .f32 := fun j =>
  (![w0, w1, w2, w3, w4, w5, w6, w7] ⟨(j 1).val / 128, by have : (j 1).val < 1024 := (j 1).isLt; omega⟩ : Vec Ideal S128x128 .f32)
    (ix2 (j 0 : Fin 128) ⟨(j 1).val % 128, by omega⟩)

/-- A load of all columns after eight writes of 128, whatever lies under them. -/
theorem rc_whole {sig : RefSig} {κ : Kind} {sp : Space} (v : View sig κ sp S128x1024 .f32) (w0 w1 w2 w3 w4 w5 w6 w7 : Vec Ideal S128x128 .f32)
    (u0 u1 : Vec Ideal S128x512 .f32) (L : List (View.Piece (Elt Ideal) S128x1024 .f32)) (i0 i1 i2 i3 i4 i5 i6 i7 j0 j1) (iw) :
    v.readCov ((⟨Rect.unit ![0, 896] ![128, 128] i7, w7⟩ : View.Piece (Elt Ideal) S128x1024 .f32) :: ⟨Rect.unit ![0, 768] ![128, 128] i6, w6⟩
      :: ⟨Rect.unit ![0, 640] ![128, 128] i5, w5⟩ :: ⟨Rect.unit ![0, 512] ![128, 128] i4, w4⟩ :: ⟨Rect.unit ![0, 512] ![128, 512] j1, u1⟩
      :: ⟨Rect.unit ![0, 384] ![128, 128] i3, w3⟩ :: ⟨Rect.unit ![0, 256] ![128, 128] i2, w2⟩ :: ⟨Rect.unit ![0, 128] ![128, 128] i1, w1⟩
      :: ⟨Rect.unit ![0, 0] ![128, 128] i0, w0⟩ :: ⟨Rect.unit ![0, 0] ![128, 512] j0, u0⟩ :: L)
      (Rect.unit ![0, 0] ![128, 1024] iw : Rect S128x1024).toLoadRect = glue w0 w1 w2 w3 w4 w5 w6 w7 := by
  rw [View.readCov_eq_canon']
  funext (j : (⟨2, ![128, 1024]⟩ : Shape).Idx)
  obtain ⟨r, c, rfl⟩ : ∃ (r : Fin 128) (c : Fin 1024), j = ix2 r c := ⟨j 0, j 1, eq_ix2 j⟩
  have e := window_idx 0 1024 iw (ix2 r c) r c rfl (Nat.zero_add _)
  show View.canon _ _ = _
  rw [e]
  have hc := c.isLt
  have key : ∀ (k : Fin 8) (w : Vec Ideal S128x128 .f32), c.val / 128 = k.val → ![w0, w1, w2, w3, w4, w5, w6, w7] k = w →
      w (ix2 r ⟨c.val % 128, by omega⟩) = glue w0 w1 w2 w3 w4 w5 w6 w7 (ix2 r c) := by
    intro k w hk hw
    unfold glue
    have ek : (⟨c.val / 128, by omega⟩ : Fin 8) = k := Fin.ext hk
    show _ = (![w0, w1, w2, w3, w4, w5, w6, w7] (⟨c.val / 128, _⟩ : Fin 8) : Vec Ideal S128x128 .f32) _
    rw [ek, hw]
    rfl
  by_cases h7 : 896 ≤ c.val
  · rw [canon_on 896 128 i7 w7 _ r c ⟨c.val % 128, by omega⟩ (by show c.val = 896 + c.val % 128; omega)]
    exact key 7 w7 (by show c.val / 128 = 7; omega) rfl
  rw [canon_off 896 128 i7 w7 _ r c (by omega)]
  by_cases h6 : 768 ≤ c.val
  · rw [canon_on 768 128 i6 w6 _ r c ⟨c.val % 128, by omega⟩ (by show c.val = 768 + c.val % 128; omega)]
    exact key 6 w6 (by show c.val / 128 = 6; omega) rfl
  rw [canon_off 768 128 i6 w6 _ r c (by omega)]
  by_cases h5 : 640 ≤ c.val
  · rw [canon_on 640 128 i5 w5 _ r c ⟨c.val % 128, by omega⟩ (by show c.val = 640 + c.val % 128; omega)]
    exact key 5 w5 (by show c.val / 128 = 5; omega) rfl
  rw [canon_off 640 128 i5 w5 _ r c (by omega)]
  by_cases h4 : 512 ≤ c.val
  · rw [canon_on 512 128 i4 w4 _ r c ⟨c.val % 128, by omega⟩ (by show c.val = 512 + c.val % 128; omega)]
    exact key 4 w4 (by show c.val / 128 = 4; omega) rfl
  rw [canon_off 512 128 i4 w4 _ r c (by omega), canon_off 512 512 j1 u1 _ r c (by omega)]
  by_cases h3 : 384 ≤ c.val
  · rw [canon_on 384 128 i3 w3 _ r c ⟨c.val % 128, by omega⟩ (by show c.val = 384 + c.val % 128; omega)]
    exact key 3 w3 (by show c.val / 128 = 3; omega) rfl
  rw [canon_off 384 128 i3 w3 _ r c (by omega)]
  by_cases h2 : 256 ≤ c.val
  · rw [canon_on 256 128 i2 w2 _ r c ⟨c.val % 128, by omega⟩ (by show c.val = 256 + c.val % 128; omega)]
    exact key 2 w2 (by show c.val / 128 = 2; omega) rfl
  rw [canon_off 256 128 i2 w2 _ r c (by omega)]
  by_cases h1 : 128 ≤ c.val
  · rw [canon_on 128 128 i1 w1 _ r c ⟨c.val % 128, by omega⟩ (by show c.val = 128 + c.val % 128; omega)]
    exact key 1 w1 (by show c.val / 128 = 1; omega) rfl
  rw [canon_off 128 128 i1 w1 _ r c (by omega), canon_on 0 128 i0 w0 _ r c ⟨c.val % 128, by omega⟩ (by show c.val = 0 + c.val % 128; omega)]
  exact key 0 w0 (by show c.val / 128 = 0; omega) rfl

/-! ### One chunk -/

section
variable (D : Vec Ideal S1x128x128 .f32) (X3 X4 : Vec Ideal S1x128 .f32) (X7 : Vec Ideal S128x1024 .bf16) (XX : Vec Ideal S1x128x1024 .bf16)
  (B0 B1 C0 C1 : Vec Ideal S1x128x128 .bf16) (s0 s1 : Vec Ideal S128x512 .f32)

/-- The chunk that a block's rows hold. -/
def chunkOf : Chunk where
  x i c := XX (ix3 0 i c)
  B g i n := if g.val = 0 then B0 (ix3 0 i n) else B1 (ix3 0 i n)
  C g i n := if g.val = 0 then C0 (ix3 0 i n) else C1 (ix3 0 i n)
  dt i h := dtL D X3 i (laneOf h)

/-- The decay rates, head by head. -/
def rates (h : Fin 16) : EReal := aL X4 (laneOf h)

/-- The output's first half so far: what the state gives. -/
abbrev off0 : Vec Ideal S128x512 .f32 := k0_pay72 (eaV D X3 X4 X7) (k0_pay21 C0) s0
abbrev off1 : Vec Ideal S128x512 .f32 := k0_pay42 (eaV D X3 X4 X7) (k0_pay21 C1) s1

/-- The chunk's output as the body has it. -/
def chunkY : Vec Ideal S128x1024 .f32 :=
  glue (pair0 (k0_pay8 XX) (acsV D X3 X4) (acsT D X3 X4) (dtT D X3) (cbOf (k0_pay21 B0) (k0_pay21 C0)) (win 0 0 (by decide) (off0 D X3 X4 X7 C0 s0)))
    (pair1 (k0_pay8 XX) (acsV D X3 X4) (acsT D X3 X4) (dtT D X3) (cbOf (k0_pay21 B0) (k0_pay21 C0)) (win 0 128 (by decide) (off0 D X3 X4 X7 C0 s0)))
    (pair2 (k0_pay8 XX) (acsV D X3 X4) (acsT D X3 X4) (dtT D X3) (cbOf (k0_pay21 B0) (k0_pay21 C0)) (win 0 256 (by decide) (off0 D X3 X4 X7 C0 s0)))
    (pair3 (k0_pay8 XX) (acsV D X3 X4) (acsT D X3 X4) (dtT D X3) (cbOf (k0_pay21 B0) (k0_pay21 C0)) (win 0 384 (by decide) (off0 D X3 X4 X7 C0 s0)))
    (pair4 (k0_pay8 XX) (acsV D X3 X4) (acsT D X3 X4) (dtT D X3) (cbOf (k0_pay21 B1) (k0_pay21 C1)) (win 512 512 (by decide) (off1 D X3 X4 X7 C1 s1)))
    (pair5 (k0_pay8 XX) (acsV D X3 X4) (acsT D X3 X4) (dtT D X3) (cbOf (k0_pay21 B1) (k0_pay21 C1)) (win 512 640 (by decide) (off1 D X3 X4 X7 C1 s1)))
    (pair6 (k0_pay8 XX) (acsV D X3 X4) (acsT D X3 X4) (dtT D X3) (cbOf (k0_pay21 B1) (k0_pay21 C1)) (win 512 768 (by decide) (off1 D X3 X4 X7 C1 s1)))
    (pair7 (k0_pay8 XX) (acsV D X3 X4) (acsT D X3 X4) (dtT D X3) (cbOf (k0_pay21 B1) (k0_pay21 C1)) (win 512 896 (by decide) (off1 D X3 X4 X7 C1 s1)))

/-- The two halves of the state after the chunk as the body has them. -/
abbrev next0 : Vec Ideal S128x512 .f32 := k0_pay26 (cdV D X3 X4 X7) (xwV D X3 X4 X7 XX) (k0_pay21 B0) s0
abbrev next1 : Vec Ideal S128x512 .f32 := k0_pay43 (cdV D X3 X4 X7) (xwV D X3 X4 X7 XX) (k0_pay21 B1) s1

theorem full_apply (j : Fin 128) (c : Fin 1024) : k0_pay8 XX (ix2 j c) = XX (ix3 0 j c) := by
  pointwise [k0_pay8]

/-- Two halves hold a state. -/
def Halves (st : Fin 128 → Fin 1024 → EReal) : Prop :=
  (∀ (n : Fin 128) (d : Fin 512), s0 (ix2 n d) = st n ⟨d.val, by omega⟩) ∧ ∀ (n : Fin 128) (d : Fin 512), s1 (ix2 n d) = st n ⟨512 + d.val, by omega⟩

variable (hE : ∀ (l : Fin 128) (c : Fin 1024), X7 (ix2 l c) = if l = lane c then 1 else 0)
  (st : Fin 128 → Fin 1024 → EReal) (hs : Halves s0 s1 st)
include hE hs

theorem chunk_next :
    Halves (next0 D X3 X4 X7 XX B0 s0) (next1 D X3 X4 X7 XX B1 s1) ((chunkOf D X3 XX B0 B1 C0 C1).next (rates X4) st) := by
  constructor
  · intro n d
    have hd := d.isLt
    have hg : (gp ⟨d.val, by omega⟩).val = 0 := by show d.val / 512 = 0; omega
    unfold next0
    rw [next_apply, hs.1, cdV_apply D X3 X4 X7 hE]
    unfold Chunk.next
    congr 1
    refine Finset.sum_congr rfl fun i _ => ?_
    rw [xwV_apply D X3 X4 X7 hE, cast_apply]
    show _ = (if (gp ⟨d.val, _⟩).val = 0 then B0 (ix3 0 i n) else B1 (ix3 0 i n)) * _
    rw [if_pos hg]
    rfl
  · intro n d
    have hd := d.isLt
    have hg : ¬ (gp ⟨512 + d.val, by omega⟩).val = 0 := by show ¬ (512 + d.val) / 512 = 0; omega
    unfold next1
    rw [nextR_apply, hs.2, cdV_apply D X3 X4 X7 hE]
    unfold Chunk.next
    congr 1
    refine Finset.sum_congr rfl fun i _ => ?_
    rw [xwV_apply D X3 X4 X7 hE, cast_apply]
    show _ = (if (gp ⟨512 + d.val, _⟩).val = 0 then B0 (ix3 0 i n) else B1 (ix3 0 i n)) * _
    rw [if_neg hg]
    rfl

/-- A pair of heads of the first half. -/
theorem left_apply (h h' : ℕ) (s : S128x128.Slices ![0, h] S128x1) (s' : S128x128.Slices ![h, 0] S1x128)
    (t : S128x128.Slices ![0, h'] S128x1) (t' : S128x128.Slices ![h', 0] S1x128) (o : ℕ) (u : S128x1024.Slices ![0, o] S128x128)
    (hw : (decide (0 ≤ o) && decide (o + 128 ≤ 0 + 512)) = true) (ho : o = 64 * h) (hh : h' = h + 1) (i : Fin 128) (c : Fin 1024)
    (d : Fin 128) (hc : c.val = o + d.val) :
    pair h h' s s' t t' o u (k0_pay8 XX) (acsV D X3 X4) (acsT D X3 X4) (dtT D X3) (cbOf (k0_pay21 B0) (k0_pay21 C0))
        (win 0 o hw (off0 D X3 X4 X7 C0 s0)) (ix2 i d)
      = (chunkOf D X3 XX B0 B1 C0 C1).y (rates X4) st i c := by
  have hw' := hw
  simp only [Bool.and_eq_true, decide_eq_true_eq] at hw'
  have hd := d.isLt
  have hg : (gp c).val = 0 := by show c.val / 512 = 0; omega
  unfold off0
  rw [pair_apply h h' s s' t t' o u _ _ _ _ _ _ (by omega) (by omega) (by omega) (lane c) i d
    (by show c.val / 64 = _; split <;> omega), win_apply 0 o hw _ i d ⟨c.val, by omega⟩ (by show o + d.val = 0 + c.val; omega),
    off_apply, eaV_apply D X3 X4 X7 hE]
  unfold Chunk.y
  congr 1
  · show _ = (∑ n, (if (gp c).val = 0 then C0 (ix3 0 i n) else C1 (ix3 0 i n)) * _) * _
    simp only [if_pos hg, cast_apply, hs.1]
    rfl
  · refine Finset.sum_congr rfl fun j _ => ?_
    rw [cbOf_apply, full_apply, acsV_apply, acsT_apply, dtT_apply]
    show _ = (∑ n, (if (gp c).val = 0 then C0 (ix3 0 i n) else C1 (ix3 0 i n)) * (if (gp c).val = 0 then B0 (ix3 0 j n) else B1 (ix3 0 j n))) * _ * _ * _
    simp only [if_pos hg, cast_apply]
    rw [show (⟨o + d.val, by omega⟩ : Fin 1024) = c from Fin.ext hc.symm]
    rfl

/-- A pair of heads of the second half. -/
theorem right_apply (h h' : ℕ) (s : S128x128.Slices ![0, h] S128x1) (s' : S128x128.Slices ![h, 0] S1x128)
    (t : S128x128.Slices ![0, h'] S128x1) (t' : S128x128.Slices ![h', 0] S1x128) (o : ℕ) (u : S128x1024.Slices ![0, o] S128x128)
    (hw : (decide (512 ≤ o) && decide (o + 128 ≤ 512 + 512)) = true) (ho : o = 64 * h) (hh : h' = h + 1) (i : Fin 128) (c : Fin 1024)
    (d : Fin 128) (hc : c.val = o + d.val) :
    pair h h' s s' t t' o u (k0_pay8 XX) (acsV D X3 X4) (acsT D X3 X4) (dtT D X3) (cbOf (k0_pay21 B1) (k0_pay21 C1))
        (win 512 o hw (off1 D X3 X4 X7 C1 s1)) (ix2 i d)
      = (chunkOf D X3 XX B0 B1 C0 C1).y (rates X4) st i c := by
  have hw' := hw
  simp only [Bool.and_eq_true, decide_eq_true_eq] at hw'
  have hd := d.isLt
  have hg : ¬ (gp c).val = 0 := by show ¬ c.val / 512 = 0; omega
  have ec : (⟨512 + (c.val - 512), by omega⟩ : Fin 1024) = c := Fin.ext (by show 512 + (c.val - 512) = c.val; omega)
  unfold off1
  rw [pair_apply h h' s s' t t' o u _ _ _ _ _ _ (by omega) (by omega) (by omega) (lane c) i d
    (by show c.val / 64 = _; split <;> omega), win_apply 512 o hw _ i d ⟨c.val - 512, by omega⟩ (by show o + d.val = 512 + (c.val - 512); omega),
    offR_apply, eaV_apply D X3 X4 X7 hE]
  unfold Chunk.y
  congr 1
  · show _ = (∑ n, (if (gp c).val = 0 then C0 (ix3 0 i n) else C1 (ix3 0 i n)) * _) * _
    simp only [if_neg hg, cast_apply, hs.2, ec]
    rfl
  · refine Finset.sum_congr rfl fun j _ => ?_
    rw [cbOf_apply, full_apply, acsV_apply, acsT_apply, dtT_apply]
    show _ = (∑ n, (if (gp c).val = 0 then C0 (ix3 0 i n) else C1 (ix3 0 i n)) * (if (gp c).val = 0 then B0 (ix3 0 j n) else B1 (ix3 0 j n))) * _ * _ * _
    simp only [if_neg hg, cast_apply]
    rw [show (⟨o + d.val, by omega⟩ : Fin 1024) = c from Fin.ext hc.symm]
    rfl

/-- The chunk's output at an index. -/
theorem chunkY_apply (i : Fin 128) (c : Fin 1024) :
    chunkY D X3 X4 X7 XX B0 B1 C0 C1 s0 s1 (ix2 i c) = (chunkOf D X3 XX B0 B1 C0 C1).y (rates X4) st i c := by
  have hc := c.isLt
  obtain ⟨k, hk⟩ : ∃ k : Fin 8, (⟨c.val / 128, by omega⟩ : Fin 8) = k := ⟨_, rfl⟩
  have hv : c.val / 128 = k.val := congrArg Fin.val hk
  unfold chunkY glue
  show (![_, _, _, _, _, _, _, _] (⟨c.val / 128, _⟩ : Fin 8) : Vec Ideal S128x128 .f32) (ix2 i ⟨c.val % 128, _⟩) = _
  rw [hk]
  match k, hv with
  | ⟨0, _⟩, hv => exact left_apply D X3 X4 X7 XX B0 B1 C0 C1 s0 s1 hE st hs _ _ _ _ _ _ _ _ _ (by decide) (by decide) i c _ (by dsimp only at hv ⊢; omega)
  | ⟨1, _⟩, hv => exact left_apply D X3 X4 X7 XX B0 B1 C0 C1 s0 s1 hE st hs _ _ _ _ _ _ _ _ _ (by decide) (by decide) i c _ (by dsimp only at hv ⊢; omega)
  | ⟨2, _⟩, hv => exact left_apply D X3 X4 X7 XX B0 B1 C0 C1 s0 s1 hE st hs _ _ _ _ _ _ _ _ _ (by decide) (by decide) i c _ (by dsimp only at hv ⊢; omega)
  | ⟨3, _⟩, hv => exact left_apply D X3 X4 X7 XX B0 B1 C0 C1 s0 s1 hE st hs _ _ _ _ _ _ _ _ _ (by decide) (by decide) i c _ (by dsimp only at hv ⊢; omega)
  | ⟨4, _⟩, hv => exact right_apply D X3 X4 X7 XX B0 B1 C0 C1 s0 s1 hE st hs _ _ _ _ _ _ _ _ _ (by decide) (by decide) i c _ (by dsimp only at hv ⊢; omega)
  | ⟨5, _⟩, hv => exact right_apply D X3 X4 X7 XX B0 B1 C0 C1 s0 s1 hE st hs _ _ _ _ _ _ _ _ _ (by decide) (by decide) i c _ (by dsimp only at hv ⊢; omega)
  | ⟨6, _⟩, hv => exact right_apply D X3 X4 X7 XX B0 B1 C0 C1 s0 s1 hE st hs _ _ _ _ _ _ _ _ _ (by decide) (by decide) i c _ (by dsimp only at hv ⊢; omega)
  | ⟨7, _⟩, hv => exact right_apply D X3 X4 X7 XX B0 B1 C0 C1 s0 s1 hE st hs _ _ _ _ _ _ _ _ _ (by decide) (by decide) i c _ (by dsimp only at hv ⊢; omega)

end

end Cert.Proof.Ssd

end
-- ==== Proof.Ffn.Block.lean ====
/-
  One grid point of the feed-forward kernel, read at an index. The body keeps a running sum over eleven chunks of 256
  hidden units; every chunk adds the same expression (`step_apply`), and the eleven sums are the sum over all 2816 units.
-/
module

public import proofs.«01_k».proof.Proof.Rows
public import proofs.«01_k».proof.Proof.Gen.FfnIdeal.Value

@[expose] public section

noncomputable section

namespace Cert.Proof.Ffn

open Idealize.ShloMosaic Cert.FfnIdeal Cert.FfnIdeal.Gen
open scoped BigOperators

abbrev Rows := FVec Ideal S512x1024 .f32
abbrev Normed := FVec Ideal S512x1024 .bf16
abbrev WUp := Vec Ideal S1x1024x256 .bf16
abbrev WDown := Vec Ideal S1x256x1024 .bf16

/-! ### Every later chunk's payload is the second chunk's -/

theorem chunk2 (xn : Normed) (a b : WUp) (d : WDown) (acc : Rows) :
    k0_pay7 xn (k0_pay5 xn a) (k0_pay6 b) d acc = k0_pay4 xn a b d acc := rfl
theorem chunk3 (xn : Normed) (a b : WUp) (d : WDown) (acc : Rows) :
    k0_pay9 (k0_pay8 xn a b) d acc = k0_pay4 xn a b d acc := rfl
theorem chunk4 (xn : Normed) (a b : WUp) (d : WDown) (acc : Rows) :
    k0_pay10 xn a b d acc = k0_pay4 xn a b d acc := rfl
theorem chunk5 (xn : Normed) (a b : WUp) (d : WDown) (acc : Rows) :
    k0_pay11 xn a b d acc = k0_pay4 xn a b d acc := rfl
theorem chunk6 (xn : Normed) (a b : WUp) (d : WDown) (acc : Rows) :
    k0_pay15 (k0_pay12 xn a) (k0_pay13 xn b) k0_pay14 d acc = k0_pay4 xn a b d acc := rfl
theorem chunk7 (xn : Normed) (a b : WUp) (d : WDown) (acc : Rows) :
    k0_pay18 (k0_pay16 xn a b) (k0_pay17 d) acc = k0_pay4 xn a b d acc := rfl
theorem chunk8 (xn : Normed) (a b : WUp) (d : WDown) (acc : Rows) :
    k0_pay19 xn a b d acc = k0_pay4 xn a b d acc := rfl
theorem chunk9 (xn : Normed) (a b : WUp) (d : WDown) (acc : Rows) :
    k0_pay20 xn a b d acc = k0_pay4 xn a b d acc := rfl
theorem chunk10 (xn : Normed) (a b : WUp) (d : WDown) (acc : Rows) :
    k0_pay25 (k0_pay21 xn a) (k0_pay22 xn b) (k0_pay23 xn a) k0_pay24 d acc = k0_pay4 xn a b d acc := rfl

/-! ### The payloads at an index -/

/-- A chunk's share of an output entry: the sum over its 256 hidden units. -/
def share (xn : Normed) (a b : WUp) (d : WDown) (r : Fin 512) (c : Fin 1024) : EReal :=
  ∑ j : Fin 256, swish (∑ i, xn (ix2 r i) * a (ix3 0 i j)) * (∑ i, xn (ix2 r i) * b (ix3 0 i j)) * d (ix3 0 j c)

theorem first_apply (x : Rows) (g : Vec Ideal S1x1024 .f32) (a b : WUp) (d : WDown) (r : Fin 512) (c : Fin 1024) :
    k0_pay3 (k0_pay2 x g a b d) (ix2 r c) = share (k0_pay1 x g) a b d r c := by
  pointwise [k0_pay2, k0_pay3]
  simp only [zero_sub, share, swish]

theorem step_apply (xn : Normed) (a b : WUp) (d : WDown) (acc : Rows) (r : Fin 512) (c : Fin 1024) :
    k0_pay4 xn a b d acc (ix2 r c) = acc (ix2 r c) + share xn a b d r c := by
  pointwise [k0_pay4]
  simp only [zero_sub, share, swish]

/-- The block's normalized rows. -/
theorem normed_apply (x : Rows) (g : Vec Ideal S1x1024 .f32) (r : Fin 512) (c : Fin 1024) :
    k0_pay1 x g (ix2 r c) = rms (fun k => g (ix2 0 k)) (fun k => x (ix2 r k)) c := by
  pointwise [k0_pay1]
  simp only [rms]

/-- The block's result: the rows plus half the norm of the finished running sum. -/
theorem last_apply (x acc : Rows) (g : Vec Ideal S1x1024 .f32) (r : Fin 512) (c : Fin 1024) :
    k0_pay26 x acc g (ix2 r c) = x (ix2 r c) + Ideal.ofBits .f32 0x3F000000#32
      * rms (fun k => g (ix2 0 k)) (fun k => acc (ix2 r k)) c := by
  pointwise [k0_pay26]
  simp only [rms]

/-! ### The running sum, finished -/

/-- A chunk loaded at hidden-unit offset `o` adds exactly the units `o … o + 255`. -/
theorem share_at (x : Rows) (g : Vec Ideal S1x1024 .f32) (w : Vec Ideal S1x1024x5632 .bf16) (d : Vec Ideal S1x2816x1024 .bf16)
    (o o' : ℕ) (e : o' = 2816 + o)
    (h : ∀ a, (![0, 0, o] : Fin 3 → ℕ) a + (![1, 1024, 256] : Fin 3 → ℕ) a ≤ S1x1024x5632.size a)
    (h' : ∀ a, (![0, 0, o'] : Fin 3 → ℕ) a + (![1, 1024, 256] : Fin 3 → ℕ) a ≤ S1x1024x5632.size a)
    (hd : ∀ a, (![0, o, 0] : Fin 3 → ℕ) a + (![1, 256, 1024] : Fin 3 → ℕ) a ≤ S1x2816x1024.size a)
    (r : Fin 512) (c : Fin 1024) :
    share (k0_pay1 x g) (View.ld w (Rect.unit ![0, 0, o] ![1, 1024, 256] h)) (View.ld w (Rect.unit ![0, 0, o'] ![1, 1024, 256] h'))
        (View.ld d (Rect.unit ![0, o, 0] ![1, 256, 1024] hd)) r c
      = ∑ j : Fin 256, unit (rms (fun k => g (ix2 0 k)) (fun k => x (ix2 r k))) (fun i k => w (ix3 0 i k)) (fun k l => d (ix3 0 k l)) c
          ⟨o + j.val, by have h1 : o + 256 ≤ 2816 := hd 1; have := j.isLt; omega⟩ := by
  subst e
  unfold share unit
  simp only [normed_apply]
  pointwise
  simp only [Nat.add_assoc]

/-- The sum over the hidden units, cut into the eleven chunks in the order in which the body adds them. -/
theorem ffn_chunks (xn : Fin 1024 → EReal) (w : Fin 1024 → Fin 5632 → EReal) (d : Fin 2816 → Fin 1024 → EReal) (c : Fin 1024) :
    ffn xn w d c = ∑ k : Fin 11, ∑ j : Fin 256, unit xn w d c ⟨k.val * 256 + j.val, by omega⟩ :=
  Fin.sum_univ_tiles 11 256 rfl _

/-- Hidden units `o … o + 255` of the first half of the up-projection's columns (or of the second, at `2816 + o`). -/
abbrev up (w : Vec Ideal S1x1024x5632 .bf16) (o : ℕ)
    (h : ∀ a, (![0, 0, o] : Fin 3 → ℕ) a + (![1, 1024, 256] : Fin 3 → ℕ) a ≤ S1x1024x5632.size a := by decide) : WUp :=
  View.ld w (Rect.unit ![0, 0, o] ![1, 1024, 256] h)

/-- The same units' rows of the down-projection. -/
abbrev down (d : Vec Ideal S1x2816x1024 .bf16) (o : ℕ)
    (h : ∀ a, (![0, o, 0] : Fin 3 → ℕ) a + (![1, 256, 1024] : Fin 3 → ℕ) a ≤ S1x2816x1024.size a := by decide) : WDown :=
  View.ld d (Rect.unit ![0, o, 0] ![1, 256, 1024] h)

/-- The running sum after all eleven chunks. -/
def chain (x : Rows) (g : Vec Ideal S1x1024 .f32) (w : Vec Ideal S1x1024x5632 .bf16) (d : Vec Ideal S1x2816x1024 .bf16) : Rows :=
  k0_pay4 (k0_pay1 x g) (up w 2560) (up w 5376) (down d 2560) <|
  k0_pay4 (k0_pay1 x g) (up w 2304) (up w 5120) (down d 2304) <|
  k0_pay4 (k0_pay1 x g) (up w 2048) (up w 4864) (down d 2048) <|
  k0_pay4 (k0_pay1 x g) (up w 1792) (up w 4608) (down d 1792) <|
  k0_pay4 (k0_pay1 x g) (up w 1536) (up w 4352) (down d 1536) <|
  k0_pay4 (k0_pay1 x g) (up w 1280) (up w 4096) (down d 1280) <|
  k0_pay4 (k0_pay1 x g) (up w 1024) (up w 3840) (down d 1024) <|
  k0_pay4 (k0_pay1 x g) (up w 768) (up w 3584) (down d 768) <|
  k0_pay4 (k0_pay1 x g) (up w 512) (up w 3328) (down d 512) <|
  k0_pay4 (k0_pay1 x g) (up w 256) (up w 3072) (down d 256) <|
  k0_pay3 (k0_pay2 x g (up w 0) (up w 2816) (down d 0))

theorem chain_apply (x : Rows) (g : Vec Ideal S1x1024 .f32) (w : Vec Ideal S1x1024x5632 .bf16) (d : Vec Ideal S1x2816x1024 .bf16)
    (r : Fin 512) (c : Fin 1024) :
    chain x g w d (ix2 r c) = ffn (rms (fun k => g (ix2 0 k)) (fun k => x (ix2 r k))) (fun i k => w (ix3 0 i k)) (fun k l => d (ix3 0 k l)) c := by
  unfold chain
  simp only [step_apply, first_apply]
  rw [ffn_chunks]
  simp only [Fin.sum_univ_castSucc (n := 10), Fin.sum_univ_castSucc (n := 9), Fin.sum_univ_castSucc (n := 8),
    Fin.sum_univ_castSucc (n := 7), Fin.sum_univ_castSucc (n := 6), Fin.sum_univ_castSucc (n := 5), Fin.sum_univ_castSucc (n := 4),
    Fin.sum_univ_castSucc (n := 3), Fin.sum_univ_castSucc (n := 2), Fin.sum_univ_castSucc (n := 1), Fin.sum_univ_castSucc (n := 0), Fin.sum_univ_zero, zero_add]
  have e := share_at x g w d
  rw [e 0 2816 rfl, e 256 3072 rfl, e 512 3328 rfl, e 768 3584 rfl, e 1024 3840 rfl, e 1280 4096 rfl, e 1536 4352 rfl,
    e 1792 4608 rfl, e 2048 4864 rfl, e 2304 5120 rfl, e 2560 5376 rfl]
  rfl

/-- The block's result from the finished sum: each row's feed-forward half. -/
theorem half_apply (x : Rows) (g : Vec Ideal S1x1024 .f32) (w : Vec Ideal S1x1024x5632 .bf16) (d : Vec Ideal S1x2816x1024 .bf16)
    (g' : Vec Ideal S1x1024 .f32) (r : Fin 512) (c : Fin 1024) :
    k0_pay26 x (chain x g w d) g' (ix2 r c) = ffnHalf (fun k => x (ix2 r k)) (fun k => g (ix2 0 k)) (fun k => g' (ix2 0 k))
      (fun i k => w (ix3 0 i k)) (fun k l => d (ix3 0 k l)) c := by
  rw [last_apply]
  simp only [chain_apply]
  rfl

end Cert.Proof.Ffn

end
-- ==== Proof.Ffn.Point.lean ====
/-
  What the body of the feed-forward kernel leaves in the output block, from its loads and stores: `ffnHalf` of each row.
-/
module

public import proofs.«01_k».proof.Proof.Ffn.Block
public import proofs.«01_k».proof.Proof.Gen.FfnIdeal.Value

@[expose] public section

noncomputable section

namespace Cert.Proof.Ffn

open Idealize.ShloMosaic Idealize.ShloMosaic.TcCoe Cert.FfnIdeal Cert.FfnIdeal.Gen
open scoped BigOperators

/-- The offsets of a whole two-axis load. -/
theorem off2 : (![0, 0] : Fin 2 → ℕ) = fun _ => 0 := funext fun a => by fin_cases a <;> rfl

/-- A load of a whole buffer after a store of the whole buffer reads what was stored, whatever was stored before. -/
theorem readCov_cons {S : Shape} {e : EltTy} {sig : RefSig} {κ : Kind} {sp : Space} (v : View sig κ sp S e) {off : Fin S.rank → ℕ}
    (h : off = fun _ => 0) (inb : ∀ a, off a + S.size a ≤ S.size a) (w : S.Idx → Elt Ideal e) (L : List (View.Piece (Elt Ideal) S e)) :
    v.readCov ((⟨Rect.unit off S.size inb, w⟩ : View.Piece (Elt Ideal) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- **The output block at row `r`, column `l`.** -/
theorem out_apply (c : Dev nD) (i : grid0.Coords) (a1 : Memref sig .tc .vmem S512x1024 .f32) (h1 : a1.IsWhole)
    (a2 : Memref sig .tc .vmem S1x1024 .f32) (h2 : a2.IsWhole) (a3 : Memref sig .tc .vmem S1x1024x5632 .bf16) (h3 : a3.IsWhole)
    (a4 : Memref sig .tc .vmem S1x2816x1024 .bf16) (h4 : a4.IsWhole) (a5 : Memref sig .tc .vmem S1x1024 .f32) (h5 : a5.IsWhole)
    (a6 : Memref sig .tc .vmem S512x1024 .f32) (h6 : a6.IsWhole) (a7 : Memref sig .tc .vmem S512x1024 .f32) (h7 : a7.IsWhole)
    (x0 : Vec Ideal S512x1024 .f32) (x1 : Vec Ideal S1x1024 .f32) (x2 : Vec Ideal S1x1024x5632 .bf16)
    (x3 : Vec Ideal S1x2816x1024 .bf16) (x4 : Vec Ideal S1x1024 .f32) (r : Fin 512) (l : Fin 1024) :
    out0_A_5 c i a1 h1 a2 h2 a3 h3 a4 h4 a5 h5 a6 h6 a7 h7 x0 x1 x2 x3 x4 (ix2 r l)
      = ffnHalf (fun k => x0 (ix2 r k)) (fun k => x1 (ix2 0 k)) (fun k => x4 (ix2 0 k))
          (fun i k => x2 (ix3 0 i k)) (fun k l => x3 (ix3 0 k l)) l := by
  unfold out0_A_5
  rw [View.read_writes_eq_canon _ _ _ (cover0_A_5 c _ _ _ _ _ _ _ _ _ _ _ _ _ _ _ _ _ _ _ _)]
  unfold kernelRun0_A
  dsimp only
  sl_unfold_words
  simp only [View.readAt_eq_ld, h1.read_unread, h2.read_unread, h3.read_unread, h4.read_unread, h5.read_unread,
    readCov_cons (S := S512x1024) _ off2, View.canon_unit_zero (S := S512x1024) off2,
    View.ld_unit_zero (S := S512x1024) off2, View.ld_unit_zero (S := S1x1024) off2]
  rw [chunk10, chunk9, chunk8, chunk7, chunk6, chunk5, chunk4, chunk3, chunk2]
  exact half_apply x0 x1 x2 x3 x4 r l

end Cert.Proof.Ffn

end
-- ==== Proof.Ssd.Point.lean ====
/-
  The recurrence at one point of its grid: four chunks of 128 rows, one after the other, from the state that the point before
  left (or from zero at a sequence's first point).
-/
module

public import proofs.«01_k».proof.Proof.Ssd.Tile
public import proofs.«01_k».proof.Proof.Ffn.Point
public import proofs.«01_k».proof.Proof.Gen.SsdIdeal.Value

@[expose] public section

noncomputable section

namespace Cert.Proof.Ssd

open Idealize.ShloMosaic Idealize.ShloMosaic.TcCoe Cert.SsdIdeal Cert.SsdIdeal.Gen
open Cert.Proof.Ffn (off2)
open scoped BigOperators

/-- Of a block of 512 rows, the 128 rows from `o` and the `w` columns from `a`. -/
def rowsAt {n : ℕ} {ε : EltTy} (w : ℕ) (x : Vec Ideal (⟨3, ![1, 512, n]⟩ : Shape) ε) (o a : ℕ) (h : a + w ≤ n) :
    Vec Ideal (⟨3, ![1, 128, w]⟩ : Shape) ε :=
  fun j => x (ix3 0 ⟨(o + (j 1).val) % 512, Nat.mod_lt _ (by decide)⟩ ⟨a + (j 2).val, by have : (j 2).val < w := (j 2).isLt; omega⟩)

theorem ld_rows {n w : ℕ} {ε : EltTy} (x : Vec Ideal (⟨3, ![1, 512, n]⟩ : Shape) ε) (o a : ℕ)
    (i : ∀ k, ![0, o, a] k + ![1, 128, w] k ≤ (⟨3, ![1, 512, n]⟩ : Shape).size k) :
    View.ld x (Rect.unit (s := (⟨3, ![1, 512, n]⟩ : Shape)) ![0, o, a] ![1, 128, w] i) = rowsAt w x o a (i 2) := by
  have ho : o + 128 ≤ 512 := i 1
  funext (j : (⟨3, ![1, 128, w]⟩ : Shape).Idx)
  have h1 : (j 1).val < 128 := (j 1).isLt
  have h0 : (j 0).val < 1 := (j 0).isLt
  show x _ = x _
  congr 1
  funext k
  apply Fin.ext
  fin_cases k
  · show 0 + 1 * (j 0).val = 0; omega
  · show o + 1 * (j 1).val = (o + (j 1).val) % 512; omega
  · show a + 1 * (j 2).val = a + (j 2).val; omega

theorem ld_x (x : Vec Ideal S1x512x1536 .bf16) (o a : ℕ) (i : ∀ k, ![0, o, a] k + ![1, 128, 1024] k ≤ S1x512x1536.size k) :
    View.ld x (Rect.unit ![0, o, a] ![1, 128, 1024] i) = rowsAt 1024 x o a (i 2) := ld_rows x o a i
theorem ld_bc (x : Vec Ideal S1x512x1536 .bf16) (o a : ℕ) (i : ∀ k, ![0, o, a] k + ![1, 128, 128] k ≤ S1x512x1536.size k) :
    View.ld x (Rect.unit ![0, o, a] ![1, 128, 128] i) = rowsAt 128 x o a (i 2) := ld_rows x o a i
theorem ld_dt (x : Vec Ideal S1x512x128 .f32) (o a : ℕ) (i : ∀ k, ![0, o, a] k + ![1, 128, 128] k ≤ S1x512x128.size k) :
    View.ld x (Rect.unit ![0, o, a] ![1, 128, 128] i) = rowsAt 128 x o a (i 2) := ld_rows x o a i
theorem ld_z (x : Vec Ideal S1x512x1024 .bf16) (o a : ℕ) (i : ∀ k, ![0, o, a] k + ![1, 128, 1024] k ≤ S1x512x1024.size k) :
    View.ld x (Rect.unit ![0, o, a] ![1, 128, 1024] i) = rowsAt 1024 x o a (i 2) := ld_rows x o a i

/-- Of the state, the 512 columns from `a`. -/
def colsAt (s : Vec Ideal S128x1024 .f32) (a : ℕ) (h : a + 512 ≤ 1024) : Vec Ideal S128x512 .f32 :=
  fun j => s (ix2 (j 0 : Fin 128) ⟨a + (j 1).val, by have : (j 1).val < 512 := (j 1).isLt; omega⟩)

theorem ld_cols (s : Vec Ideal S128x1024 .f32) (a : ℕ) (i : ∀ k, ![0, a] k + ![128, 512] k ≤ S128x1024.size k) :
    View.ld s (Rect.unit ![0, a] ![128, 512] i) = colsAt s a (i 1) := by
  funext (j : (⟨2, ![128, 512]⟩ : Shape).Idx)
  have hj : (j 1).val < 512 := (j 1).isLt
  have hb := win_bound i
  have e := window_idx a 512 i j (j 0 : Fin 128) ⟨a + (j 1).val, by omega⟩ rfl rfl
  exact congrArg s e

/-- A load of columns after a write of all. -/
theorem rc_reset {κ : Kind} {sp : Space} {sg : RefSig} (v : View sg κ sp S128x1024 .f32) (a : ℕ)
    (i : ∀ x, ![0, 0] x + ![128, 1024] x ≤ S128x1024.size x) (i' : ∀ x, ![0, a] x + ![128, 512] x ≤ S128x1024.size x)
    (w : Vec Ideal S128x1024 .f32) (L : List (View.Piece (Elt Ideal) S128x1024 .f32)) :
    v.readCov ((⟨Rect.unit ![0, 0] ![128, 1024] i, w⟩ : View.Piece (Elt Ideal) S128x1024 .f32) :: L) (Rect.unit ![0, a] ![128, 512] i').toLoadRect
      = colsAt w a (i' 1) := by
  rw [View.readCov_eq_canon']
  funext (j : (⟨2, ![128, 512]⟩ : Shape).Idx)
  have hb := win_bound i'
  have hj : (j 1).val < 512 := (j 1).isLt
  have e := window_idx a 512 i' j (j 0 : Fin 128) ⟨a + (j 1).val, by omega⟩ rfl rfl
  show View.canon _ _ = _
  rw [e]
  exact canon_on 0 1024 i w L _ _ ⟨a + (j 1).val, by omega⟩ (by show a + (j 1).val = 0 + (a + (j 1).val); omega)

/-- Off a write of 128 rows of the output block, the earlier writes. -/
theorem rows_off (o : ℕ) (i : ∀ x, ![0, o, 0] x + ![1, 128, 1024] x ≤ S1x512x1024.size x) (w : Vec Ideal S1x128x1024 .bf16)
    (L : List (View.Piece (Elt Ideal) S1x512x1024 .bf16)) (r : Fin 512) (c : Fin 1024) (h : r.val < o ∨ o + 128 ≤ r.val) :
    View.canon ((⟨Rect.unit ![0, o, 0] ![1, 128, 1024] i, w⟩ : View.Piece (Elt Ideal) S1x512x1024 .bf16) :: L) (ix3 0 r c)
      = View.canon L (ix3 0 r c) := by
  refine View.canon_cons_of_not_mem _ _ ?_
  intro hm
  have := (Rect.mem_set_unit (inb := i)).mp hm 1
  have e : o ≤ r.val ∧ r.val < o + 128 := this
  omega

/-- On a write of 128 rows, what it wrote. -/
theorem rows_on (o : ℕ) (i : ∀ x, ![0, o, 0] x + ![1, 128, 1024] x ≤ S1x512x1024.size x) (w : Vec Ideal S1x128x1024 .bf16)
    (L : List (View.Piece (Elt Ideal) S1x512x1024 .bf16)) (r : Fin 512) (c : Fin 1024) (d : Fin 128) (h : r.val = o + d.val) :
    View.canon ((⟨Rect.unit ![0, o, 0] ![1, 128, 1024] i, w⟩ : View.Piece (Elt Ideal) S1x512x1024 .bf16) :: L) (ix3 0 r c)
      = w (ix3 0 d c) := by
  have e : (ix3 0 r c : S1x512x1024.Idx) = (Rect.unit ![0, o, 0] ![1, 128, 1024] i : Rect S1x512x1024).emb (ix3 0 d c : S1x128x1024.Idx) := by
    funext x
    apply Fin.ext
    fin_cases x
    · rfl
    · show r.val = o + 1 * d.val; omega
    · show c.val = 0 + 1 * c.val; omega
  rw [e]
  exact View.canon_cons_emb _ _ _ _

/-! ### The four chunks of a block -/

section
variable (x0 : Vec Ideal S1x512x1536 .bf16) (x1 : Vec Ideal S1x512x128 .f32) (x2 : Vec Ideal S1x512x1024 .bf16) (x3 x4 : Vec Ideal S1x128 .f32)
  (x5 x6 : Vec Ideal S1x1024 .f32) (x7 : Vec Ideal S128x1024 .bf16) (s0 s1 : Vec Ideal S128x512 .f32)

abbrev xAt (q : ℕ) : Vec Ideal S1x128x1024 .bf16 := rowsAt 1024 x0 (128 * q) 0 (by decide)
abbrev dtAt (q : ℕ) : Vec Ideal S1x128x128 .f32 := rowsAt 128 x1 (128 * q) 0 (by decide)
abbrev bAt0 (q : ℕ) : Vec Ideal S1x128x128 .bf16 := rowsAt 128 x0 (128 * q) 1024 (by decide)
abbrev bAt1 (q : ℕ) : Vec Ideal S1x128x128 .bf16 := rowsAt 128 x0 (128 * q) 1152 (by decide)
abbrev cAt0 (q : ℕ) : Vec Ideal S1x128x128 .bf16 := rowsAt 128 x0 (128 * q) 1280 (by decide)
abbrev cAt1 (q : ℕ) : Vec Ideal S1x128x128 .bf16 := rowsAt 128 x0 (128 * q) 1408 (by decide)

/-- The block's chunk `q`. -/
def blkChunk (q : ℕ) : Chunk := chunkOf (dtAt x1 q) x3 (xAt x0 q) (bAt0 x0 q) (bAt1 x0 q) (cAt0 x0 q) (cAt1 x0 q)

/-- The two halves of the state before the block's chunk `q`. -/
def half0 : ℕ → Vec Ideal S128x512 .f32
  | 0 => s0
  | q + 1 => next0 (dtAt x1 q) x3 x4 x7 (xAt x0 q) (bAt0 x0 q) (half0 q)
def half1 : ℕ → Vec Ideal S128x512 .f32
  | 0 => s1
  | q + 1 => next1 (dtAt x1 q) x3 x4 x7 (xAt x0 q) (bAt1 x0 q) (half1 q)

/-- What the body stores for chunk `q`. -/
def chunkOut (q : ℕ) : Vec Ideal S1x128x1024 .bf16 :=
  lastOf (rowsAt 1024 x2 (128 * q) 0 (by decide)) (k0_pay9 (xAt x0 q))
    (chunkY (dtAt x1 q) x3 x4 x7 (xAt x0 q) (bAt0 x0 q) (bAt1 x0 q) (cAt0 x0 q) (cAt1 x0 q)
      (half0 x0 x1 x3 x4 x7 s0 q) (half1 x0 x1 x3 x4 x7 s1 q)) x5 x6

variable (hE : ∀ (l : Fin 128) (c : Fin 1024), x7 (ix2 l c) = if l = lane c then 1 else 0)
  (st : Fin 128 → Fin 1024 → EReal) (hs : Halves s0 s1 st)
include hE hs

theorem halves (q : ℕ) : Halves (half0 x0 x1 x3 x4 x7 s0 q) (half1 x0 x1 x3 x4 x7 s1 q) (states (blkChunk x0 x1 x3) (rates x4) st q) := by
  induction q with
  | zero => exact hs
  | succ q ih => exact chunk_next _ _ _ _ _ _ _ _ _ _ _ hE _ ih

theorem chunkOut_apply (q : ℕ) (i : Fin 128) (c : Fin 1024) :
    chunkOut x0 x1 x2 x3 x4 x5 x6 x7 s0 s1 q (ix3 0 i c)
      = (blkChunk x0 x1 x3 q).out (rates x4) (states (blkChunk x0 x1 x3) (rates x4) st q) (fun c => x5 (ix2 0 c)) (fun c => x6 (ix2 0 c))
          (fun i c => x2 (ix3 0 ⟨(128 * q + i.val) % 512, Nat.mod_lt _ (by decide)⟩ c)) i c := by
  unfold chunkOut
  rw [last_apply]
  unfold Chunk.out
  congr 1
  funext c
  rw [chunkY_apply _ _ _ _ _ _ _ _ _ _ _ hE _ (halves x0 x1 x3 x4 x7 s0 s1 hE st hs q)]
  congr 1
  exact congrArg x2 (congrArg₂ (ix3 0) rfl (Fin.ext (Nat.zero_add _)))

end

/-! ### The point -/

section
variable (c : Dev nD) (i : grid0.Coords)
    (a2 : Memref sig .tc .vmem S1x512x1536 .bf16) (h2 : a2.IsWhole) (a3 : Memref sig .tc .vmem S1x512x128 .f32) (h3 : a3.IsWhole)
    (a4 : Memref sig .tc .vmem S1x512x1024 .bf16) (h4 : a4.IsWhole) (a5 : Memref sig .tc .vmem S1x128 .f32) (h5 : a5.IsWhole)
    (a6 : Memref sig .tc .vmem S1x128 .f32) (h6 : a6.IsWhole) (a7 : Memref sig .tc .vmem S1x1024 .f32) (h7 : a7.IsWhole)
    (a8 : Memref sig .tc .vmem S1x1024 .f32) (h8 : a8.IsWhole) (a9 : Memref sig .tc .vmem S128x1024 .bf16) (h9 : a9.IsWhole)
    (a10 : Memref sig .tc .vmem S1x512x1024 .bf16) (h10 : a10.IsWhole) (a11 : Memref sig .tc .vmem S128x1024 .f32) (h11 : a11.IsWhole)
    (a12 : Memref sig .tc .vmem S128x1024 .f32) (h12 : a12.IsWhole)
    (x0 : Vec Ideal S1x512x1536 .bf16) (x1 : Vec Ideal S1x512x128 .f32) (x2 : Vec Ideal S1x512x1024 .bf16) (x3 x4 : Vec Ideal S1x128 .f32)
    (x5 x6 : Vec Ideal S1x1024 .f32) (x7 : Vec Ideal S128x1024 .bf16) (xs : Vec Ideal S128x1024 .f32)

set_option maxRecDepth 4096 in
set_option maxHeartbeats 2000000 in
/-- The output block's rows of chunk `q`. -/
theorem out_B (hc : ¬ cond0_0 i) (q : Fin 4) (r : Fin 512) (d : Fin 128) (l : Fin 1024) (hr : r.val = 128 * q.val + d.val) :
    out0_B_8 c i a2 h2 a3 h3 a4 h4 a5 h5 a6 h6 a7 h7 a8 h8 a9 h9 a10 h10 a11 h11 a12 h12 hc x0 x1 x2 x3 x4 x5 x6 x7 xs (ix3 0 r l)
      = chunkOut x0 x1 x2 x3 x4 x5 x6 x7 (colsAt xs 0 (by decide)) (colsAt xs 512 (by decide)) q.val (ix3 0 d l) := by
  unfold out0_B_8 kernelRun0_B
  dsimp only
  sl_unfold_words
  simp (config := {decide := true}) only [View.readAt_eq_ld, h2.read_unread, h3.read_unread, h4.read_unread, h5.read_unread,
    h6.read_unread, h7.read_unread, h8.read_unread, h9.read_unread, h11.read_unread, ↓rc_skip, ↓rc_same, ↓rc_in, ↓rc_whole, ↓rc_reset,
    View.read_writes_junk_eq_canon, ld_cols,
    ld_x x0 0 0 (k0_off1_inb 0), ld_x x0 128 0 (k0_off1_inb 1), ld_x x0 256 0 (k0_off1_inb 2), ld_x x0 384 0 (k0_off1_inb 3),
    ld_dt x1 0 0 (k0_off2_inb 0), ld_dt x1 128 0 (k0_off2_inb 1), ld_dt x1 256 0 (k0_off2_inb 2), ld_dt x1 384 0 (k0_off2_inb 3),
    ld_bc x0 0 1024 (k0_off3_inb 0), ld_bc x0 128 1024 (k0_off3_inb 1), ld_bc x0 256 1024 (k0_off3_inb 2), ld_bc x0 384 1024 (k0_off3_inb 3),
    ld_bc x0 0 1280 (k0_off4_inb 0), ld_bc x0 128 1280 (k0_off4_inb 1), ld_bc x0 256 1280 (k0_off4_inb 2), ld_bc x0 384 1280 (k0_off4_inb 3),
    ld_bc x0 0 1152 (k0_off5_inb 0), ld_bc x0 128 1152 (k0_off5_inb 1), ld_bc x0 256 1152 (k0_off5_inb 2), ld_bc x0 384 1152 (k0_off5_inb 3),
    ld_bc x0 0 1408 (k0_off6_inb 0), ld_bc x0 128 1408 (k0_off6_inb 1), ld_bc x0 256 1408 (k0_off6_inb 2), ld_bc x0 384 1408 (k0_off6_inb 3),
    ld_z x2 0 0 (k0_off7_inb 0), ld_z x2 128 0 (k0_off7_inb 1), ld_z x2 256 0 (k0_off7_inb 2), ld_z x2 384 0 (k0_off7_inb 3),
    View.ld_unit_zero (S := S1x128) off2, View.ld_unit_zero (S := S1x1024) off2,
    View.ld_unit_zero (S := S128x1024) off2,
    max_b, max_c, abs_b, abs_c, half_b, half_c, half_d, full_b, full_c, full_d, acs_b, acs_c, acs_d, acsT_b, acsT_c, acsT_d, dtT_b, dtT_c, dtT_d, ea_b,
    ea_c, ea_d, cd_b, cd_c, cd_d, xw_b, xw_c, xw_d, cast_39, cast_69, cast_86, cast_115, cast_132, cast_161, cast_177, cast_22, cast_40, cast_70, cast_87,
    cast_116, cast_133, cast_162, cast_178, cb_23, cb_41, cb_71, cb_88, cb_117, cb_163, cb_134, cb_179, off_a, off_c, off_d, offR_b, offR_c, offR_d,
    next_b, next_c, next_d, nextR_b, nextR_c, nextR_d, last_a, last_b, last_c, last_d, pair7_d, pair6_d, pair5_d, pair4_d, pair3_d, pair2_d, pair1_d,
    pair0_d, pair7_c, pair6_c, pair5_c, pair4_c, pair3_c, pair2_c, pair1_c, pair0_c, pair7_b, pair6_b, pair5_b, pair4_b, pair3_b, pair2_b, pair1_b,
    pair0_b, pair7_a, pair6_a, pair5_a, pair4_a, pair3_a, pair2_a, pair1_a, pair0_a]
  have hd := d.isLt
  match q, hr with
  | ⟨0, _⟩, hr =>
    dsimp only at hr
    refine (rows_off 384 _ _ _ r l (by omega)).trans ((rows_off 256 _ _ _ r l (by omega)).trans ((rows_off 128 _ _ _ r l (by omega)).trans ?_))
    refine (rows_on 0 _ _ _ r l d (by omega)).trans ?_
    simp only [chunkOut, chunkY, half0, half1, dtAt, xAt, bAt0, bAt1, cAt0, cAt1, Nat.reduceMul]
  | ⟨1, _⟩, hr =>
    dsimp only at hr
    refine (rows_off 384 _ _ _ r l (by omega)).trans ((rows_off 256 _ _ _ r l (by omega)).trans ?_)
    refine (rows_on 128 _ _ _ r l d (by omega)).trans ?_
    simp only [chunkOut, chunkY, half0, half1, dtAt, xAt, bAt0, bAt1, cAt0, cAt1, Nat.reduceMul]
  | ⟨2, _⟩, hr =>
    dsimp only at hr
    refine (rows_off 384 _ _ _ r l (by omega)).trans ?_
    refine (rows_on 256 _ _ _ r l d (by omega)).trans ?_
    simp only [chunkOut, chunkY, half0, half1, dtAt, xAt, bAt0, bAt1, cAt0, cAt1, Nat.reduceMul]
  | ⟨3, _⟩, hr =>
    dsimp only at hr
    refine (rows_on 384 _ _ _ r l d (by omega)).trans ?_
    simp only [chunkOut, chunkY, half0, half1, dtAt, xAt, bAt0, bAt1, cAt0, cAt1, Nat.reduceMul]

set_option maxRecDepth 4096 in
set_option maxHeartbeats 2000000 in
/-- The left half of the state that the point leaves. -/
theorem left_B (hc : ¬ cond0_0 i) (r : Fin 128) (d : Fin 512) :
    sout0_B_0 c i a2 h2 a3 h3 a4 h4 a5 h5 a6 h6 a7 h7 a8 h8 a9 h9 a10 h10 a11 h11 a12 h12 hc x0 x1 x2 x3 x4 x5 x6 x7 xs (ix2 r ⟨d.val, by omega⟩)
      = half0 x0 x1 x3 x4 x7 (colsAt xs 0 (by decide)) 4 (ix2 r d) := by
  unfold sout0_B_0 kernelRun0_B
  dsimp only
  sl_unfold_words
  simp (config := {decide := true}) only [View.readAt_eq_ld, h2.read_unread, h3.read_unread, h4.read_unread, h5.read_unread,
    h6.read_unread, h7.read_unread, h8.read_unread, h9.read_unread, h11.read_unread, ↓rc_skip, ↓rc_same, ↓rc_in, ↓rc_whole, ↓rc_reset,
    View.read_writes_junk_eq_canon, ld_cols,
    ld_x x0 0 0 (k0_off1_inb 0), ld_x x0 128 0 (k0_off1_inb 1), ld_x x0 256 0 (k0_off1_inb 2), ld_x x0 384 0 (k0_off1_inb 3),
    ld_dt x1 0 0 (k0_off2_inb 0), ld_dt x1 128 0 (k0_off2_inb 1), ld_dt x1 256 0 (k0_off2_inb 2), ld_dt x1 384 0 (k0_off2_inb 3),
    ld_bc x0 0 1024 (k0_off3_inb 0), ld_bc x0 128 1024 (k0_off3_inb 1), ld_bc x0 256 1024 (k0_off3_inb 2), ld_bc x0 384 1024 (k0_off3_inb 3),
    View.ld_unit_zero (S := S1x128) off2, View.ld_unit_zero (S := S1x1024) off2,
    View.ld_unit_zero (S := S128x1024) off2,
    max_b, max_c, abs_b, abs_c, half_b, half_c, half_d, full_b, full_c, full_d, acs_b, acs_c, acs_d, acsT_b, acsT_c, acsT_d, dtT_b, dtT_c, dtT_d, ea_b,
    ea_c, ea_d, cd_b, cd_c, cd_d, xw_b, xw_c, xw_d, cast_39, cast_69, cast_86, cast_115, cast_132, cast_161, cast_177, cast_22, cast_40, cast_70, cast_87,
    cast_116, cast_133, cast_162, cast_178, cb_23, cb_41, cb_71, cb_88, cb_117, cb_163, cb_134, cb_179, off_a, off_c, off_d, offR_b, offR_c, offR_d,
    next_b, next_c, next_d, nextR_b, nextR_c, nextR_d, last_a, last_b, last_c, last_d, pair7_d, pair6_d, pair5_d, pair4_d, pair3_d, pair2_d, pair1_d,
    pair0_d, pair7_c, pair6_c, pair5_c, pair4_c, pair3_c, pair2_c, pair1_c, pair0_c, pair7_b, pair6_b, pair5_b, pair4_b, pair3_b, pair2_b, pair1_b,
    pair0_b, pair7_a, pair6_a, pair5_a, pair4_a, pair3_a, pair2_a, pair1_a, pair0_a]
  have hd := d.isLt
  refine (canon_off 512 512 _ _ _ r ⟨d.val, by omega⟩ (by dsimp only; omega)).trans ?_
  refine (canon_on 0 512 _ _ _ r ⟨d.val, by omega⟩ d (by dsimp only; omega)).trans ?_
  simp only [chunkOut, chunkY, half0, half1, dtAt, xAt, bAt0, bAt1, cAt0, cAt1, Nat.reduceMul]

set_option maxRecDepth 4096 in
set_option maxHeartbeats 2000000 in
/-- The right half. -/
theorem right_B (hc : ¬ cond0_0 i) (r : Fin 128) (d : Fin 512) :
    sout0_B_0 c i a2 h2 a3 h3 a4 h4 a5 h5 a6 h6 a7 h7 a8 h8 a9 h9 a10 h10 a11 h11 a12 h12 hc x0 x1 x2 x3 x4 x5 x6 x7 xs (ix2 r ⟨512 + d.val, by omega⟩)
      = half1 x0 x1 x3 x4 x7 (colsAt xs 512 (by decide)) 4 (ix2 r d) := by
  unfold sout0_B_0 kernelRun0_B
  dsimp only
  sl_unfold_words
  simp (config := {decide := true}) only [View.readAt_eq_ld, h2.read_unread, h3.read_unread, h4.read_unread, h5.read_unread,
    h6.read_unread, h7.read_unread, h8.read_unread, h9.read_unread, h11.read_unread, ↓rc_skip, ↓rc_same, ↓rc_in, ↓rc_whole, ↓rc_reset,
    View.read_writes_junk_eq_canon, ld_cols,
    ld_x x0 0 0 (k0_off1_inb 0), ld_x x0 128 0 (k0_off1_inb 1), ld_x x0 256 0 (k0_off1_inb 2), ld_x x0 384 0 (k0_off1_inb 3),
    ld_dt x1 0 0 (k0_off2_inb 0), ld_dt x1 128 0 (k0_off2_inb 1), ld_dt x1 256 0 (k0_off2_inb 2), ld_dt x1 384 0 (k0_off2_inb 3),
    ld_bc x0 0 1152 (k0_off5_inb 0), ld_bc x0 128 1152 (k0_off5_inb 1), ld_bc x0 256 1152 (k0_off5_inb 2), ld_bc x0 384 1152 (k0_off5_inb 3),
    View.ld_unit_zero (S := S1x128) off2, View.ld_unit_zero (S := S1x1024) off2,
    View.ld_unit_zero (S := S128x1024) off2,
    max_b, max_c, abs_b, abs_c, half_b, half_c, half_d, full_b, full_c, full_d, acs_b, acs_c, acs_d, acsT_b, acsT_c, acsT_d, dtT_b, dtT_c, dtT_d, ea_b,
    ea_c, ea_d, cd_b, cd_c, cd_d, xw_b, xw_c, xw_d, cast_39, cast_69, cast_86, cast_115, cast_132, cast_161, cast_177, cast_22, cast_40, cast_70, cast_87,
    cast_116, cast_133, cast_162, cast_178, cb_23, cb_41, cb_71, cb_88, cb_117, cb_163, cb_134, cb_179, off_a, off_c, off_d, offR_b, offR_c, offR_d,
    next_b, next_c, next_d, nextR_b, nextR_c, nextR_d, last_a, last_b, last_c, last_d, pair7_d, pair6_d, pair5_d, pair4_d, pair3_d, pair2_d, pair1_d,
    pair0_d, pair7_c, pair6_c, pair5_c, pair4_c, pair3_c, pair2_c, pair1_c, pair0_c, pair7_b, pair6_b, pair5_b, pair4_b, pair3_b, pair2_b, pair1_b,
    pair0_b, pair7_a, pair6_a, pair5_a, pair4_a, pair3_a, pair2_a, pair1_a, pair0_a]
  refine (canon_on 512 512 _ _ _ r ⟨512 + d.val, by omega⟩ d rfl).trans ?_
  simp only [chunkOut, chunkY, half0, half1, dtAt, xAt, bAt0, bAt1, cAt0, cAt1, Nat.reduceMul]

set_option maxRecDepth 4096 in
set_option maxHeartbeats 2000000 in
/-- The output block's rows of chunk `q`. -/
theorem out_A (hc : cond0_0 i) (q : Fin 4) (r : Fin 512) (d : Fin 128) (l : Fin 1024) (hr : r.val = 128 * q.val + d.val) :
    out0_A_8 c i a2 h2 a3 h3 a4 h4 a5 h5 a6 h6 a7 h7 a8 h8 a9 h9 a10 h10 a11 h11 a12 h12 hc x0 x1 x2 x3 x4 x5 x6 x7 (ix3 0 r l)
      = chunkOut x0 x1 x2 x3 x4 x5 x6 x7 (colsAt (k0_pay2 : FVec Ideal S128x1024 .f32) 0 (by decide)) (colsAt (k0_pay2 : FVec Ideal S128x1024 .f32) 512 (by decide)) q.val (ix3 0 d l) := by
  unfold out0_A_8 kernelRun0_A
  dsimp only
  sl_unfold_words
  simp (config := {decide := true}) only [View.readAt_eq_ld, h2.read_unread, h3.read_unread, h4.read_unread, h5.read_unread,
    h6.read_unread, h7.read_unread, h8.read_unread, h9.read_unread, h11.read_unread, ↓rc_skip, ↓rc_same, ↓rc_in, ↓rc_whole, ↓rc_reset,
    View.read_writes_junk_eq_canon, ld_cols,
    ld_x x0 0 0 (k0_off1_inb 0), ld_x x0 128 0 (k0_off1_inb 1), ld_x x0 256 0 (k0_off1_inb 2), ld_x x0 384 0 (k0_off1_inb 3),
    ld_dt x1 0 0 (k0_off2_inb 0), ld_dt x1 128 0 (k0_off2_inb 1), ld_dt x1 256 0 (k0_off2_inb 2), ld_dt x1 384 0 (k0_off2_inb 3),
    ld_bc x0 0 1024 (k0_off3_inb 0), ld_bc x0 128 1024 (k0_off3_inb 1), ld_bc x0 256 1024 (k0_off3_inb 2), ld_bc x0 384 1024 (k0_off3_inb 3),
    ld_bc x0 0 1280 (k0_off4_inb 0), ld_bc x0 128 1280 (k0_off4_inb 1), ld_bc x0 256 1280 (k0_off4_inb 2), ld_bc x0 384 1280 (k0_off4_inb 3),
    ld_bc x0 0 1152 (k0_off5_inb 0), ld_bc x0 128 1152 (k0_off5_inb 1), ld_bc x0 256 1152 (k0_off5_inb 2), ld_bc x0 384 1152 (k0_off5_inb 3),
    ld_bc x0 0 1408 (k0_off6_inb 0), ld_bc x0 128 1408 (k0_off6_inb 1), ld_bc x0 256 1408 (k0_off6_inb 2), ld_bc x0 384 1408 (k0_off6_inb 3),
    ld_z x2 0 0 (k0_off7_inb 0), ld_z x2 128 0 (k0_off7_inb 1), ld_z x2 256 0 (k0_off7_inb 2), ld_z x2 384 0 (k0_off7_inb 3),
    View.ld_unit_zero (S := S1x128) off2, View.ld_unit_zero (S := S1x1024) off2,
    View.ld_unit_zero (S := S128x1024) off2,
    max_b, max_c, abs_b, abs_c, half_b, half_c, half_d, full_b, full_c, full_d, acs_b, acs_c, acs_d, acsT_b, acsT_c, acsT_d, dtT_b, dtT_c, dtT_d, ea_b,
    ea_c, ea_d, cd_b, cd_c, cd_d, xw_b, xw_c, xw_d, cast_39, cast_69, cast_86, cast_115, cast_132, cast_161, cast_177, cast_22, cast_40, cast_70, cast_87,
    cast_116, cast_133, cast_162, cast_178, cb_23, cb_41, cb_71, cb_88, cb_117, cb_163, cb_134, cb_179, off_a, off_c, off_d, offR_b, offR_c, offR_d,
    next_b, next_c, next_d, nextR_b, nextR_c, nextR_d, last_a, last_b, last_c, last_d, pair7_d, pair6_d, pair5_d, pair4_d, pair3_d, pair2_d, pair1_d,
    pair0_d, pair7_c, pair6_c, pair5_c, pair4_c, pair3_c, pair2_c, pair1_c, pair0_c, pair7_b, pair6_b, pair5_b, pair4_b, pair3_b, pair2_b, pair1_b,
    pair0_b, pair7_a, pair6_a, pair5_a, pair4_a, pair3_a, pair2_a, pair1_a, pair0_a]
  have hd := d.isLt
  match q, hr with
  | ⟨0, _⟩, hr =>
    dsimp only at hr
    refine (rows_off 384 _ _ _ r l (by omega)).trans ((rows_off 256 _ _ _ r l (by omega)).trans ((rows_off 128 _ _ _ r l (by omega)).trans ?_))
    refine (rows_on 0 _ _ _ r l d (by omega)).trans ?_
    simp only [chunkOut, chunkY, half0, half1, dtAt, xAt, bAt0, bAt1, cAt0, cAt1, Nat.reduceMul]
  | ⟨1, _⟩, hr =>
    dsimp only at hr
    refine (rows_off 384 _ _ _ r l (by omega)).trans ((rows_off 256 _ _ _ r l (by omega)).trans ?_)
    refine (rows_on 128 _ _ _ r l d (by omega)).trans ?_
    simp only [chunkOut, chunkY, half0, half1, dtAt, xAt, bAt0, bAt1, cAt0, cAt1, Nat.reduceMul]
  | ⟨2, _⟩, hr =>
    dsimp only at hr
    refine (rows_off 384 _ _ _ r l (by omega)).trans ?_
    refine (rows_on 256 _ _ _ r l d (by omega)).trans ?_
    simp only [chunkOut, chunkY, half0, half1, dtAt, xAt, bAt0, bAt1, cAt0, cAt1, Nat.reduceMul]
  | ⟨3, _⟩, hr =>
    dsimp only at hr
    refine (rows_on 384 _ _ _ r l d (by omega)).trans ?_
    simp only [chunkOut, chunkY, half0, half1, dtAt, xAt, bAt0, bAt1, cAt0, cAt1, Nat.reduceMul]

set_option maxRecDepth 4096 in
set_option maxHeartbeats 2000000 in
/-- The left half of the state that the point leaves. -/
theorem left_A (hc : cond0_0 i) (r : Fin 128) (d : Fin 512) :
    sout0_A_0 c i a2 h2 a3 h3 a4 h4 a5 h5 a6 h6 a7 h7 a8 h8 a9 h9 a10 h10 a11 h11 a12 h12 hc x0 x1 x2 x3 x4 x5 x6 x7 (ix2 r ⟨d.val, by omega⟩)
      = half0 x0 x1 x3 x4 x7 (colsAt (k0_pay2 : FVec Ideal S128x1024 .f32) 0 (by decide)) 4 (ix2 r d) := by
  unfold sout0_A_0 kernelRun0_A
  dsimp only
  sl_unfold_words
  simp (config := {decide := true}) only [View.readAt_eq_ld, h2.read_unread, h3.read_unread, h4.read_unread, h5.read_unread,
    h6.read_unread, h7.read_unread, h8.read_unread, h9.read_unread, h11.read_unread, ↓rc_skip, ↓rc_same, ↓rc_in, ↓rc_whole, ↓rc_reset,
    View.read_writes_junk_eq_canon, ld_cols,
    ld_x x0 0 0 (k0_off1_inb 0), ld_x x0 128 0 (k0_off1_inb 1), ld_x x0 256 0 (k0_off1_inb 2), ld_x x0 384 0 (k0_off1_inb 3),
    ld_dt x1 0 0 (k0_off2_inb 0), ld_dt x1 128 0 (k0_off2_inb 1), ld_dt x1 256 0 (k0_off2_inb 2), ld_dt x1 384 0 (k0_off2_inb 3),
    ld_bc x0 0 1024 (k0_off3_inb 0), ld_bc x0 128 1024 (k0_off3_inb 1), ld_bc x0 256 1024 (k0_off3_inb 2), ld_bc x0 384 1024 (k0_off3_inb 3),
    View.ld_unit_zero (S := S1x128) off2, View.ld_unit_zero (S := S1x1024) off2,
    View.ld_unit_zero (S := S128x1024) off2,
    max_b, max_c, abs_b, abs_c, half_b, half_c, half_d, full_b, full_c, full_d, acs_b, acs_c, acs_d, acsT_b, acsT_c, acsT_d, dtT_b, dtT_c, dtT_d, ea_b,
    ea_c, ea_d, cd_b, cd_c, cd_d, xw_b, xw_c, xw_d, cast_39, cast_69, cast_86, cast_115, cast_132, cast_161, cast_177, cast_22, cast_40, cast_70, cast_87,
    cast_116, cast_133, cast_162, cast_178, cb_23, cb_41, cb_71, cb_88, cb_117, cb_163, cb_134, cb_179, off_a, off_c, off_d, offR_b, offR_c, offR_d,
    next_b, next_c, next_d, nextR_b, nextR_c, nextR_d, last_a, last_b, last_c, last_d, pair7_d, pair6_d, pair5_d, pair4_d, pair3_d, pair2_d, pair1_d,
    pair0_d, pair7_c, pair6_c, pair5_c, pair4_c, pair3_c, pair2_c, pair1_c, pair0_c, pair7_b, pair6_b, pair5_b, pair4_b, pair3_b, pair2_b, pair1_b,
    pair0_b, pair7_a, pair6_a, pair5_a, pair4_a, pair3_a, pair2_a, pair1_a, pair0_a]
  have hd := d.isLt
  refine (canon_off 512 512 _ _ _ r ⟨d.val, by omega⟩ (by dsimp only; omega)).trans ?_
  refine (canon_on 0 512 _ _ _ r ⟨d.val, by omega⟩ d (by dsimp only; omega)).trans ?_
  simp only [chunkOut, chunkY, half0, half1, dtAt, xAt, bAt0, bAt1, cAt0, cAt1, Nat.reduceMul]

set_option maxRecDepth 4096 in
set_option maxHeartbeats 2000000 in
/-- The right half. -/
theorem right_A (hc : cond0_0 i) (r : Fin 128) (d : Fin 512) :
    sout0_A_0 c i a2 h2 a3 h3 a4 h4 a5 h5 a6 h6 a7 h7 a8 h8 a9 h9 a10 h10 a11 h11 a12 h12 hc x0 x1 x2 x3 x4 x5 x6 x7 (ix2 r ⟨512 + d.val, by omega⟩)
      = half1 x0 x1 x3 x4 x7 (colsAt (k0_pay2 : FVec Ideal S128x1024 .f32) 512 (by decide)) 4 (ix2 r d) := by
  unfold sout0_A_0 kernelRun0_A
  dsimp only
  sl_unfold_words
  simp (config := {decide := true}) only [View.readAt_eq_ld, h2.read_unread, h3.read_unread, h4.read_unread, h5.read_unread,
    h6.read_unread, h7.read_unread, h8.read_unread, h9.read_unread, h11.read_unread, ↓rc_skip, ↓rc_same, ↓rc_in, ↓rc_whole, ↓rc_reset,
    View.read_writes_junk_eq_canon, ld_cols,
    ld_x x0 0 0 (k0_off1_inb 0), ld_x x0 128 0 (k0_off1_inb 1), ld_x x0 256 0 (k0_off1_inb 2), ld_x x0 384 0 (k0_off1_inb 3),
    ld_dt x1 0 0 (k0_off2_inb 0), ld_dt x1 128 0 (k0_off2_inb 1), ld_dt x1 256 0 (k0_off2_inb 2), ld_dt x1 384 0 (k0_off2_inb 3),
    ld_bc x0 0 1152 (k0_off5_inb 0), ld_bc x0 128 1152 (k0_off5_inb 1), ld_bc x0 256 1152 (k0_off5_inb 2), ld_bc x0 384 1152 (k0_off5_inb 3),
    View.ld_unit_zero (S := S1x128) off2, View.ld_unit_zero (S := S1x1024) off2,
    View.ld_unit_zero (S := S128x1024) off2,
    max_b, max_c, abs_b, abs_c, half_b, half_c, half_d, full_b, full_c, full_d, acs_b, acs_c, acs_d, acsT_b, acsT_c, acsT_d, dtT_b, dtT_c, dtT_d, ea_b,
    ea_c, ea_d, cd_b, cd_c, cd_d, xw_b, xw_c, xw_d, cast_39, cast_69, cast_86, cast_115, cast_132, cast_161, cast_177, cast_22, cast_40, cast_70, cast_87,
    cast_116, cast_133, cast_162, cast_178, cb_23, cb_41, cb_71, cb_88, cb_117, cb_163, cb_134, cb_179, off_a, off_c, off_d, offR_b, offR_c, offR_d,
    next_b, next_c, next_d, nextR_b, nextR_c, nextR_d, last_a, last_b, last_c, last_d, pair7_d, pair6_d, pair5_d, pair4_d, pair3_d, pair2_d, pair1_d,
    pair0_d, pair7_c, pair6_c, pair5_c, pair4_c, pair3_c, pair2_c, pair1_c, pair0_c, pair7_b, pair6_b, pair5_b, pair4_b, pair3_b, pair2_b, pair1_b,
    pair0_b, pair7_a, pair6_a, pair5_a, pair4_a, pair3_a, pair2_a, pair1_a, pair0_a]
  refine (canon_on 512 512 _ _ _ r ⟨512 + d.val, by omega⟩ d rfl).trans ?_
  simp only [chunkOut, chunkY, half0, half1, dtAt, xAt, bAt0, bAt1, cAt0, cAt1, Nat.reduceMul]

end

end Cert.Proof.Ssd

end
-- ==== Proof.Ssd.Host.lean ====
/-
  What the recurrence's call is handed beside the layer's arrays: the step sizes' bias and the decay rates padded to 128 lanes, the
  skip's weight head by head at every channel, the gain as a row, and the 0-1 matrix that spreads a head's lane over its channels.
-/
module

public import proofs.«01_k».proof.Proof.Blocks
public import proofs.«01_k».proof.Proof.Ssd.Parts
public import proofs.«01_k».proof.Proof.Gen.SsdIdeal.Value
public import Idealize.ShloMosaic.Lib.Routing.OpsOne

@[expose] public section

noncomputable section

namespace Cert.Proof.Ssd

open Idealize.ShloMosaic Idealize.ShloMosaic.TcCoe Cert.SsdIdeal Cert.SsdIdeal.Gen
open Idealize.SL.Sem Idealize.ShloMosaic.StableHlo

variable (m : (ℓ : Loc nD τ sig) → Buf (Elt Ideal) ℓ)

/-- The start of both paddings: row zero, lane zero. -/
abbrev start : IVec S2 32 :=
  concatenate S2 0 [⟨S1, broadcastInDim S1 ![] bcast_S_S1 (constantI S_ 32 0#32)⟩, ⟨S1, broadcastInDim S1 ![] bcast_S_S1 (constantI S_ 32 0#32)⟩]
    concatenates_S1_S1_S2_d0

theorem lands : ∀ h : Fin 16, (scatter_S1x128_S2_S16_0_0_01_0).resultIdx? (ix1 h) start = some (ix2 0 (laneOf h)) := by decide +kernel

theorem padded (x : FVec Ideal S1x128 .f32) (u : FVec Ideal S16 .f32) (h : Fin 16) :
    Host.scatter scatter_S1x128_S2_S16_0_0_01_0 (fun _ b => b) x start u (ix2 0 (laneOf h)) = u (ix1 h) := by
  refine Routing.scatter_set_hit _ x start u _ _ (fun k hk => ?_) (ix1 h) (lands h)
  obtain ⟨h', rfl⟩ : ∃ h' : Fin 16, k = ix1 h' := ⟨k 0, eq_ix1 k⟩
  rw [lands h'] at hk
  have e : laneOf h' = laneOf h := congrFun (Option.some.inj hk) 1
  have e' : h' = h := Fin.ext (show h'.val = h.val from congrArg (fun l : Fin 128 => l.val) e)
  rw [e']

theorem V_v13 (c : Dev nD) (h : Fin 16) : V m c main_v13 (ix2 0 (laneOf h)) = m ((c : Thread nD τ).loc main_arg3) (ix1 h) := by
  have e : V m c main_v13 = Host.scatter scatter_S1x128_S2_S16_0_0_01_0 (fun _ b => b) (broadcastInDim S1x128 ![] bcast_S_S1x128 (constant S_ .f32 0x00000000#32 : FVec Ideal S_ .f32)) start
      (m ((c : Thread nD τ).loc main_arg3)) := by
    unfold V
    simp only [hostOps0, hostOps0_1, hostOps0_2, List.flatten_cons, List.flatten_nil, List.append_nil, List.cons_append, List.nil_append]
    after_results
  exact (congrFun e _).trans (padded _ _ h)

theorem V_v18 (c : Dev nD) (h : Fin 16) : V m c main_v18 (ix2 0 (laneOf h)) = m ((c : Thread nD τ).loc main_arg4) (ix1 h) := by
  have e : V m c main_v18 = Host.scatter scatter_S1x128_S2_S16_0_0_01_0 (fun _ b => b) (broadcastInDim S1x128 ![] bcast_S_S1x128 (constant S_ .f32 0x00000000#32 : FVec Ideal S_ .f32)) start
      (m ((c : Thread nD τ).loc main_arg4)) := by
    unfold V
    simp only [hostOps0, hostOps0_1, hostOps0_2, List.flatten_cons, List.flatten_nil, List.append_nil, List.cons_append, List.nil_append]
    after_results
  exact (congrFun e _).trans (padded _ _ h)

theorem skip_apply (A : FVec Ideal S16 .f32) (k : Fin 1024) :
    shapeCast S1x1024 (shapeCast S1024 (broadcastInDim S16x64 ![0] bcast_S16_S16x64_0 A) shapeCasts_S16x64_S1024) shapeCasts_S1024_S1x1024 (ix2 0 k) = A (ix1 (hd k)) := by
  pointwise
  rfl

theorem V_v21 (c : Dev nD) (k : Fin 1024) : V m c main_v21 (ix2 0 k) = m ((c : Thread nD τ).loc main_arg5) (ix1 (hd k)) := by
  have e : V m c main_v21 = shapeCast S1x1024 (shapeCast S1024 (broadcastInDim S16x64 ![0] bcast_S16_S16x64_0 (m ((c : Thread nD τ).loc main_arg5))) shapeCasts_S16x64_S1024) shapeCasts_S1024_S1x1024 := by
    unfold V
    simp only [hostOps0, hostOps0_1, hostOps0_2, List.flatten_cons, List.flatten_nil, List.append_nil, List.cons_append, List.nil_append]
    after_results
    rfl
  exact (congrFun e _).trans (skip_apply _ k)

theorem gain_apply (A : FVec Ideal S1024 .f32) (k : Fin 1024) :
    shapeCast S1x1024 A shapeCasts_S1024_S1x1024 (ix2 0 k) = A (ix1 k) := by pointwise

theorem V_v22 (c : Dev nD) (k : Fin 1024) : V m c main_v22 (ix2 0 k) = m ((c : Thread nD τ).loc main_arg6) (ix1 k) := by
  have e : V m c main_v22 = shapeCast S1x1024 (m ((c : Thread nD τ).loc main_arg6)) shapeCasts_S1024_S1x1024 := by
    unfold V
    simp only [hostOps0, hostOps0_1, hostOps0_2, List.flatten_cons, List.flatten_nil, List.append_nil, List.cons_append, List.nil_append]
    after_results
    rfl
  exact (congrFun e _).trans (gain_apply _ k)

abbrev all64 : IVec S1024 32 := broadcastInDim S1024 ![] bcast_S_S1024 (constantI S_ 32 64#32)
/-- The head of each column, by a division rounded down. -/
abbrev heads : IVec S1024 32 :=
  select (andi (cmpi .ne (signi (iotaInDim S1024 32 0)) (broadcastInDim S1024 ![] bcast_S_S1024 (signi (constantI S_ 32 64#32))))
      (cmpi .ne (Host.remsi (iotaInDim S1024 32 0) all64) (broadcastInDim S1024 ![] bcast_S_S1024 (constantI S_ 32 0#32))))
    (subi (Host.divsi (iotaInDim S1024 32 0) all64) (broadcastInDim S1024 ![] bcast_S_S1024 (constantI S_ 32 1#32)))
    (Host.divsi (iotaInDim S1024 32 0) all64)

theorem heads_apply : ∀ c : Fin 1024, heads (ix1 c) = BitVec.ofNat 32 (c.val / 64) := by decide +kernel

theorem word_eq (a : Fin 128) (b : ℕ) (hb : b < 128) : IntOp.cmpi CmpIPredicate.eq (BitVec.ofNat 32 a.val) (BitVec.ofNat 32 b) = if a.val = b then 1#1 else 0#1 := by
  have ha := a.isLt
  have hi : (BitVec.ofNat 32 a.val = BitVec.ofNat 32 b) ↔ a.val = b := by
    constructor
    · intro h
      have := congrArg BitVec.toNat h
      simp only [BitVec.toNat_ofNat] at this
      omega
    · intro h; rw [h]
  by_cases h : a.val = b
  · rw [if_pos h, hi.2 h]; simp [IntOp.cmpi]
  · rw [if_neg h]
    show BitVec.ofBool (BitVec.ofNat 32 a.val == BitVec.ofNat 32 b) = 0#1
    rw [beq_false_of_ne (mt hi.1 h)]
    rfl

/-- The expansion's entry: one where the lane is the column's head. -/
theorem expand_apply (H : IVec S1024 32) (hH : ∀ c : Fin 1024, H (ix1 c) = BitVec.ofNat 32 (c.val / 64)) (l : Fin 128) (c : Fin 1024) :
    (uitofp .bf16 (cmpi .eq (broadcastInDim S128x1024 ![0, 1] bcast_S128x1_S128x1024_0_1 (broadcastInDim S128x1 ![0] bcast_S128_S128x1_0 (iotaInDim S128 32 0)))
      (broadcastInDim S128x1024 ![0, 1] bcast_S1x1024_S128x1024_0_1 (broadcastInDim S1x1024 ![1] bcast_S1024_S1x1024_1 H))) : FVec Ideal S128x1024 .bf16) (ix2 l c)
    = if l = lane c then 1 else 0 := by
  have hc : c.val / 64 < 128 := by have := c.isLt; omega
  have e : (l.val = c.val / 64) ↔ l = lane c := ⟨fun h => Fin.ext h, fun h => congrArg Fin.val h⟩
  pointwise
  rw [hH, word_eq l _ hc]
  by_cases h : l = lane c
  · rw [if_pos (e.2 h), if_pos h]
    show (((1#1 : BitVec 1).toNat : ℝ) : EReal) = 1
    norm_num
  · rw [if_neg (mt e.1 h), if_neg h]
    show (((0#1 : BitVec 1).toNat : ℝ) : EReal) = 0
    norm_num

theorem V_v8 (c : Dev nD) (l : Fin 128) (k : Fin 1024) : (V m c main_v8 : FVec Ideal S128x1024 .bf16) (ix2 l k) = if l = lane k then (1 : EReal) else 0 := by
  have e : V m c main_v8 = (uitofp .bf16 (cmpi .eq (broadcastInDim S128x1024 ![0, 1] bcast_S128x1_S128x1024_0_1 (broadcastInDim S128x1 ![0] bcast_S128_S128x1_0 (iotaInDim S128 32 0)))
      (broadcastInDim S128x1024 ![0, 1] bcast_S1x1024_S128x1024_0_1 (broadcastInDim S1x1024 ![1] bcast_S1024_S1x1024_1 heads))) : FVec Ideal S128x1024 .bf16) := by
    unfold V
    simp only [hostOps0, hostOps0_1, hostOps0_2, List.flatten_cons, List.flatten_nil, List.append_nil, List.cons_append, List.nil_append]
    after_results
    rfl
  exact (congrFun e _).trans (expand_apply _ heads_apply l k)

end Cert.Proof.Ssd

end
-- ==== Proof.Ssd.Sequence.lean ====
/-
  The layer over a whole sequence: 64 chunks of 128 rows, each from the state that the chunks before it leave, zero before the
  first.
-/
module

public import proofs.«01_k».proof.Proof.Blocks
public import proofs.«01_k».proof.Proof.Ssd.Scan

@[expose] public section

noncomputable section

namespace Cert.Proof.Ssd

open Idealize.ShloMosaic
open scoped BigOperators

/-! ### Sequences of chunks -/

theorem Chunk.eq_of {k k' : Chunk} (hx : ∀ i c, k.x i c = k'.x i c) (hB : ∀ g i n, k.B g i n = k'.B g i n) (hC : ∀ g i n, k.C g i n = k'.C g i n)
    (hdt : ∀ i h, k.dt i h = k'.dt i h) : k = k' := by
  obtain ⟨x, B, C, dt⟩ := k
  obtain ⟨x', B', C', dt'⟩ := k'
  obtain rfl : x = x' := funext fun i => funext fun c => hx i c
  obtain rfl : B = B' := funext fun g => funext fun i => funext fun n => hB g i n
  obtain rfl : C = C' := funext fun g => funext fun i => funext fun n => hC g i n
  obtain rfl : dt = dt' := funext fun i => funext fun h => hdt i h
  rfl

/-- The state depends on the chunks before it only. -/
theorem states_congr {ks ks' : ℕ → Chunk} (a : Fin 16 → EReal) (st : Fin 128 → Fin 1024 → EReal) (n : ℕ) (h : ∀ q, q < n → ks q = ks' q) :
    states ks a st n = states ks' a st n := by
  induction n with
  | zero => rfl
  | succ n ih =>
    show (ks n).next a (states ks a st n) = (ks' n).next a (states ks' a st n)
    rw [ih fun q hq => h q (Nat.lt_succ_of_lt hq), h n (Nat.lt_succ_self n)]

/-- `p` chunks and then `q` more. -/
theorem states_add (ks : ℕ → Chunk) (a : Fin 16 → EReal) (st : Fin 128 → Fin 1024 → EReal) (p q : ℕ) :
    states ks a st (p + q) = states (fun j => ks (p + j)) a (states ks a st p) q := by
  induction q with
  | zero => rfl
  | succ q ih =>
    show (ks (p + q)).next a (states ks a st (p + q)) = _
    rw [ih]
    rfl

/-! ### The layer's arrays -/

/-- Row `i` of chunk `q`. -/
def seqRow (q : ℕ) (i : Fin 128) : Fin 8192 := ⟨(128 * q + i.val) % 8192, Nat.mod_lt _ (by decide)⟩

section
variable (X : FVec Ideal (⟨3, ![4, 8192, 1536]⟩ : Shape) .bf16) (D : FVec Ideal (⟨3, ![4, 8192, 128]⟩ : Shape) .f32)
  (Z : FVec Ideal (⟨3, ![4, 8192, 1024]⟩ : Shape) .bf16) (bias alog skip : FVec Ideal (⟨1, ![16]⟩ : Shape) .f32)
  (gain : FVec Ideal (⟨1, ![1024]⟩ : Shape) .f32)

/-- Chunk `q` of sequence `b`: a row holds the 1024 channels, the two groups' input vectors and their output vectors. -/
def seqChunk (b : Fin 4) (q : ℕ) : Chunk where
  x i c := X (ix3 b (seqRow q i) ⟨c.val, by omega⟩)
  B g i n := X (ix3 b (seqRow q i) ⟨1024 + 128 * g.val + n.val, by omega⟩)
  C g i n := X (ix3 b (seqRow q i) ⟨1280 + 128 * g.val + n.val, by omega⟩)
  dt i h := softplus (D (ix3 b (seqRow q i) ⟨h.val, by omega⟩) + bias (ix1 h))

/-- The decay rates. -/
def rate (h : Fin 16) : EReal := 0 - Ideal.exp (alog (ix1 h))

/-- The state before chunk `q` of sequence `b`. -/
def seqState (b : Fin 4) (q : ℕ) : Fin 128 → Fin 1024 → EReal := states (seqChunk X D bias b) (rate alog) (fun _ _ => 0) q

/-- The layer's result at row `i` of chunk `q` of sequence `b`. -/
def seqOut (b : Fin 4) (q : ℕ) (i : Fin 128) (l : Fin 1024) : EReal :=
  (seqChunk X D bias b q).out (rate alog) (seqState X D bias alog b q) (fun c => skip (ix1 (hd c))) (fun c => gain (ix1 c))
    (fun i c => Z (ix3 b (seqRow q i) c)) i l

/-- The same at an index. -/
def seqResult (i : (⟨3, ![4, 8192, 1024]⟩ : Shape).Idx) : EReal :=
  seqOut X D Z bias alog skip gain (i 0) ((i 1).val / 128) ⟨(i 1).val % 128, Nat.mod_lt _ (by decide)⟩ (i 2)

end

end Cert.Proof.Ssd

end
-- ==== Proof.Ssd.Kernel.lean ====
/-
  The recurrence kernel's result array: the points of a sequence hand the state on, four chunks each, so the array is the layer's
  result over the whole sequences.
-/
module

public import proofs.«01_k».proof.Proof.Blocks
public import proofs.«01_k».proof.Proof.Ssd.Point
public import proofs.«01_k».proof.Proof.Ssd.Host
public import proofs.«01_k».proof.Proof.Ssd.Sequence
public import proofs.«01_k».proof.Proof.Gen.SsdIdeal.Value

@[expose] public section

noncomputable section

namespace Cert.Proof.Ssd

open Idealize.ShloMosaic Idealize.ShloMosaic.TcCoe Cert.SsdIdeal Cert.SsdIdeal.Gen
open Idealize.SL.Sem Idealize.ShloMosaic.StableHlo
open scoped BigOperators

variable (m : (ℓ : Loc nD τ sig) → Buf (Elt Ideal) ℓ) (ρ : Dev nD → PrngReg)

abbrev resultAt (c : Dev nD) : Buf (Elt Ideal) ((c : Thread nD τ).loc main_v23) :=
  seqResult (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-! ### The blocks the windows name -/

theorem move0 : ∀ t : Fin cfg0.N, win0_0.index t 0 = t.val / 16 ∧ win0_0.index t 1 = t.val % 16 ∧ win0_0.index t 2 = 0 := (by decide +kernel : ∀ t : Fin grid0.N, _)
theorem move1 : ∀ t : Fin cfg0.N, win0_1.index t 0 = t.val / 16 ∧ win0_1.index t 1 = t.val % 16 ∧ win0_1.index t 2 = 0 := (by decide +kernel : ∀ t : Fin grid0.N, _)
theorem move2 : ∀ t : Fin cfg0.N, win0_2.index t 0 = t.val / 16 ∧ win0_2.index t 1 = t.val % 16 ∧ win0_2.index t 2 = 0 := (by decide +kernel : ∀ t : Fin grid0.N, _)
theorem move8 : ∀ t : Fin cfg0.N, win0_8.index t 0 = t.val / 16 ∧ win0_8.index t 1 = t.val % 16 ∧ win0_8.index t 2 = 0 := (by decide +kernel : ∀ t : Fin grid0.N, _)
theorem stay3 : ∀ t : Fin cfg0.N, win0_3.index t 0 = 0 ∧ win0_3.index t 1 = 0 := (by decide +kernel : ∀ t : Fin grid0.N, _)
theorem stay4 : ∀ t : Fin cfg0.N, win0_4.index t 0 = 0 ∧ win0_4.index t 1 = 0 := (by decide +kernel : ∀ t : Fin grid0.N, _)
theorem stay5 : ∀ t : Fin cfg0.N, win0_5.index t 0 = 0 ∧ win0_5.index t 1 = 0 := (by decide +kernel : ∀ t : Fin grid0.N, _)
theorem stay6 : ∀ t : Fin cfg0.N, win0_6.index t 0 = 0 ∧ win0_6.index t 1 = 0 := (by decide +kernel : ∀ t : Fin grid0.N, _)
theorem stay7 : ∀ t : Fin cfg0.N, win0_7.index t 0 = 0 ∧ win0_7.index t 1 = 0 := (by decide +kernel : ∀ t : Fin grid0.N, _)

/-- Point `t`'s sequence. -/
def batchOf (t : Fin cfg0.N) : Fin 4 := ⟨t.val / 16, by have := t.isLt; have hN : cfg0.N = 64 := N_0; omega⟩

/-- The sequence's row that is row `r` of point `t`'s block. -/
def rowOf (t : Fin cfg0.N) (r : Fin 512) : Fin 8192 := ⟨t.val % 16 * 512 + r.val, by omega⟩

theorem in0 (c : Dev nD) (t : Fin cfg0.N) (r : Fin 512) (k : Fin 1536) :
    (iblk m c 0 t : Vec Ideal S1x512x1536 .bf16) (ix3 0 r k) = m ((c : Thread nD τ).loc main_arg0) (ix3 (batchOf t) (rowOf t r) k) := by
  have hi := move0 t
  unfold iblk
  rw [View.read_apply]
  show V m c main_arg0 _ = _
  rw [V_main_arg0]
  exact at3 (m ((c : Thread nD τ).loc main_arg0)) (by show win0_0.index t 0 * 1 + 1 * 0 = t.val / 16; rw [hi.1]; omega)
    (by show win0_0.index t 1 * 512 + 1 * r.val = t.val % 16 * 512 + r.val; rw [hi.2.1]; omega)
    (by show win0_0.index t 2 * 1536 + 1 * k.val = k.val; rw [hi.2.2]; omega)

theorem in1 (c : Dev nD) (t : Fin cfg0.N) (r : Fin 512) (k : Fin 128) :
    (iblk m c 1 t : Vec Ideal S1x512x128 .f32) (ix3 0 r k) = m ((c : Thread nD τ).loc main_arg1) (ix3 (batchOf t) (rowOf t r) k) := by
  have hi := move1 t
  unfold iblk
  rw [View.read_apply]
  show V m c main_arg1 _ = _
  rw [V_main_arg1]
  exact at3 (m ((c : Thread nD τ).loc main_arg1)) (by show win0_1.index t 0 * 1 + 1 * 0 = t.val / 16; rw [hi.1]; omega)
    (by show win0_1.index t 1 * 512 + 1 * r.val = t.val % 16 * 512 + r.val; rw [hi.2.1]; omega)
    (by show win0_1.index t 2 * 128 + 1 * k.val = k.val; rw [hi.2.2]; omega)

theorem in2 (c : Dev nD) (t : Fin cfg0.N) (r : Fin 512) (k : Fin 1024) :
    (iblk m c 2 t : Vec Ideal S1x512x1024 .bf16) (ix3 0 r k) = m ((c : Thread nD τ).loc main_arg2) (ix3 (batchOf t) (rowOf t r) k) := by
  have hi := move2 t
  unfold iblk
  rw [View.read_apply]
  show V m c main_arg2 _ = _
  rw [V_main_arg2]
  exact at3 (m ((c : Thread nD τ).loc main_arg2)) (by show win0_2.index t 0 * 1 + 1 * 0 = t.val / 16; rw [hi.1]; omega)
    (by show win0_2.index t 1 * 512 + 1 * r.val = t.val % 16 * 512 + r.val; rw [hi.2.1]; omega)
    (by show win0_2.index t 2 * 1024 + 1 * k.val = k.val; rw [hi.2.2]; omega)

theorem in3 (c : Dev nD) (t : Fin cfg0.N) (h : Fin 16) :
    (iblk m c 3 t : Vec Ideal S1x128 .f32) (ix2 0 (laneOf h)) = m ((c : Thread nD τ).loc main_arg3) (ix1 h) := by
  have hi := stay3 t
  unfold iblk
  rw [View.read_apply]
  exact (at2 (V m c main_v13) (by show win0_3.index t 0 * 1 + 1 * 0 = 0; rw [hi.1])
    (by show win0_3.index t 1 * 128 + 1 * (laneOf h).val = (laneOf h).val; rw [hi.2]; omega)).trans (V_v13 m c h)

theorem in4 (c : Dev nD) (t : Fin cfg0.N) (h : Fin 16) :
    (iblk m c 4 t : Vec Ideal S1x128 .f32) (ix2 0 (laneOf h)) = m ((c : Thread nD τ).loc main_arg4) (ix1 h) := by
  have hi := stay4 t
  unfold iblk
  rw [View.read_apply]
  exact (at2 (V m c main_v18) (by show win0_4.index t 0 * 1 + 1 * 0 = 0; rw [hi.1])
    (by show win0_4.index t 1 * 128 + 1 * (laneOf h).val = (laneOf h).val; rw [hi.2]; omega)).trans (V_v18 m c h)

theorem in5 (c : Dev nD) (t : Fin cfg0.N) (k : Fin 1024) :
    (iblk m c 5 t : Vec Ideal S1x1024 .f32) (ix2 0 k) = m ((c : Thread nD τ).loc main_arg5) (ix1 (hd k)) := by
  have hi := stay5 t
  unfold iblk
  rw [View.read_apply]
  exact (at2 (V m c main_v21) (by show win0_5.index t 0 * 1 + 1 * 0 = 0; rw [hi.1])
    (by show win0_5.index t 1 * 1024 + 1 * k.val = k.val; rw [hi.2]; omega)).trans (V_v21 m c k)

theorem in6 (c : Dev nD) (t : Fin cfg0.N) (k : Fin 1024) :
    (iblk m c 6 t : Vec Ideal S1x1024 .f32) (ix2 0 k) = m ((c : Thread nD τ).loc main_arg6) (ix1 (k)) := by
  have hi := stay6 t
  unfold iblk
  rw [View.read_apply]
  exact (at2 (V m c main_v22) (by show win0_6.index t 0 * 1 + 1 * 0 = 0; rw [hi.1])
    (by show win0_6.index t 1 * 1024 + 1 * k.val = k.val; rw [hi.2]; omega)).trans (V_v22 m c k)

theorem in7 (c : Dev nD) (t : Fin cfg0.N) (l : Fin 128) (k : Fin 1024) :
    (iblk m c 7 t : Vec Ideal S128x1024 .bf16) (ix2 l k) = if l = lane k then (1 : EReal) else 0 := by
  have hi := stay7 t
  unfold iblk
  rw [View.read_apply]
  exact (at2 (V m c main_v8) (by show win0_7.index t 0 * 128 + 1 * l.val = l.val; rw [hi.1]; omega)
    (by show win0_7.index t 1 * 1024 + 1 * k.val = k.val; rw [hi.2]; omega)).trans (V_v8 m c l k)

/-! ### The point's chunks are the sequence's -/

section
variable (c : Dev nD) (t : Fin cfg0.N)

/-- The sequences' chunks, decay rates and states, of the argument arrays. -/
abbrev chunkAt (b : Fin 4) : ℕ → Chunk :=
  seqChunk (m ((c : Thread nD τ).loc main_arg0)) (m ((c : Thread nD τ).loc main_arg1)) (m ((c : Thread nD τ).loc main_arg3)) b
abbrev rateAt : Fin 16 → EReal := rate (m ((c : Thread nD τ).loc main_arg4))
abbrev stateAt (b : Fin 4) (q : ℕ) : Fin 128 → Fin 1024 → EReal := states (chunkAt m c b) (rateAt m c) (fun _ _ => 0) q

abbrev blk : ℕ → Chunk :=
  blkChunk (iblk m c 0 t : Vec Ideal S1x512x1536 .bf16) (iblk m c 1 t : Vec Ideal S1x512x128 .f32) (iblk m c 3 t : Vec Ideal S1x128 .f32)

theorem blk_eq (q : ℕ) (hq : q < 4) : blk m c t q = chunkAt m c (batchOf t) (4 * (t.val % 16) + q) := by
  have hrow : ∀ i : Fin 128, (rowOf t ⟨(128 * q + i.val) % 512, Nat.mod_lt _ (by decide)⟩).val = (seqRow (4 * (t.val % 16) + q) i).val := fun i => by
    show t.val % 16 * 512 + (128 * q + i.val) % 512 = (128 * (4 * (t.val % 16) + q) + i.val) % 8192
    omega
  refine Chunk.eq_of (fun i k => ?_) (fun g i n => ?_) (fun g i n => ?_) (fun i h => ?_)
  · refine (in0 m c t _ _).trans ?_
    exact at3 _ rfl (hrow i) (by show 0 + k.val = k.val; omega)
  · show (if g.val = 0 then _ else _) = _
    split
    · refine (in0 m c t _ _).trans ?_
      exact at3 _ rfl (hrow i) (by show 1024 + n.val = 1024 + 128 * g.val + n.val; omega)
    · refine (in0 m c t _ _).trans ?_
      exact at3 _ rfl (hrow i) (by show 1152 + n.val = 1024 + 128 * g.val + n.val; omega)
  · show (if g.val = 0 then _ else _) = _
    split
    · refine (in0 m c t _ _).trans ?_
      exact at3 _ rfl (hrow i) (by show 1280 + n.val = 1280 + 128 * g.val + n.val; omega)
    · refine (in0 m c t _ _).trans ?_
      exact at3 _ rfl (hrow i) (by show 1408 + n.val = 1280 + 128 * g.val + n.val; omega)
  · show softplus (_ + _) = softplus (_ + _)
    rw [in3]
    congr 2
    refine (in1 m c t _ _).trans ?_
    exact at3 _ rfl (hrow i) (by show 0 + h.val = h.val; omega)

theorem rates_eq : rates (iblk m c 4 t : Vec Ideal S1x128 .f32) = rateAt m c := by
  funext h
  show 0 - Ideal.exp _ = 0 - Ideal.exp _
  rw [in4]

/-- The state inside the point's block. -/
theorem inside (q : ℕ) (hq : q ≤ 4) :
    states (blk m c t) (rates (iblk m c 4 t : Vec Ideal S1x128 .f32)) (stateAt m c (batchOf t) (4 * (t.val % 16))) q
      = stateAt m c (batchOf t) (4 * (t.val % 16) + q) := by
  rw [rates_eq, states_congr (ks' := fun j => chunkAt m c (batchOf t) (4 * (t.val % 16) + j)) _ _ q fun j hj => blk_eq m c t j (by omega)]
  exact (states_add _ _ _ _ _).symm

end

theorem halves_of (xs : Vec Ideal S128x1024 .f32) (st : Fin 128 → Fin 1024 → EReal) (h : ∀ r k, xs (ix2 r k) = st r k) :
    Halves (colsAt xs 0 (by decide)) (colsAt xs 512 (by decide)) st :=
  ⟨fun n d => (h n _).trans (congrArg (st n) (Fin.ext (Nat.zero_add _))), fun n d => h n _⟩

theorem zero_state (r : Fin 128) (k : Fin 1024) : (k0_pay2 : FVec Ideal S128x1024 .f32) (ix2 r k) = 0 := by
  pointwise [k0_pay2]

/-- A column is in the left half or in the right half. -/
theorem cols_cases (P : Fin 1024 → Prop) (h0 : ∀ d : Fin 512, P ⟨d.val, by omega⟩) (h1 : ∀ d : Fin 512, P ⟨512 + d.val, by omega⟩) (k : Fin 1024) : P k := by
  by_cases hk : k.val < 512
  · exact h0 ⟨k.val, hk⟩
  · have e : k = ⟨512 + (⟨k.val - 512, by omega⟩ : Fin 512).val, by dsimp only; omega⟩ := Fin.ext (by dsimp only; omega)
    rw [e]
    exact h1 _

/-- The state before point `t` is zero at a sequence's first point. -/
theorem first_state (c : Dev nD) (t : Fin cfg0.N) (h0 : t.val % 16 = 0) (r : Fin 128) (k : Fin 1024) :
    (k0_pay2 : FVec Ideal S128x1024 .f32) (ix2 r k) = stateAt m c (batchOf t) (4 * (t.val % 16)) r k := by
  rw [zero_state, h0]
  rfl

/-- From the state before it a point goes to the state after its four chunks. -/
theorem halves_at (c : Dev nD) (t : Fin cfg0.N) (xs : Vec Ideal S128x1024 .f32)
    (hx : ∀ r k, xs (ix2 r k) = stateAt m c (batchOf t) (4 * (t.val % 16)) r k) :
    Halves (half0 (iblk m c 0 t) (iblk m c 1 t) (iblk m c 3 t) (iblk m c 4 t) (iblk m c 7 t) (colsAt xs 0 (by decide)) 4)
      (half1 (iblk m c 0 t) (iblk m c 1 t) (iblk m c 3 t) (iblk m c 4 t) (iblk m c 7 t) (colsAt xs 512 (by decide)) 4) (stateAt m c (batchOf t) (4 * (t.val % 16) + 4)) := by
  have H := halves (iblk m c 0 t) (iblk m c 1 t) (iblk m c 3 t) (iblk m c 4 t) (iblk m c 7 t) (colsAt xs 0 (by decide)) (colsAt xs 512 (by decide))
    (in7 m c t) (stateAt m c (batchOf t) (4 * (t.val % 16))) (halves_of xs _ hx) 4
  rwa [inside m c t 4 le_rfl] at H

theorem after_A (c : Dev nD) (t : Fin cfg0.N) (h0 : t.val % 16 = 0) (r : Fin 128) (k : Fin 1024) :
    (outsAt0 m c t.val t.isLt).2 (ix2 r k) = stateAt m c (batchOf t) (4 * (t.val % 16) + 4) r k := by
  have H := halves_at m c t _ (first_state m c t h0)
  rw [outsAt0_A m c t h0]
  dsimp only
  revert k
  refine cols_cases _ (fun d => ?_) (fun d => ?_)
  · rw [left_A]
    exact H.1 r d
  · rw [right_A]
    exact H.2 r d

theorem after_B (c : Dev nD) (t : Fin cfg0.N) (h0 : ¬ t.val % 16 = 0)
    (hx : ∀ r k, (outsAt0 m c (t.val - 1) (Nat.lt_of_le_of_lt (Nat.sub_le _ _) t.isLt)).2 (ix2 r k) = stateAt m c (batchOf t) (4 * (t.val % 16)) r k)
    (r : Fin 128) (k : Fin 1024) :
    (outsAt0 m c t.val t.isLt).2 (ix2 r k) = stateAt m c (batchOf t) (4 * (t.val % 16) + 4) r k := by
  have H := halves_at m c t _ hx
  rw [outsAt0_B m c t h0]
  dsimp only
  revert k
  refine cols_cases _ (fun d => ?_) (fun d => ?_)
  · rw [left_B]
    exact H.1 r d
  · rw [right_B]
    exact H.2 r d

/-- A point leaves the state after its four chunks. -/
theorem after_eq (c : Dev nD) : ∀ (n : ℕ) (hn : n < cfg0.N) (r : Fin 128) (k : Fin 1024),
    (outsAt0 m c n hn).2 (ix2 r k) = stateAt m c (batchOf ⟨n, hn⟩) (4 * (n % 16) + 4) r k := by
  intro n
  induction n with
  | zero => exact fun hn => after_A m c ⟨0, hn⟩ rfl
  | succ n ih =>
    intro hn
    by_cases h0 : (n + 1) % 16 = 0
    · exact after_A m c ⟨n + 1, hn⟩ h0
    · refine after_B m c ⟨n + 1, hn⟩ h0 fun r k => ?_
      refine (ih (Nat.lt_of_succ_lt hn) r k).trans ?_
      have eb : batchOf ⟨n, Nat.lt_of_succ_lt hn⟩ = batchOf ⟨n + 1, hn⟩ := Fin.ext (show n / 16 = (n + 1) / 16 by omega)
      have eq : 4 * (n % 16) + 4 = 4 * ((n + 1) % 16) := by omega
      rw [eb, eq]

/-- The state before a point that is not a sequence's first. -/
theorem before_eq (c : Dev nD) (t : Fin cfg0.N) (h0 : ¬ t.val % 16 = 0) (r : Fin 128) (k : Fin 1024) :
    (outsAt0 m c (t.val - 1) (Nat.lt_of_le_of_lt (Nat.sub_le _ _) t.isLt)).2 (ix2 r k) = stateAt m c (batchOf t) (4 * (t.val % 16)) r k := by
  refine (after_eq m c _ _ r k).trans ?_
  have eb : batchOf ⟨t.val - 1, Nat.lt_of_le_of_lt (Nat.sub_le _ _) t.isLt⟩ = batchOf t := Fin.ext (show (t.val - 1) / 16 = t.val / 16 by omega)
  have eq : 4 * ((t.val - 1) % 16) + 4 = 4 * (t.val % 16) := by omega
  rw [eb, eq]

/-- A chunk's output from the state before the point. -/
theorem chunk_at (c : Dev nD) (t : Fin cfg0.N) (xs : Vec Ideal S128x1024 .f32)
    (hx : ∀ r k, xs (ix2 r k) = stateAt m c (batchOf t) (4 * (t.val % 16)) r k) (q : ℕ) (hq : q < 4) (d : Fin 128) (l : Fin 1024) :
    chunkOut (iblk m c 0 t) (iblk m c 1 t) (iblk m c 2 t) (iblk m c 3 t) (iblk m c 4 t) (iblk m c 5 t) (iblk m c 6 t) (iblk m c 7 t) (colsAt xs 0 (by decide)) (colsAt xs 512 (by decide)) q (ix3 0 d l)
      = seqOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (batchOf t) (4 * (t.val % 16) + q) d l := by
  have hz : (fun (i : Fin 128) (k : Fin 1024) => (iblk m c 2 t : Vec Ideal S1x512x1024 .bf16) (ix3 0 ⟨(128 * q + i.val) % 512, Nat.mod_lt _ (by decide)⟩ k))
      = fun i k => (m ((c : Thread nD τ).loc main_arg2) : FVec Ideal S4x8192x1024 .bf16) (ix3 (batchOf t) (seqRow (4 * (t.val % 16) + q) i) k) := by
    funext i k
    refine (in2 m c t _ _).trans ?_
    exact at3 _ rfl (by show t.val % 16 * 512 + (128 * q + i.val) % 512 = (128 * (4 * (t.val % 16) + q) + i.val) % 8192; omega) rfl
  rw [chunkOut_apply _ _ _ _ _ _ _ _ _ _ (in7 m c t) _ (halves_of xs _ hx), hz, inside m c t q (by omega)]
  have hb := blk_eq m c t q hq
  unfold blk at hb
  rw [hb, rates_eq]
  simp only [in5, in6]
  rfl

/-- A point's output block. -/
theorem out_eq (c : Dev nD) (t : Fin cfg0.N) (r : Fin 512) (l : Fin 1024) :
    (outsAt0 m c t.val t.isLt).1 (ix3 0 r l) = resultAt m c (ix3 (batchOf t) (rowOf t r) l) := by
  have hq : r.val / 128 < 4 := by omega
  have hr : r.val = 128 * (⟨r.val / 128, hq⟩ : Fin 4).val + (⟨r.val % 128, Nat.mod_lt _ (by decide)⟩ : Fin 128).val := by dsimp only; omega
  have e1 : (rowOf t r).val / 128 = 4 * (t.val % 16) + r.val / 128 := by show (t.val % 16 * 512 + r.val) / 128 = _; omega
  have e2 : (⟨(rowOf t r).val % 128, Nat.mod_lt _ (by decide)⟩ : Fin 128) = ⟨r.val % 128, Nat.mod_lt _ (by decide)⟩ :=
    Fin.ext (by show (t.val % 16 * 512 + r.val) % 128 = r.val % 128; omega)
  show _ = seqOut _ _ _ _ _ _ _ (batchOf t) ((rowOf t r).val / 128) ⟨(rowOf t r).val % 128, Nat.mod_lt _ (by decide)⟩ l
  rw [e1, e2]
  by_cases h0 : t.val % 16 = 0
  · rw [outsAt0_A m c t h0]
    dsimp only
    rw [out_A _ _ _ _ _ _ _ _ _ _ _ _ _ _ _ _ _ _ _ _ _ _ _ _ _ _ _ _ _ _ _ _ _ ⟨r.val / 128, hq⟩ r ⟨r.val % 128, Nat.mod_lt _ (by decide)⟩ l hr]
    exact chunk_at m c t _ (first_state m c t h0) _ hq _ l
  · rw [outsAt0_B m c t h0]
    dsimp only
    rw [out_B _ _ _ _ _ _ _ _ _ _ _ _ _ _ _ _ _ _ _ _ _ _ _ _ _ _ _ _ _ _ _ _ _ _ ⟨r.val / 128, hq⟩ r ⟨r.val % 128, Nat.mod_lt _ (by decide)⟩ l hr]
    exact chunk_at m c t _ (before_eq m c t h0) _ hq _ l

set_option maxRecDepth 4096 in
/-- What point `t` writes back is its rows of the result. -/
theorem flushed_eq (c : Dev nD) (t : Fin cfg0.N) :
    (dats m 0 c).flushed 8 t = ((cfg0.win 8).blk t).view.read (Elt Ideal) (resultAt m c) := by
  have hi := move8 t
  rw [Cert.SsdIdeal.Value.flushed8]
  funext (y : S1x512x1024.Idx)
  rw [View.read_apply]
  show (outsAt0 m c t.val t.isLt).1 y = resultAt m c _
  obtain ⟨r, l, rfl⟩ : ∃ (r : Fin 512) (l : Fin 1024), y = ix3 0 r l :=
    ⟨y 1, y 2, (eq_ix3 y).trans (congrArg (fun z => ix3 z (y 1) (y 2)) (Subsingleton.elim (α := Fin 1) _ _))⟩
  rw [out_eq]
  exact (at3 (resultAt m c) (a := batchOf t) (b := rowOf t r) (c := l)
    (by show win0_8.index t 0 * 1 + 1 * 0 = t.val / 16; rw [hi.1]; omega)
    (by show win0_8.index t 1 * 512 + 1 * r.val = t.val % 16 * 512 + r.val; rw [hi.2.1]; omega)
    (by show win0_8.index t 2 * 1024 + 1 * l.val = l.val; rw [hi.2.2]; omega)).symm

/-- The blocks cover the result, so after the run the array is the result. -/
theorem final (c : Dev nD) : (dats m 0 c).arrAt 8 cfg0.N = resultAt m c :=
  (dats m 0 c).arrAt_eq_of_cover 8 (resultAt m c) (fun t _ => flushed_eq m c t) fun (i : S4x8192x1024.Idx) =>
    (Cert.SsdIdeal.Value.covered_iff8 i).2 ⟨Nat.zero_le _, (i 0).isLt, Nat.zero_le _, (i 1).isLt, Nat.zero_le _, (i 2).isLt⟩

end Cert.Proof.Ssd

end
-- ==== Proof.Ssd.Window.lean ====
/-
  A running sum written as a sum over a sliding window: 128 wide, one step at a time, with 127 zeros before the array. Entry `i`
  along the axis is the sum of the entries up to `i`.
-/
module

public import Idealize.ShloMosaic.Lib.Pointwise
public import proofs.«01_k».proof.Proof.Gen.SsdRefIdeal

@[expose] public section

noncomputable section

namespace Cert.Proof.SsdRef

open Idealize.ShloMosaic Cert.SsdRefIdeal Cert.SsdRefIdeal.Gen
open scoped BigOperators

theorem foldl_add {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- A window's positions are its 128 steps along the third axis. -/
def steps : (⟨5, ![1, 1, 128, 1, 1]⟩ : Shape).Idx ≃ Fin 128 where
  toFun w := w 2
  invFun n := ix5 (0 : Fin 1) (0 : Fin 1) n (0 : Fin 1) (0 : Fin 1)
  left_inv w := by
    funext d
    match d with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
    | ⟨4, _⟩ => exact Subsingleton.elim (α := Fin 1) _ _
  right_inv n := rfl

/-- The window's sum, its positions renamed to the entries they read. -/
theorem sum_shift (f : Fin 128 → EReal) (i : Fin 128) :
    (∑ n : Fin 128, if h : 127 ≤ i.val + n.val then f ⟨i.val + n.val - 127, by omega⟩ else 0) = ∑ j : Fin 128, if j ≤ i then f j else 0 := by
  refine Fintype.sum_equiv (Equiv.addRight (i + 1)) _ _ fun n => ?_
  have hv : ((Equiv.addRight (i + 1)) n).val = (n.val + (i.val + 1)) % 128 := by
    show ((n + (i + 1) : Fin 128)).val = _
    rw [Fin.val_add, Fin.val_add]
    show (n.val + (i.val + 1) % 128) % 128 = _
    omega
  by_cases h : 127 ≤ i.val + n.val
  · have e : (Equiv.addRight (i + 1)) n = ⟨i.val + n.val - 127, by omega⟩ := by
      apply Fin.ext
      rw [hv]
      show _ = i.val + n.val - 127
      omega
    rw [dif_pos h, e, if_pos (by show i.val + n.val - 127 ≤ i.val; omega)]
  · rw [dif_neg h, if_neg]
    intro hle
    have : ((Equiv.addRight (i + 1)) n).val ≤ i.val := hle
    rw [hv] at this
    omega

/-- A window sum at an index: the initial value, and the operand's entries under the window. -/
theorem window_sum {s t u : Shape} {φ : FTy} (window strides lo hi : Fin s.rank → ℕ) (x : FVec Ideal s φ) (z : FVec Ideal u φ)
    (h : s.ReduceWindows window strides lo hi t) (hu : 0 < u.numel) (j : t.Idx) :
    (Host.reduceWindowAdd (F := Ideal) window strides lo hi x z h hu j : EReal)
      = z (Shape.Idx.first hu) + ∑ w : (⟨s.rank, window⟩ : Shape).Idx,
          if hin : ∀ a, lo a ≤ (j (a.cast h.1.symm)).val * strides a + (w a).val ∧ (j (a.cast h.1.symm)).val * strides a + (w a).val - lo a < s.size a
          then (x (fun a => ⟨(j (a.cast h.1.symm)).val * strides a + (w a).val - lo a, (hin a).2⟩) : EReal) else z (Shape.Idx.first hu) := by
  refine (foldl_add _ _ _).trans ?_
  rw [← Fin.sum_univ_def]
  congr 1
  refine Fintype.sum_equiv (⟨s.rank, window⟩ : Shape).rowMajor.symm _ _ fun n => ?_
  exact dite_congr rfl (fun _ => rfl) (fun _ => rfl)

theorem window_apply (x : FVec Ideal S4x64x128x2x8 .f32) (z : FVec Ideal S_ .f32) (hz : z (Shape.Idx.first h_S_) = (0 : EReal))
    (b : Fin 4) (q : Fin 64) (i : Fin 128) (g : Fin 2) (e : Fin 8) :
    (Host.reduceWindowAdd (F := Ideal) ![1, 1, 128, 1, 1] ![1, 1, 1, 1, 1] ![0, 0, 127, 0, 0] ![0, 0, 0, 0, 0] x z
        reduceWindows_S4x64x128x2x8_S4x64x128x2x8_w1s1p0_0_w1s1p0_0_w128s1p127_0_w1s1p0_0_w1s1p0_0 h_S_ (ix5 b q i g e) : EReal)
      = ∑ j : Fin 128, if j ≤ i then (x (ix5 b q j g e) : EReal) else 0 := by
  rw [← sum_shift (fun j => x (ix5 b q j g e)) i, window_sum, hz, zero_add]
  refine Fintype.sum_equiv steps _ _ fun w => ?_
  have h0 : (w 0).val = 0 := Fin.val_eq_zero (w 0 : Fin 1)
  have h1 : (w 1).val = 0 := Fin.val_eq_zero (w 1 : Fin 1)
  have h3 : (w 3).val = 0 := Fin.val_eq_zero (w 3 : Fin 1)
  have h4 : (w 4).val = 0 := Fin.val_eq_zero (w 4 : Fin 1)
  have h2 : (w 2).val < 128 := (w 2).isLt
  by_cases h : 127 ≤ i.val + (w 2).val
  · rw [dif_pos (show 127 ≤ i.val + (steps w).val from h), dif_pos]
    · congr 1
      funext a
      apply Fin.ext
      match a with
      | ⟨0, _⟩ => show b.val * 1 + (w 0).val - 0 = b.val; omega
      | ⟨1, _⟩ => show q.val * 1 + (w 1).val - 0 = q.val; omega
      | ⟨2, _⟩ => show i.val * 1 + (w 2).val - 127 = i.val + (w 2).val - 127; omega
      | ⟨3, _⟩ => show g.val * 1 + (w 3).val - 0 = g.val; omega
      | ⟨4, _⟩ => show e.val * 1 + (w 4).val - 0 = e.val; omega
    · intro a
      match a with
      | ⟨0, _⟩ => show 0 ≤ b.val * 1 + (w 0).val ∧ b.val * 1 + (w 0).val - 0 < 4; omega
      | ⟨1, _⟩ => show 0 ≤ q.val * 1 + (w 1).val ∧ q.val * 1 + (w 1).val - 0 < 64; omega
      | ⟨2, _⟩ => show 127 ≤ i.val * 1 + (w 2).val ∧ i.val * 1 + (w 2).val - 127 < 128; omega
      | ⟨3, _⟩ => show 0 ≤ g.val * 1 + (w 3).val ∧ g.val * 1 + (w 3).val - 0 < 2; omega
      | ⟨4, _⟩ => show 0 ≤ e.val * 1 + (w 4).val ∧ e.val * 1 + (w 4).val - 0 < 8; omega
  · rw [dif_neg (show ¬ 127 ≤ i.val + (steps w).val from h), dif_neg]
    intro hin
    have := (hin 2).1
    have : 127 ≤ i.val * 1 + (w 2).val := this
    omega

end Cert.Proof.SsdRef

end
-- ==== Proof.Ssd.Before.lean ====
/-
  What the recurrence's reference computes before its loop, index by index, as the chunks of the sequence hold it: the step sizes,
  the running log-decay, and for every chunk its decay and what its own rows add to the state.
-/
module

public import proofs.«01_k».proof.Proof.Ssd.Sequence
public import proofs.«01_k».proof.Proof.Ssd.Window
public import proofs.«01_k».proof.Proof.Gen.SsdRefIdeal.Step

@[expose] public section

noncomputable section

namespace Cert.Proof.SsdRef

open Idealize.ShloMosaic Cert.SsdRefIdeal Cert.SsdRefIdeal.Gen Cert.SsdRefIdeal.Step Cert.Proof.Ssd
open scoped BigOperators

/-- Channel `p` of head `e` of group `g`. -/
def chan (g : Fin 2) (e : Fin 8) (p : Fin 64) : Fin 1024 := ⟨g.val * 512 + e.val * 64 + p.val, by omega⟩

/-- Head `e` of group `g`. -/
def head (g : Fin 2) (e : Fin 8) : Fin 16 := ⟨g.val * 8 + e.val, by omega⟩

theorem hd_chan (g : Fin 2) (e : Fin 8) (p : Fin 64) : hd (chan g e p) = head g e := by
  apply Fin.ext
  show (g.val * 512 + e.val * 64 + p.val) / 64 = g.val * 8 + e.val
  omega

theorem gp_chan (g : Fin 2) (e : Fin 8) (p : Fin 64) : gp (chan g e p) = g := by
  apply Fin.ext
  show (g.val * 512 + e.val * 64 + p.val) / 512 = g.val
  omega

theorem seqRow_eq (q : Fin 64) (i : Fin 128) (h : q.val * 128 + i.val < 8192) : seqRow q.val i = ⟨q.val * 128 + i.val, h⟩ := by
  apply Fin.ext
  show (128 * q.val + i.val) % 8192 = q.val * 128 + i.val
  omega

variable (X : FVec Ideal S4x8192x1536 .bf16) (D : FVec Ideal S4x8192x128 .f32) (bias alog : FVec Ideal S16 .f32)

theorem dt_apply (b : Fin 4) (q : Fin 64) (i : Fin 128) (g : Fin 2) (e : Fin 8) :
    A_main_v12 (F := Ideal) X D bias alog (ix5 b q i g e) = (seqChunk X D bias b q).dt i (head g e) := by
  pointwise [A_main_v12, A_main_v8, A_main_call0_v4, A_main_call0_v6, A_main_call0_v11, A_main_call0_v10, A_main_call0_v9,
    A_main_call0_v8, A_main_call0_v7, A_main_call0_v3, A_main_call0_v1, A_main_v7, A_main_v6, A_main_v5, A_main_v4,
    K_main_call0_v0, K_main_call0_v2, K_main_call0_v5, K_main_call0_cst]
  rw [if_neg (fun h => h rfl), ← zero_sub (FloatOps.absf _)]
  show _ = softplus (D (ix3 b (seqRow q i) ⟨(head g e).val, _⟩) + bias (ix1 (head g e)))
  rw [seqRow_eq q i (by omega)]
  rfl

theorem x_apply (b : Fin 4) (q : Fin 64) (i : Fin 128) (g : Fin 2) (e : Fin 8) (p : Fin 64) :
    A_main_v11 (F := Ideal) X D bias alog (ix6 b q i g e p) = (seqChunk X D bias b q).x i (chan g e p) := by
  pointwise [A_main_v11, A_main_v1, A_main_v0]
  show _ = X (ix3 b (seqRow q i) _)
  rw [seqRow_eq q i (by omega)]
  rfl

theorem B_apply (b : Fin 4) (q : Fin 64) (i : Fin 128) (g : Fin 2) (n : Fin 128) :
    A_main_v13 (F := Ideal) X D bias alog (ix5 b q i g n) = (seqChunk X D bias b q).B g i n := by
  pointwise [A_main_v13, A_main_v2, A_main_v0]
  show _ = X (ix3 b (seqRow q i) _)
  rw [seqRow_eq q i (by omega)]
  exact at3 X rfl rfl (by show 1024 + (g.val * 128 + n.val) = 1024 + 128 * g.val + n.val; omega)

theorem rate_apply (b : Fin 4) (q : Fin 64) (i : Fin 128) (g : Fin 2) (e : Fin 8) :
    A_main_v17 (F := Ideal) X D bias alog (ix5 b q i g e) = rate alog (head g e) := by
  pointwise [A_main_v17, A_main_v16, A_main_v15, A_main_v10, A_main_v9]
  exact (zero_sub _).symm

/-- The running sum of the step sizes times the rate is the chunk's log-decay. -/
theorem acs_apply (b : Fin 4) (q : Fin 64) (i : Fin 128) (g : Fin 2) (e : Fin 8) :
    A_main_v19 (F := Ideal) X D bias alog (ix5 b q i g e) = (seqChunk X D bias b q).acs (rate alog) i (head g e) := by
  unfold A_main_v19
  rw [window_apply _ _ (by pointwise [K_main_call1_call0_v0, K_main_call1_call0_cst])]
  unfold Chunk.acs
  refine Finset.sum_congr rfl fun j _ => ?_
  rw [← dt_apply X D bias alog b q j g e, ← rate_apply X D bias alog b q j g e]
  rfl

theorem decay_apply (b : Fin 4) (q : Fin 64) (g : Fin 2) (e : Fin 8) :
    A_main_v34 (F := Ideal) X D bias alog (ix4 q b g e) = Ideal.exp ((seqChunk X D bias b q).acs (rate alog) 127 (head g e)) := by
  rw [← acs_apply]
  unfold A_main_v34 A_main_v31 A_main_v30 A_main_v29
  generalize A_main_v19 (F := Ideal) X D bias alog = W
  pointwise []

theorem weighted_apply (b : Fin 4) (q : Fin 64) (i : Fin 128) (g : Fin 2) (e : Fin 8) (p : Fin 64) :
    A_main_v27 (F := Ideal) X D bias alog (ix6 b q i g e p)
      = (Ideal.exp (A_main_v19 (F := Ideal) X D bias alog (ix5 b q 127 g e) - A_main_v19 (F := Ideal) X D bias alog (ix5 b q i g e))
          * A_main_v12 (F := Ideal) X D bias alog (ix5 b q i g e) * A_main_v11 (F := Ideal) X D bias alog (ix6 b q i g e p) : EReal) := by
  unfold A_main_v27 A_main_v26 A_main_v25 A_main_v24 A_main_v23 A_main_v22 A_main_v21 A_main_v20
  generalize A_main_v19 (F := Ideal) X D bias alog = W
  generalize A_main_v12 (F := Ideal) X D bias alog = W2
  generalize A_main_v11 (F := Ideal) X D bias alog = W3
  pointwise []

theorem added_sum (b : Fin 4) (q : Fin 64) (g : Fin 2) (e : Fin 8) (p : Fin 64) (n : Fin 128) :
    A_main_v33 (F := Ideal) X D bias alog (ix6 q b g e p n)
      = (∑ i : Fin 128, A_main_v27 (F := Ideal) X D bias alog (ix6 b q i g e p) * A_main_v13 (F := Ideal) X D bias alog (ix5 b q i g n) : EReal) := by
  unfold A_main_v33 A_main_v28
  generalize A_main_v27 (F := Ideal) X D bias alog = W
  generalize A_main_v13 (F := Ideal) X D bias alog = W2
  pointwise []

/-- What chunk `q`'s rows add to the state. -/
theorem added_apply (b : Fin 4) (q : Fin 64) (g : Fin 2) (e : Fin 8) (p : Fin 64) (n : Fin 128) :
    A_main_v33 (F := Ideal) X D bias alog (ix6 q b g e p n)
      = ∑ i, (seqChunk X D bias b q).B g i n * ((seqChunk X D bias b q).x i (chan g e p)
          * (Ideal.exp ((seqChunk X D bias b q).acs (rate alog) 127 (head g e) - (seqChunk X D bias b q).acs (rate alog) i (head g e))
            * (seqChunk X D bias b q).dt i (head g e))) := by
  rw [added_sum]
  refine Finset.sum_congr rfl fun i _ => ?_
  rw [weighted_apply, acs_apply, acs_apply, dt_apply, x_apply, B_apply, mul_comm, mul_comm ((seqChunk X D bias b q).x i (chan g e p))]

end Cert.Proof.SsdRef

end
-- ==== Proof.Ssd.Loop.lean ====
/-
  The loop of the recurrence's reference: trip `k` saves the state before chunk `k` and makes the state after it. After 64 trips
  the saved states are those of the sequence.
-/
module

public import proofs.«01_k».proof.Proof.Ssd.Before
public import proofs.«01_k».proof.Proof.Gen.SsdRefIdeal.Run
public import Idealize.ShloMosaic.Lib.DynamicIndex

@[expose] public section

noncomputable section

namespace Cert.Proof.SsdRef

open Idealize.ShloMosaic Idealize.ShloMosaic.TcCoe Cert.SsdRefIdeal Cert.SsdRefIdeal.Gen Cert.SsdRefIdeal.Step Cert.Proof.Ssd
open Idealize.SL.Sem Idealize.ShloMosaic.StableHlo Cert.SsdRefIdeal.Value
open scoped BigOperators

/-- One chunk's decays, read at the loop's counter. -/
theorem read4 (x : FVec Ideal S64x4x2x8 .f32) (k : Fin 64) (start : Fin S64x4x2x8.rank → Int)
    (hs : ∀ a, start a = (((![k.val, 0, 0, 0] : Fin 4 → ℕ) a : ℕ) : Int))
    (b : Fin 4) (g : Fin 2) (e : Fin 8) :
    Host.dynamicSlice S1x4x2x8 x start sliceFits_S64x4x2x8_S1x4x2x8 (ix4 (0 : Fin 1) b g e) = x (ix4 k b g e) := by
  have hk := k.isLt
  rw [Host.dynamicSlice_eq_extractStridedSlice S1x4x2x8 x start (![k.val, 0, 0, 0] : Fin 4 → ℕ) _ ⟨rfl, fun a => by
    match a with
    | ⟨0, _⟩ => show k.val + 1 ≤ 64; omega
    | ⟨1, _⟩ => exact le_refl _
    | ⟨2, _⟩ => exact le_refl _
    | ⟨3, _⟩ => exact le_refl _⟩ hs]
  pointwise []

/-- One chunk's addend, read at the loop's counter. -/
theorem read6 (x : FVec Ideal S64x4x2x8x64x128 .f32) (k : Fin 64) (start : Fin S64x4x2x8x64x128.rank → Int)
    (hs : ∀ a, start a = (((![k.val, 0, 0, 0, 0, 0] : Fin 6 → ℕ) a : ℕ) : Int))
    (b : Fin 4) (g : Fin 2) (e : Fin 8) (p : Fin 64) (n : Fin 128) :
    Host.dynamicSlice S1x4x2x8x64x128 x start sliceFits_S64x4x2x8x64x128_S1x4x2x8x64x128 (ix6 (0 : Fin 1) b g e p n) = x (ix6 k b g e p n) := by
  have hk := k.isLt
  rw [Host.dynamicSlice_eq_extractStridedSlice S1x4x2x8x64x128 x start (![k.val, 0, 0, 0, 0, 0] : Fin 6 → ℕ) _ ⟨rfl, fun a => by
    match a with
    | ⟨0, _⟩ => show k.val + 1 ≤ 64; omega
    | ⟨1, _⟩ => exact le_refl _
    | ⟨2, _⟩ => exact le_refl _
    | ⟨3, _⟩ => exact le_refl _
    | ⟨4, _⟩ => exact le_refl _
    | ⟨5, _⟩ => exact le_refl _⟩ hs]
  pointwise []

/-- The state saved at the loop's counter. -/
theorem write6 (x : FVec Ideal S64x4x2x8x64x128 .f32) (u : FVec Ideal S1x4x2x8x64x128 .f32) (k : Fin 64) (start : Fin S64x4x2x8x64x128.rank → Int)
    (hs : ∀ a, start a = (((![k.val, 0, 0, 0, 0, 0] : Fin 6 → ℕ) a : ℕ) : Int))
    (q : Fin 64) (b : Fin 4) (g : Fin 2) (e : Fin 8) (p : Fin 64) (n : Fin 128) :
    Host.dynamicUpdateSlice x u start updateFits_S64x4x2x8x64x128_S1x4x2x8x64x128 (ix6 q b g e p n) = if q = k then u (ix6 (0 : Fin 1) b g e p n) else x (ix6 q b g e p n) := by
  have hk := k.isLt
  have hc : ∀ a, Host.clampedStart S64x4x2x8x64x128 S1x4x2x8x64x128 updateFits_S64x4x2x8x64x128_S1x4x2x8x64x128.1 start a = (![k.val, 0, 0, 0, 0, 0] : Fin 6 → ℕ) a := fun a =>
    Host.clampedStart_of_le _ start a _ (hs a) (by
      match a with
      | ⟨0, _⟩ => show k.val + 1 ≤ 64; omega
      | ⟨1, _⟩ => exact le_refl _
      | ⟨2, _⟩ => exact le_refl _
      | ⟨3, _⟩ => exact le_refl _
      | ⟨4, _⟩ => exact le_refl _
      | ⟨5, _⟩ => exact le_refl _)
  rw [Host.dynamicUpdateSlice_apply]
  by_cases h : q = k
  · rw [if_pos h, dif_pos]
    · refine congrArg u ?_
      refine (Shape.Idx.norm_def _).trans ?_
      funext a
      apply Fin.ext
      show _ - Host.clampedStart _ _ _ _ _ = _
      rw [hc]
      subst h
      match a with
      | ⟨0, _⟩ => exact Nat.sub_self _
      | ⟨1, _⟩ => rfl
      | ⟨2, _⟩ => rfl
      | ⟨3, _⟩ => rfl
      | ⟨4, _⟩ => rfl
      | ⟨5, _⟩ => rfl
    · subst h
      intro a
      rw [hc]
      match a with
      | ⟨0, _⟩ => exact ⟨le_refl _, Nat.lt_succ_self _⟩
      | ⟨1, _⟩ => show 0 ≤ b.val ∧ b.val < 0 + 4; omega
      | ⟨2, _⟩ => show 0 ≤ g.val ∧ g.val < 0 + 2; omega
      | ⟨3, _⟩ => show 0 ≤ e.val ∧ e.val < 0 + 8; omega
      | ⟨4, _⟩ => show 0 ≤ p.val ∧ p.val < 0 + 64; omega
      | ⟨5, _⟩ => show 0 ≤ n.val ∧ n.val < 0 + 128; omega
  · rw [if_neg h, dif_neg]
    intro hin
    have h0 := hin 0
    rw [hc] at h0
    have h1 : k.val ≤ q.val ∧ q.val < k.val + 1 := h0
    exact h (Fin.ext (by omega))

/-- One trip of the loop on the state. -/
theorem trip_state (V : Valuation τ sig (Elt Ideal)) (k : Fin 64) (hV : V (Proc.devRef .tc main_v36_2) = fun _ => BitVec.ofNat 32 k.val)
    (st : FVec Ideal S4x2x8x64x128 .f32) (decay : FVec Ideal S64x4x2x8 .f32) (added : FVec Ideal S64x4x2x8x64x128 .f32)
    (h3 : V (Proc.devRef .tc main_v36_3) = st) (h1 : V (Proc.devRef .tc main_v36_1) = decay) (h0 : V (Proc.devRef .tc main_v36_0) = added)
    (b : Fin 4) (g : Fin 2) (e : Fin 8) (p : Fin 64) (n : Fin 128) :
    (Value.step_main_v36_3 V : FVec Ideal S4x2x8x64x128 .f32) (ix5 b g e p n)
      = (st (ix5 b g e p n) * decay (ix4 k b g e) + added (ix6 k b g e p n) : EReal) := by
  have h32 : (BitVec.ofNat 32 k.val).toInt = (k.val : Int) := toInt_ofNat_of_lt (by omega)
  unfold Value.step_main_v36_3
  rw [hV, h3, h1, h0]
  generalize hP : Host.dynamicSlice S1x4x2x8 decay _ _ = P
  generalize hQ : Host.dynamicSlice S1x4x2x8x64x128 added _ _ = Q
  have hp : P (ix4 (0 : Fin 1) b g e) = decay (ix4 k b g e) := by
    rw [← hP]
    exact read4 decay k _ (fun a => by
      match a with
      | ⟨0, _⟩ => exact h32
      | ⟨1, _⟩ => rfl
      | ⟨2, _⟩ => rfl
      | ⟨3, _⟩ => rfl) b g e
  have hq : Q (ix6 (0 : Fin 1) b g e p n) = added (ix6 k b g e p n) := by
    rw [← hQ]
    exact read6 added k _ (fun a => by
      match a with
      | ⟨0, _⟩ => exact h32
      | ⟨1, _⟩ => rfl
      | ⟨2, _⟩ => rfl
      | ⟨3, _⟩ => rfl
      | ⟨4, _⟩ => rfl
      | ⟨5, _⟩ => rfl) b g e p n
  rw [← hp, ← hq]
  clear hp hq hP hQ h3 h1 h0 hV
  rw [id_eq]
  pointwise []

/-- One trip of the loop on the saved states. -/
theorem trip_states (V : Valuation τ sig (Elt Ideal)) (k : Fin 64) (hV : V (Proc.devRef .tc main_v36_2) = fun _ => BitVec.ofNat 32 k.val)
    (st : FVec Ideal S4x2x8x64x128 .f32) (saved : FVec Ideal S64x4x2x8x64x128 .f32)
    (h3 : V (Proc.devRef .tc main_v36_3) = st) (h4 : V (Proc.devRef .tc main_v36_4) = saved)
    (q : Fin 64) (b : Fin 4) (g : Fin 2) (e : Fin 8) (p : Fin 64) (n : Fin 128) :
    (Value.step_main_v36_4 V : FVec Ideal S64x4x2x8x64x128 .f32) (ix6 q b g e p n)
      = if q = k then st (ix5 b g e p n) else saved (ix6 q b g e p n) := by
  have h32 : (BitVec.ofNat 32 k.val).toInt = (k.val : Int) := toInt_ofNat_of_lt (by omega)
  unfold Value.step_main_v36_4
  rw [hV, h3, h4]
  refine (write6 saved _ k _ (fun a => by
    match a with
    | ⟨0, _⟩ => exact h32
    | ⟨1, _⟩ => rfl
    | ⟨2, _⟩ => rfl
    | ⟨3, _⟩ => rfl
    | ⟨4, _⟩ => rfl
    | ⟨5, _⟩ => rfl) q b g e p n).trans ?_
  congr 1
  clear h3 h4 hV
  pointwise []

variable (m : (ℓ : Loc nD τ sig) → Buf (Elt Ideal) ℓ)

set_option maxRecDepth 4096 in
theorem entry0 (c : Dev nD) : entryContents preI m c (Proc.devRef .tc main_v36_0)
    = A_main_v33 (F := Ideal) (m ((c.tc : Thread nD τ).loc main_arg0)) (m ((c.tc : Thread nD τ).loc main_arg1)) (m ((c.tc : Thread nD τ).loc main_arg3)) (m ((c.tc : Thread nD τ).loc main_arg4)) := by
  simp only [entryContents, afterL_cons, afterL_nil]
  after_reads_simp
  rfl

set_option maxRecDepth 4096 in
theorem entry1 (c : Dev nD) : entryContents preI m c (Proc.devRef .tc main_v36_1)
    = A_main_v34 (F := Ideal) (m ((c.tc : Thread nD τ).loc main_arg0)) (m ((c.tc : Thread nD τ).loc main_arg1)) (m ((c.tc : Thread nD τ).loc main_arg3)) (m ((c.tc : Thread nD τ).loc main_arg4)) := by
  simp only [entryContents, afterL_cons, afterL_nil]
  after_reads_simp
  rfl

theorem entry3 (c : Dev nD) : entryContents preI m c (Proc.devRef .tc main_v36_3) = K_main_v32 (F := Ideal) := by
  simp only [entryContents, afterL_cons, afterL_nil]
  after_reads_simp
  rfl

/-- What holds before trip `k`: the counter, the chunks' decays and addends, the state, and the states saved so far. -/
structure Before (c : Dev nD) (k : ℕ) (V : Valuation τ sig (Elt Ideal)) : Prop where
  counter : V (Proc.devRef .tc main_v36_2) = fun _ => BitVec.ofNat 32 k
  added : V (Proc.devRef .tc main_v36_0) = A_main_v33 (F := Ideal) (m ((c.tc : Thread nD τ).loc main_arg0)) (m ((c.tc : Thread nD τ).loc main_arg1)) (m ((c.tc : Thread nD τ).loc main_arg3)) (m ((c.tc : Thread nD τ).loc main_arg4))
  decay : V (Proc.devRef .tc main_v36_1) = A_main_v34 (F := Ideal) (m ((c.tc : Thread nD τ).loc main_arg0)) (m ((c.tc : Thread nD τ).loc main_arg1)) (m ((c.tc : Thread nD τ).loc main_arg3)) (m ((c.tc : Thread nD τ).loc main_arg4))
  state : ∀ b g e p n, (V (Proc.devRef .tc main_v36_3) : FVec Ideal S4x2x8x64x128 .f32) (ix5 b g e p n)
    = seqState (m ((c.tc : Thread nD τ).loc main_arg0)) (m ((c.tc : Thread nD τ).loc main_arg1)) (m ((c.tc : Thread nD τ).loc main_arg3)) (m ((c.tc : Thread nD τ).loc main_arg4)) b k n (chan g e p)
  saved : ∀ q : Fin 64, q.val < k → ∀ b g e p n, (V (Proc.devRef .tc main_v36_4) : FVec Ideal S64x4x2x8x64x128 .f32) (ix6 q b g e p n)
    = seqState (m ((c.tc : Thread nD τ).loc main_arg0)) (m ((c.tc : Thread nD τ).loc main_arg1)) (m ((c.tc : Thread nD τ).loc main_arg3)) (m ((c.tc : Thread nD τ).loc main_arg4)) b q.val n (chan g e p)

theorem before_zero (c : Dev nD) : Before m c 0 (entryContents preI m c) where
  counter := ctr_entry m c
  added := entry0 m c
  decay := entry1 m c
  state b g e p n := by
    rw [entry3]
    exact Ideal.ofBits_zero_f32
  saved q h := absurd h (Nat.not_lt_zero _)

theorem before_succ (c : Dev nD) (k : Fin 64) (V : Valuation τ sig (Elt Ideal)) (h : Before m c k.val V) : Before m c (k.val + 1) (STEP V) where
  counter := by
    rw [STEP_main_v36_2]
    unfold step_main_v36_2
    rw [h.counter]
    funext _
    exact (BitVec.ofNat_add k.val 1).symm
  added := (STEP_main_v36_0 V).trans h.added
  decay := (STEP_main_v36_1 V).trans h.decay
  state b g e p n := by
    rw [STEP_main_v36_3]
    refine (trip_state V k h.counter _ _ _ rfl h.decay h.added b g e p n).trans ?_
    rw [h.state, decay_apply, added_apply]
    show _ = Chunk.next _ _ _ _ _
    unfold Chunk.next
    rw [hd_chan, gp_chan]
    rfl
  saved q hq b g e p n := by
    rw [STEP_main_v36_4]
    refine (trip_states V k h.counter _ _ rfl rfl q b g e p n).trans ?_
    by_cases hqk : q = k
    · rw [if_pos hqk, h.state, hqk]
    · rw [if_neg hqk]
      exact h.saved q (by have : q.val ≠ k.val := fun h' => hqk (Fin.ext h'); omega) b g e p n

theorem before_trip (c : Dev nD) : ∀ k, k ≤ 64 → Before m c k (STEP^[k] (entryContents preI m c))
  | 0, _ => before_zero m c
  | k + 1, hk => by
    rw [Function.iterate_succ_apply']
    exact before_succ m c ⟨k, hk⟩ _ (before_trip c k (by omega))

end Cert.Proof.SsdRef

end
-- ==== Proof.Ssd.After.lean ====
/-
  What the recurrence's reference computes after its loop, in seven arrays, and each of them index by index.
-/
module

public import proofs.«01_k».proof.Proof.Rows
public import proofs.«01_k».proof.Proof.Gen.SsdRefIdeal.Step
public import proofs.«01_k».proof.Proof.Gen.SsdRefIdeal.Run

@[expose] public section

noncomputable section

namespace Cert.Proof.SsdRef

open Idealize.ShloMosaic Idealize.ShloMosaic.TcCoe Cert.SsdRefIdeal Cert.SsdRefIdeal.Gen Cert.SsdRefIdeal.Step
open Idealize.SL.Sem Idealize.ShloMosaic.StableHlo
open scoped BigOperators

/-- The output vectors, by chunk. -/
def outVec (X : FVec Ideal S4x8192x1536 .bf16) : FVec Ideal S4x64x128x2x128 .f32 := (shapeCast _ (extractStridedSlice S4x8192x256
      ![0, 0, 1280] (extf .f32 (X) bitsLt_bf16_f32) slices_S4x8192x1536_S4x8192x256_0_0_1280) shapeCasts_S4x8192x256_S4x64x128x2x128)

/-- The products of the input vectors with the output vectors, by pair of rows. -/
def pairs (B C : FVec Ideal S4x64x128x2x128 .f32) : FVec Ideal S4x64x2x128x128 .f32 :=
  Host.dotGeneral dot_S4x64x128x2x128_S4x64x128x2x128_S4x64x2x128x128_4_4_2_2_013_013 none B C

/-- How much a row takes of a row before it: the product, the decay between them, the step size. -/
def weights (P : FVec Ideal S4x64x2x128x128 .f32) (acs dt : FVec Ideal S4x64x128x2x8 .f32) : FVec Ideal S4x64x128x128x2x8 .f32 :=
  (mulf (mulf (broadcastInDim S4x64x128x128x2x8 ![0, 1, 2, 3, 4, 5] bcast_S4x64x128x128x2x1_S4x64x128x128x2x8_0_1_2_3_4_5 (broadcastInDim
      S4x64x128x128x2x1 ![0, 1, 2, 3, 4] bcast_S4x64x128x128x2_S4x64x128x128x2x1_0_1_2_3_4 (transpose S4x64x128x128x2 [0, 1, 4, 3, 2] P
      transposes_S4x64x2x128x128_S4x64x128x128x2_0_1_4_3_2))) (Host.exp (select (broadcastInDim S4x64x128x128x2x8 ![2, 3, 4, 5]
      bcast_S128x128x1x1_S4x64x128x128x2x8_2_3_4_5 (broadcastInDim S128x128x1x1 ![0, 1] bcast_S128x128_S128x128x1x1_0_1 (select (cmpi .sge
      (addi (iotaInDim S128x128 32 0) (broadcastInDim S128x128 ![] bcast_S_S128x128 (constantI S_ 32 0#32))) (iotaInDim S128x128 32 1))
      (broadcastInDim S128x128 ![] bcast_S_S128x128 (constantI S_ 1 1#1)) (broadcastInDim S128x128 ![] bcast_S_S128x128 (constantI S_ 1
      0#1))))) (subf (broadcastInDim S4x64x128x128x2x8 ![0, 1, 2, 3, 4, 5] bcast_S4x64x128x1x2x8_S4x64x128x128x2x8_0_1_2_3_4_5
      (broadcastInDim S4x64x128x1x2x8 ![0, 1, 2, 4, 5] bcast_S4x64x128x2x8_S4x64x128x1x2x8_0_1_2_4_5 acs)) (broadcastInDim
      S4x64x128x128x2x8 ![0, 1, 2, 3, 4, 5] bcast_S4x64x1x128x2x8_S4x64x128x128x2x8_0_1_2_3_4_5 (broadcastInDim S4x64x1x128x2x8
      ![0, 1, 3, 4, 5] bcast_S4x64x128x2x8_S4x64x1x128x2x8_0_1_3_4_5 acs))) (broadcastInDim S4x64x128x128x2x8 ![] bcast_S_S4x64x128x128x2x8
      (id (constant S_ .f32 0xFF800000#32)))))) (broadcastInDim S4x64x128x128x2x8 ![0, 1, 2, 3, 4, 5]
      bcast_S4x64x1x128x2x8_S4x64x128x128x2x8_0_1_2_3_4_5 (broadcastInDim S4x64x1x128x2x8 ![0, 1, 3, 4, 5]
      bcast_S4x64x128x2x8_S4x64x1x128x2x8_0_1_3_4_5 dt)))

/-- What a chunk's own rows give. -/
def rowsPart (x : FVec Ideal S4x64x128x2x8x64 .f32) (W : FVec Ideal S4x64x128x128x2x8 .f32) : FVec Ideal S4x64x128x2x8x64 .f32 :=
  transpose S4x64x128x2x8x64 [0, 1, 5, 2, 3, 4] (Host.dotGeneral dot_S4x64x128x2x8x64_S4x64x128x128x2x8_S4x64x2x8x64x128_2_3_5_2_0134_0145
      none x W) transposes_S4x64x2x8x64x128_S4x64x128x2x8x64_0_1_5_2_3_4

/-- What the state before the chunk gives. -/
def statePart (st : FVec Ideal S64x4x2x8x64x128 .f32) (C : FVec Ideal S4x64x128x2x128 .f32) (acs : FVec Ideal S4x64x128x2x8 .f32) : FVec
      Ideal S4x64x128x2x8x64 .f32 :=
  (mulf (transpose S4x64x128x2x8x64 [0, 1, 5, 2, 3, 4] (Host.dotGeneral
      dot_S4x64x2x8x64x128_S4x64x128x2x128_S4x64x2x8x64x128_5_4_34_2_012_013 none (transpose S4x64x2x8x64x128 [1, 0, 2, 3, 4, 5] st
      transposes_S64x4x2x8x64x128_S4x64x2x8x64x128_1_0_2_3_4_5) C) transposes_S4x64x2x8x64x128_S4x64x128x2x8x64_0_1_5_2_3_4)
      (broadcastInDim S4x64x128x2x8x64 ![0, 1, 2, 3, 4, 5] bcast_S4x64x128x2x8x1_S4x64x128x2x8x64_0_1_2_3_4_5 (broadcastInDim
      S4x64x128x2x8x1 ![0, 1, 2, 3, 4] bcast_S4x64x128x2x8_S4x64x128x2x8x1_0_1_2_3_4 (Host.exp acs))))

/-- The output and the skip, gated. -/
def gated (y x : FVec Ideal S4x64x128x2x8x64 .f32) (skip : FVec Ideal S16 .f32) (Z : FVec Ideal S4x8192x1024 .bf16) : FVec Ideal S4x8192x1024 .f32 :=
  (mulf (shapeCast _ (addf (shapeCast _ y shapeCasts_S4x64x128x2x8x64_S4x8192x16x64) (mulf (broadcastInDim S4x8192x16x64 ![0, 1, 2, 3]
      bcast_S1x1x16x1_S4x8192x16x64_0_1_2_3 (broadcastInDim S1x1x16x1 ![2, 3] bcast_S16x1_S1x1x16x1_2_3 (broadcastInDim S16x1 ![0]
      bcast_S16_S16x1_0 (skip)))) (shapeCast _ x shapeCasts_S4x64x128x2x8x64_S4x8192x16x64))) shapeCasts_S4x8192x16x64_S4x8192x1024) (extf
      .f32 (Z) bitsLt_bf16_f32))

/-- The norm of the gated rows. -/
def normed (G : FVec Ideal S4x8192x1024 .f32) (gain : FVec Ideal S1024 .f32) : FVec Ideal S4x8192x1024 .bf16 :=
  truncf .bf16 (mulf (mulf G (broadcastInDim S4x8192x1024 ![0, 1, 2] bcast_S4x8192x1_S4x8192x1024_0_1_2 (Host.rsqrt (addf (Host.divf
      (broadcastInDim S4x8192x1 ![0, 1] bcast_S4x8192_S4x8192x1_0_1 (Host.reduceAdd (mulf G G) (constant S_ .f32 0x00000000#32)
      reducesTo_S4x8192x1024_S4x8192_d2 h_S_)) (broadcastInDim S4x8192x1 ![] bcast_S_S4x8192x1 (constant S_ .f32 0x44800000#32)))
      (broadcastInDim S4x8192x1 ![] bcast_S_S4x8192x1 (constant S_ .f32 0x358637BD#32)))))) (broadcastInDim S4x8192x1024 ![0, 1, 2]
      bcast_S1x1x1024_S4x8192x1024_0_1_2 (broadcastInDim S1x1x1024 ![2] bcast_S1024_S1x1x1024_2 (gain)))) bitsLt_bf16_f32

set_option maxRecDepth 8192 in
/-- The reference's result is these arrays. -/
theorem result_eq (V : Valuation τ sig (Elt Ideal)) (X : FVec Ideal S4x8192x1536 .bf16) (D : FVec Ideal S4x8192x128 .f32)
    (Z : FVec Ideal S4x8192x1024 .bf16) (bias alog skip : FVec Ideal S16 .f32) (gain : FVec Ideal S1024 .f32)
    (st : FVec Ideal S64x4x2x8x64x128 .f32) (h0 : V (Proc.devRef .tc main_arg0) = X) (h1 : V (Proc.devRef .tc main_arg1) = D)
    (h2 : V (Proc.devRef .tc main_arg2) = Z) (h3 : V (Proc.devRef .tc main_arg3) = bias) (h4 : V (Proc.devRef .tc main_arg4) = alog)
    (h5 : V (Proc.devRef .tc main_arg5) = skip) (h6 : V (Proc.devRef .tc main_arg6) = gain) (hs : V (Proc.devRef .tc main_v36_4) = st) :
    Value.out_main_v108 V
      = normed (gated
          (addf (rowsPart (A_main_v11 (F := Ideal) X D bias alog)
              (weights (pairs (A_main_v13 (F := Ideal) X D bias alog) (outVec X)) (A_main_v19 (F := Ideal) X D bias alog) (A_main_v12 (F := Ideal) X D bias alog)))
            (statePart st (outVec X) (A_main_v19 (F := Ideal) X D bias alog)))
          (A_main_v11 (F := Ideal) X D bias alog) skip Z) gain := by
  unfold Value.out_main_v108
  rw [h0, h1, h2, h3, h4, h5, h6, hs]
  rfl

theorem outVec_apply (X : FVec Ideal S4x8192x1536 .bf16) (b : Fin 4) (q : Fin 64) (i : Fin 128) (g : Fin 2) (n : Fin 128) :
    outVec X (ix5 b q i g n) = X (ix3 b ⟨q.val * 128 + i.val, by omega⟩ ⟨1280 + (g.val * 128 + n.val), by omega⟩) := by
  pointwise [outVec]

theorem pairs_apply (B C : FVec Ideal S4x64x128x2x128 .f32) (b : Fin 4) (q : Fin 64) (g : Fin 2) (j i : Fin 128) :
    pairs B C (ix5 b q g j i) = (∑ n : Fin 128, B (ix5 b q j g n) * C (ix5 b q i g n) : EReal) := by
  pointwise [pairs]

/-- The triangle's entry: the rows in order, compared as words. -/
theorem select_rows (i j : Fin 128) (a b : EReal) :
    Scalar.select (Scalar.select (IntOp.cmpi .sge (IntOp.addi (BitVec.ofNat 32 i.val) 0#32) (BitVec.ofNat 32 j.val)) 1#1 0#1) a b = if j ≤ i then a else b := by
  have h : ∀ i j : Fin 128, Scalar.select (IntOp.cmpi .sge (IntOp.addi (BitVec.ofNat 32 i.val) 0#32) (BitVec.ofNat 32 j.val)) 1#1 0#1
      = if j ≤ i then 1#1 else 0#1 := by decide +kernel
  rw [h]
  split <;> rfl

theorem weights_apply (P : FVec Ideal S4x64x2x128x128 .f32) (acs dt : FVec Ideal S4x64x128x2x8 .f32) (b : Fin 4) (q : Fin 64) (g : Fin 2)
    (i j : Fin 128) (e : Fin 8) :
    weights P acs dt (ix6 b q i j g e)
      = (P (ix5 b q g j i) * (if j ≤ i then Ideal.exp (acs (ix5 b q i g e) - acs (ix5 b q j g e)) else 0) * dt (ix5 b q j g e) : EReal) := by
  pointwise [weights]
  rw [select_rows]
  congr 2
  split
  · rfl
  · have h : Ideal.ofBits .f32 0xFF800000#32 = ⊥ := rfl
    show Ideal.exp (Ideal.ofBits .f32 0xFF800000#32) = 0
    rw [h]
    rfl

theorem rowsPart_apply (x : FVec Ideal S4x64x128x2x8x64 .f32) (W : FVec Ideal S4x64x128x128x2x8 .f32) (b : Fin 4) (q : Fin 64) (i : Fin 128)
    (g : Fin 2) (e : Fin 8) (p : Fin 64) :
    rowsPart x W (ix6 b q i g e p) = (∑ j : Fin 128, x (ix6 b q j g e p) * W (ix6 b q i j g e) : EReal) := by
  pointwise [rowsPart]

theorem statePart_apply (st : FVec Ideal S64x4x2x8x64x128 .f32) (C : FVec Ideal S4x64x128x2x128 .f32) (acs : FVec Ideal S4x64x128x2x8 .f32)
    (b : Fin 4) (q : Fin 64) (i : Fin 128) (g : Fin 2) (e : Fin 8) (p : Fin 64) :
    statePart st C acs (ix6 b q i g e p)
      = ((∑ n : Fin 128, st (ix6 q b g e p n) * C (ix5 b q i g n)) * Ideal.exp (acs (ix5 b q i g e)) : EReal) := by
  pointwise [statePart]

theorem gated_apply (y x : FVec Ideal S4x64x128x2x8x64 .f32) (skip : FVec Ideal S16 .f32) (Z : FVec Ideal S4x8192x1024 .bf16) (b : Fin 4)
    (r : Fin 8192) (c : Fin 1024) :
    gated y x skip Z (ix3 b r c)
      = ((y (ix6 b ⟨r.val / 128, by omega⟩ ⟨r.val % 128, by omega⟩ ⟨c.val / 64 / 8, by omega⟩ ⟨c.val / 64 % 8, by omega⟩ ⟨c.val % 64, by omega⟩)
          + skip (ix1 ⟨c.val / 64, by omega⟩)
            * x (ix6 b ⟨r.val / 128, by omega⟩ ⟨r.val % 128, by omega⟩ ⟨c.val / 64 / 8, by omega⟩ ⟨c.val / 64 % 8, by omega⟩ ⟨c.val % 64, by omega⟩))
        * Z (ix3 b r c) : EReal) := by
  pointwise [gated]

theorem normed_apply (G : FVec Ideal S4x8192x1024 .f32) (gain : FVec Ideal S1024 .f32) (b : Fin 4) (r : Fin 8192) (c : Fin 1024) :
    normed G gain (ix3 b r c) = rms (fun c => gain (ix1 c)) (fun c => G (ix3 b r c)) c := by
  pointwise [normed]
  rfl

end Cert.Proof.SsdRef

end
-- ==== Proof.Ssd.Reference.lean ====
/-
  The recurrence reference's result, index by index: the layer over the sequence's chunks.
-/
module

public import proofs.«01_k».proof.Proof.Ssd.Loop
public import proofs.«01_k».proof.Proof.Ssd.After

@[expose] public section

noncomputable section

namespace Cert.Proof.SsdRef

open Idealize.ShloMosaic Idealize.ShloMosaic.TcCoe Cert.SsdRefIdeal Cert.SsdRefIdeal.Gen Cert.SsdRefIdeal.Step Cert.Proof.Ssd
open Idealize.SL.Sem Idealize.ShloMosaic.StableHlo Cert.SsdRefIdeal.Value
open scoped BigOperators

section
variable (X : FVec Ideal S4x8192x1536 .bf16) (D : FVec Ideal S4x8192x128 .f32) (Z : FVec Ideal S4x8192x1024 .bf16)
  (bias alog skip : FVec Ideal S16 .f32) (gain : FVec Ideal S1024 .f32) (st : FVec Ideal S64x4x2x8x64x128 .f32)

theorem C_apply (b : Fin 4) (q : Fin 64) (i : Fin 128) (g : Fin 2) (n : Fin 128) : outVec X (ix5 b q i g n) = (seqChunk X D bias b q).C g i n := by
  rw [outVec_apply]
  show _ = X (ix3 b (seqRow q i) _)
  rw [seqRow_eq q i (by omega)]
  exact at3 X rfl rfl (by show 1280 + (g.val * 128 + n.val) = 1280 + 128 * g.val + n.val; omega)

/-- The recurrence's output, before the skip. -/
def outputs : FVec Ideal S4x64x128x2x8x64 .f32 :=
  addf (rowsPart (A_main_v11 (F := Ideal) X D bias alog)
      (weights (pairs (A_main_v13 (F := Ideal) X D bias alog) (outVec X)) (A_main_v19 (F := Ideal) X D bias alog) (A_main_v12 (F := Ideal) X D bias alog)))
    (statePart st (outVec X) (A_main_v19 (F := Ideal) X D bias alog))

theorem outputs_apply (hst : ∀ q b g e p n, st (ix6 q b g e p n) = seqState X D bias alog b q.val n (chan g e p))
    (b : Fin 4) (q : Fin 64) (i : Fin 128) (g : Fin 2) (e : Fin 8) (p : Fin 64) :
    outputs X D bias alog st (ix6 b q i g e p) = (seqChunk X D bias b q).y (rate alog) (seqState X D bias alog b q) i (chan g e p) := by
  have h : outputs X D bias alog st (ix6 b q i g e p)
      = (rowsPart (A_main_v11 (F := Ideal) X D bias alog)
          (weights (pairs (A_main_v13 (F := Ideal) X D bias alog) (outVec X)) (A_main_v19 (F := Ideal) X D bias alog) (A_main_v12 (F := Ideal) X D bias alog))
          (ix6 b q i g e p)
        + statePart st (outVec X) (A_main_v19 (F := Ideal) X D bias alog) (ix6 b q i g e p) : EReal) := rfl
  rw [h, add_comm, rowsPart_apply, statePart_apply]
  unfold Chunk.y
  rw [hd_chan, gp_chan, acs_apply]
  congr 1
  · congr 1
    refine Finset.sum_congr rfl fun n _ => ?_
    rw [hst, C_apply X D bias, mul_comm]
  · refine Finset.sum_congr rfl fun j _ => ?_
    rw [weights_apply, pairs_apply, acs_apply, acs_apply, dt_apply, x_apply, mul_comm]
    congr 3
    refine Finset.sum_congr rfl fun n _ => ?_
    rw [B_apply, C_apply X D bias, mul_comm]

theorem chan_split (c : Fin 1024) (h0 : c.val / 64 / 8 < 2) (h1 : c.val / 64 % 8 < 8) (h2 : c.val % 64 < 64) :
    chan ⟨c.val / 64 / 8, h0⟩ ⟨c.val / 64 % 8, h1⟩ ⟨c.val % 64, h2⟩ = c := by
  apply Fin.ext
  show c.val / 64 / 8 * 512 + c.val / 64 % 8 * 64 + c.val % 64 = c.val
  omega

theorem gated_row (hst : ∀ q b g e p n, st (ix6 q b g e p n) = seqState X D bias alog b q.val n (chan g e p))
    (b : Fin 4) (r : Fin 8192) (c : Fin 1024) :
    gated (outputs X D bias alog st) (A_main_v11 (F := Ideal) X D bias alog) skip Z (ix3 b r c)
      = (((seqChunk X D bias b (r.val / 128)).y (rate alog) (seqState X D bias alog b (r.val / 128)) ⟨r.val % 128, by omega⟩ c
          + skip (ix1 (hd c)) * (seqChunk X D bias b (r.val / 128)).x ⟨r.val % 128, by omega⟩ c)
        * Z (ix3 b (seqRow (r.val / 128) ⟨r.val % 128, by omega⟩) c) : EReal) := by
  rw [gated_apply, outputs_apply X D bias alog st hst, x_apply, chan_split]
  have e : seqRow (r.val / 128) ⟨r.val % 128, by omega⟩ = r := by
    apply Fin.ext
    show (128 * (r.val / 128) + r.val % 128) % 8192 = r.val
    omega
  rw [e]
  rfl

/-- The array the operations after the loop make is the layer's result. -/
theorem normed_eq (hst : ∀ q b g e p n, st (ix6 q b g e p n) = seqState X D bias alog b q.val n (chan g e p)) :
    normed (gated (outputs X D bias alog st) (A_main_v11 (F := Ideal) X D bias alog) skip Z) gain = seqResult X D Z bias alog skip gain := by
  funext (i : S4x8192x1024.Idx)
  obtain ⟨b, r, c, rfl⟩ : ∃ (b : Fin 4) (r : Fin 8192) (c : Fin 1024), i = ix3 b r c := ⟨i 0, i 1, i 2, eq_ix3 i⟩
  rw [normed_apply]
  show _ = seqOut X D Z bias alog skip gain b (r.val / 128) ⟨r.val % 128, by omega⟩ c
  unfold seqOut Chunk.out
  congr 1
  funext c
  exact gated_row X D Z bias alog skip st hst b r c

end

variable (m : (ℓ : Loc nD τ sig) → Buf (Elt Ideal) ℓ)

theorem final (c : Dev nD) : out_main_v108 (STEP^[64] (entryContents preI m c)) = seqResult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (result_eq _ _ _ _ _ _ _ _ _ (iter_main_arg0 m c 64) (iter_main_arg1 m c 64) (iter_main_arg2 m c 64) (iter_main_arg3 m c 64)
    (iter_main_arg4 m c 64) (iter_main_arg5 m c 64) (iter_main_arg6 m c 64) rfl).trans
  (normed_eq _ _ _ _ _ _ _ _ fun q => (before_trip m c 64 (le_refl _)).saved q q.isLt)

end Cert.Proof.SsdRef

end
-- ==== Proof.Ssd.Claims.lean ====
/-
  The recurrence call's claims: the reference's frame, and equality of the two results at every index.
-/
module

public import proofs.«01_k».proof.Defs
public import proofs.«01_k».proof.Proof.Ssd.Kernel
public import proofs.«01_k».proof.Proof.Ssd.Reference
public import proofs.«01_k».proof.Proof.Gen.SsdRefIdeal
public import proofs.«01_k».proof.Proof.Gen.SsdRefIdeal.Run
public import Idealize.ShloMosaic.Adequacy

@[expose] public section

noncomputable section

namespace Cert.Proof.Ssd

open Idealize.ShloMosaic Idealize.ShloMosaic.TcCoe Idealize.SL.Sem

theorem frame_ref : quiescent_SsdRefIdeal (hSsdRefIdeal := Cert.SsdRefIdeal.Gen.facts) := fun m ρ _ =>
  (θ_run _ _ _).mono (fun r h => ⟨fun c => (h c).2, Idealize.ShloMosaic.sem_eq_zero_of_no_sems (by decide) r.2⟩)
    (Cert.SsdRefIdeal.Value.run (F := Ideal) m ρ)

theorem algebraic : algebraic_SsdIdeal_SsdRefIdeal (hSsdIdeal := Cert.SsdIdeal.Gen.facts) (hSsdRefIdeal := Cert.SsdRefIdeal.Gen.facts) :=
  fun m ρ m' ρ' _ hag => ⟨fun c => resultAt m c,
    (θ_run _ _ _).mono (fun _ h c => ⟨(h c).1.trans (final m c), (h c).2⟩) (Cert.SsdIdeal.Value.run_blocks (F := Ideal) m ρ),
    (θ_run _ _ _).mono (fun _ h c => ⟨(h c).1.trans ((SsdRef.final m' c).trans (by
      obtain ⟨h0, h1, h2, h3, h4, h5, h6⟩ := hag c
      rw [h0, h1, h2, h3, h4, h5, h6])), (h c).2⟩) (Cert.SsdRefIdeal.Value.run (F := Ideal) m' ρ')⟩

end Cert.Proof.Ssd

end
-- ==== Proof.Ffn.Kernel.lean ====
/-
  The feed-forward kernel's result array: every row is `ffnHalf` of the same row of the argument.
-/
module

public import proofs.«01_k».proof.Proof.Ffn.Point
public import proofs.«01_k».proof.Proof.Gen.FfnIdeal.Value

@[expose] public section

noncomputable section

namespace Cert.Proof.Ffn

open Idealize.ShloMosaic Idealize.ShloMosaic.TcCoe Cert.FfnIdeal Cert.FfnIdeal.Gen
open Idealize.SL.Sem Idealize.ShloMosaic.StableHlo
open scoped BigOperators

/-- The block's function of the argument arrays, at an index of the result. -/
def result (h : FVec Ideal S32768x1024 .f32) (preG : FVec Ideal S1024 .f32) (wgu : FVec Ideal S2x1024x5632 .bf16)
    (wd : FVec Ideal S2x2816x1024 .bf16) (postG : FVec Ideal S1024 .f32) (i : S32768x1024.Idx) : EReal :=
  ffnHalf (fun k => h (ix2 (i 0) k)) (fun k => preG (ix1 k)) (fun k => postG (ix1 k))
    (fun a k => wgu (ix3 1 a k)) (fun k l => wd (ix3 1 k l)) (i 1)

variable (m : (ℓ : Loc nD τ sig) → Buf (Elt Ideal) ℓ) (ρ : Dev nD → PrngReg)

abbrev resultAt (c : Dev nD) : Buf (Elt Ideal) ((c : Thread nD τ).loc main_v2) :=
  result (m ((c : Thread nD τ).loc main_arg0)) (m ((c : Thread nD τ).loc main_arg1)) (m ((c : Thread nD τ).loc main_arg2))
    (m ((c : Thread nD τ).loc main_arg3)) (m ((c : Thread nD τ).loc main_arg4))

/-- The blocks the windows name: the rows' block moves with the point, every other block stays. -/
theorem idx_facts : ∀ t : Fin cfg0.N, (win0_0.index t 0 = t.val ∧ win0_0.index t 1 = 0)
    ∧ (win0_1.index t 0 = 0 ∧ win0_1.index t 1 = 0)
    ∧ (win0_2.index t 0 = 1 ∧ win0_2.index t 1 = 0 ∧ win0_2.index t 2 = 0)
    ∧ (win0_3.index t 0 = 1 ∧ win0_3.index t 1 = 0 ∧ win0_3.index t 2 = 0)
    ∧ (win0_4.index t 0 = 0 ∧ win0_4.index t 1 = 0)
    ∧ (win0_5.index t 0 = t.val ∧ win0_5.index t 1 = 0) :=
  (by decide +kernel : ∀ t : Fin grid0.N, _)

theorem V_v0 (c : Dev nD) : V m c main_v0 = shapeCast S1x1024 (m ((c : Thread nD τ).loc main_arg1)) shapeCasts_S1024_S1x1024 := by
  unfold V
  after_results
  rfl
theorem V_v1 (c : Dev nD) : V m c main_v1 = shapeCast S1x1024 (m ((c : Thread nD τ).loc main_arg4)) shapeCasts_S1024_S1x1024 := by
  unfold V
  after_results
  rfl

theorem in0 (c : Dev nD) (t : Fin cfg0.N) (r : Fin 512) (k : Fin 1024) :
    (iblk m c 0 t : Vec Ideal S512x1024 .f32) (ix2 r k)
      = m ((c : Thread nD τ).loc main_arg0) (ix2 ⟨t.val * 512 + r.val, by have := t.isLt; have hN : cfg0.N = 64 := N_0; have := r.isLt; omega⟩ k) := by
  have hi := (idx_facts t).1
  unfold iblk
  rw [View.read_apply]
  show V m c main_arg0 _ = _
  rw [V_main_arg0]
  congr 1
  funext a
  apply Fin.ext
  match a with
  | ⟨0, _⟩ => show win0_0.index t 0 * 512 + 1 * r.val = _; rw [hi.1]; show _ = t.val * 512 + r.val; omega
  | ⟨1, _⟩ => show win0_0.index t 1 * 1024 + 1 * k.val = _; rw [hi.2]; show _ = k.val; omega

theorem in1 (c : Dev nD) (t : Fin cfg0.N) (k : Fin 1024) :
    (iblk m c 1 t : Vec Ideal S1x1024 .f32) (ix2 0 k) = m ((c : Thread nD τ).loc main_arg1) (ix1 k) := by
  have hi := (idx_facts t).2.1
  unfold iblk
  rw [View.read_apply]
  show V m c main_v0 _ = _
  have e : ∀ j : S1x1024.Idx, j = ix2 0 k → V m c main_v0 j = m ((c : Thread nD τ).loc main_arg1) (ix1 k) := by
    rintro j rfl
    rw [V_v0]
    pointwise
  refine e _ ?_
  funext a
  apply Fin.ext
  match a with
  | ⟨0, _⟩ => show win0_1.index t 0 * 1 + 1 * 0 = _; rw [hi.1]; rfl
  | ⟨1, _⟩ => show win0_1.index t 1 * 1024 + 1 * k.val = _; rw [hi.2]; show _ = k.val; omega

theorem in4 (c : Dev nD) (t : Fin cfg0.N) (k : Fin 1024) :
    (iblk m c 4 t : Vec Ideal S1x1024 .f32) (ix2 0 k) = m ((c : Thread nD τ).loc main_arg4) (ix1 k) := by
  have hi := (idx_facts t).2.2.2.2.1
  unfold iblk
  rw [View.read_apply]
  show V m c main_v1 _ = _
  have e : ∀ j : S1x1024.Idx, j = ix2 0 k → V m c main_v1 j = m ((c : Thread nD τ).loc main_arg4) (ix1 k) := by
    rintro j rfl
    rw [V_v1]
    pointwise
  refine e _ ?_
  funext a
  apply Fin.ext
  match a with
  | ⟨0, _⟩ => show win0_4.index t 0 * 1 + 1 * 0 = _; rw [hi.1]; rfl
  | ⟨1, _⟩ => show win0_4.index t 1 * 1024 + 1 * k.val = _; rw [hi.2]; show _ = k.val; omega

theorem in2 (c : Dev nD) (t : Fin cfg0.N) (a : Fin 1024) (k : Fin 5632) :
    (iblk m c 2 t : Vec Ideal S1x1024x5632 .bf16) (ix3 0 a k) = m ((c : Thread nD τ).loc main_arg2) (ix3 1 a k) := by
  have hi := (idx_facts t).2.2.1
  unfold iblk
  rw [View.read_apply]
  show V m c main_arg2 _ = _
  rw [V_main_arg2]
  congr 1
  funext d
  apply Fin.ext
  match d with
  | ⟨0, _⟩ => show win0_2.index t 0 * 1 + 1 * 0 = _; rw [hi.1]; rfl
  | ⟨1, _⟩ => show win0_2.index t 1 * 1024 + 1 * a.val = _; rw [hi.2.1]; show _ = a.val; omega
  | ⟨2, _⟩ => show win0_2.index t 2 * 5632 + 1 * k.val = _; rw [hi.2.2]; show _ = k.val; omega

theorem in3 (c : Dev nD) (t : Fin cfg0.N) (a : Fin 2816) (k : Fin 1024) :
    (iblk m c 3 t : Vec Ideal S1x2816x1024 .bf16) (ix3 0 a k) = m ((c : Thread nD τ).loc main_arg3) (ix3 1 a k) := by
  have hi := (idx_facts t).2.2.2.1
  unfold iblk
  rw [View.read_apply]
  show V m c main_arg3 _ = _
  rw [V_main_arg3]
  congr 1
  funext d
  apply Fin.ext
  match d with
  | ⟨0, _⟩ => show win0_3.index t 0 * 1 + 1 * 0 = _; rw [hi.1]; rfl
  | ⟨1, _⟩ => show win0_3.index t 1 * 2816 + 1 * a.val = _; rw [hi.2.1]; show _ = a.val; omega
  | ⟨2, _⟩ => show win0_3.index t 2 * 1024 + 1 * k.val = _; rw [hi.2.2]; show _ = k.val; omega

/-- What point `t` writes back is rows `512 t …` of the result. -/
theorem flushed_eq (c : Dev nD) (t : Fin cfg0.N) :
    (dats m 0 c).flushed 5 t = ((cfg0.win 5).blk t).view.read (Elt Ideal) (resultAt m c) := by
  have hi := (idx_facts t).2.2.2.2.2
  rw [Cert.FfnIdeal.Value.flushed5]
  funext (y : S512x1024.Idx)
  rw [View.read_apply]
  show outsAt0 m c t y = resultAt m c _
  obtain ⟨r, l, rfl⟩ : ∃ (r : Fin 512) (l : Fin 1024), y = ix2 r l := ⟨y 0, y 1, eq_ix2 y⟩
  unfold outsAt0
  rw [out_apply]
  simp only [in0, in1, in2, in3, in4]
  have e : ∀ j : S32768x1024.Idx, j = ix2 ⟨t.val * 512 + r.val, by have := t.isLt; have hN : cfg0.N = 64 := N_0; have := r.isLt; omega⟩ l →
      ffnHalf (fun k => m ((c : Thread nD τ).loc main_arg0) (ix2 ⟨t.val * 512 + r.val, by have := t.isLt; have hN : cfg0.N = 64 := N_0; have := r.isLt; omega⟩ k))
        (fun k => m ((c : Thread nD τ).loc main_arg1) (ix1 k)) (fun k => m ((c : Thread nD τ).loc main_arg4) (ix1 k))
        (fun a k => m ((c : Thread nD τ).loc main_arg2) (ix3 1 a k)) (fun a k => m ((c : Thread nD τ).loc main_arg3) (ix3 1 a k)) l
        = resultAt m c j := by rintro j rfl; rfl
  refine e _ ?_
  funext a
  apply Fin.ext
  match a with
  | ⟨0, _⟩ => show win0_5.index t 0 * 512 + 1 * r.val = _; rw [hi.1]; show _ = t.val * 512 + r.val; omega
  | ⟨1, _⟩ => show win0_5.index t 1 * 1024 + 1 * l.val = _; rw [hi.2]; show _ = l.val; omega

/-- The blocks cover the result, so after the run the array is the result. -/
theorem final (c : Dev nD) : (dats m 0 c).arrAt 5 cfg0.N = resultAt m c :=
  (dats m 0 c).arrAt_eq_of_cover 5 (resultAt m c) (fun t _ => flushed_eq m c t) fun (i : S32768x1024.Idx) => by
    have h0 : (i 0 : ℕ) < 32768 := (i 0).isLt
    have h1 : (i 1 : ℕ) < 1024 := (i 1).isLt
    have hN : cfg0.N = 64 := N_0
    let t : Fin cfg0.N := ⟨(i 0 : ℕ) / 512, by omega⟩
    have hi := (idx_facts t).2.2.2.2.2
    refine ⟨t, flush0_5 t, ?_⟩
    show i ∈ ((View.whole main_v2).slice (win0_5.rect t)).set
    rw [View.set_slice_whole, Rect.mem_set_unit]
    intro a
    match a with
    | ⟨0, _⟩ => show win0_5.index t 0 * 512 ≤ (i 0 : ℕ) ∧ (i 0 : ℕ) < win0_5.index t 0 * 512 + 512
                rw [hi.1]; show (i 0 : ℕ) / 512 * 512 ≤ _ ∧ _ < (i 0 : ℕ) / 512 * 512 + 512; omega
    | ⟨1, _⟩ => show win0_5.index t 1 * 1024 ≤ (i 1 : ℕ) ∧ (i 1 : ℕ) < win0_5.index t 1 * 1024 + 1024
                rw [hi.2]; omega

end Cert.Proof.Ffn

end
-- ==== Proof.Ffn.Reference.lean ====
/-
  The feed-forward reference's result, index by index: the row function `ffnHalf` of the argument's row.
-/
module

public import proofs.«01_k».proof.Proof.Rows
public import proofs.«01_k».proof.Proof.Gen.FfnRefIdeal.Read

@[expose] public section

noncomputable section

namespace Cert.Proof.FfnRef

open Idealize.ShloMosaic Idealize.ShloMosaic.TcCoe Cert.FfnRefIdeal Cert.FfnRefIdeal.Read
open Idealize.SL.Sem Idealize.ShloMosaic.StableHlo
open scoped BigOperators

variable (h : FVec Ideal S32768x1024 .f32) (preG postG : FVec Ideal S1024 .f32)
  (wgu : FVec Ideal S2x1024x5632 .bf16) (wd : FVec Ideal S2x2816x1024 .bf16)

theorem norm_apply (r : Fin 32768) (k : Fin 1024) :
    val_main_v16 (F := Ideal) h preG (ix2 r k) = rms (fun k => preG (ix1 k)) (fun k => h (ix2 r k)) k := by
  pointwise [val_main_v16, val_main_v15, val_main_v14, val_main_v13, val_main_v12, val_main_v11, val_main_v10, val_main_v9, val_main_v8, val_main_v7, val_main_v6, val_main_v5, val_main_v4, val_main_cst_1, val_main_cst_0, val_main_cst]
  unfold rms
  rfl

theorem hidden_apply (r : Fin 32768) (k : Fin 2816) :
    val_main_v22 (F := Ideal) h preG wgu (ix2 r k)
      = swish (∑ i, val_main_v16 (F := Ideal) h preG (ix2 r i) * wgu (ix3 1 i ⟨k.val, by omega⟩))
        * ∑ i, val_main_v16 (F := Ideal) h preG (ix2 r i) * wgu (ix3 1 i ⟨2816 + k.val, by omega⟩) := by
  pointwise [val_main_v22, val_main_v21, val_main_call0_v5, val_main_call0_v4, val_main_call0_cst_0, val_main_call0_v3, val_main_call0_v2, val_main_call0_cst, val_main_call0_v1, val_main_call0_v0, val_main_v20, val_main_v19, val_main_v18, val_main_v17, val_main_v1, val_main_v0]
  unfold swish
  rfl

theorem out_apply (r : Fin 32768) (l : Fin 1024) :
    val_main_v40 (F := Ideal) h preG wgu wd postG (ix2 r l)
      = ffnHalf (fun k => h (ix2 r k)) (fun k => preG (ix1 k)) (fun k => postG (ix1 k))
          (fun a k => wgu (ix3 1 a k)) (fun k l => wd (ix3 1 k l)) l := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_cst_5, val_main_cst_4, val_main_cst_3, val_main_cst_2, val_main_v3, val_main_v2]
  simp only [hidden_apply, norm_apply]
  rfl

end Cert.Proof.FfnRef

end
-- ==== Proof.Ffn.Claims.lean ====
/-
  The feed-forward call's claims: the reference's frame, and equality of the two results at every index.
-/
module

public import proofs.«01_k».proof.Defs
public import proofs.«01_k».proof.Proof.Ffn.Kernel
public import proofs.«01_k».proof.Proof.Ffn.Reference
public import proofs.«01_k».proof.Proof.Gen.FfnRefIdeal
public import proofs.«01_k».proof.Proof.Gen.FfnRefIdeal.Run
public import Idealize.ShloMosaic.Adequacy

@[expose] public section

noncomputable section

namespace Cert.Proof.Ffn

open Idealize.ShloMosaic Idealize.ShloMosaic.TcCoe Idealize.SL.Sem

theorem frame_ref : quiescent_FfnRefIdeal (hFfnRefIdeal := Cert.FfnRefIdeal.Gen.facts) := fun m ρ _ =>
  (θ_run _ _ _).mono (fun r h => ⟨fun c => (h c).2, Idealize.ShloMosaic.sem_eq_zero_of_no_sems (by decide) r.2⟩)
    (Cert.FfnRefIdeal.Value.run (F := Ideal) m ρ)

/-- The reference's result of arguments equal to the kernel's is the kernel's result. -/
theorem ref_eq (m : (ℓ : Loc Cert.FfnRefIdeal.nD Cert.FfnRefIdeal.τ Cert.FfnRefIdeal.sig) → Buf (Elt Ideal) ℓ) (c : Dev Cert.FfnRefIdeal.nD)
    (i : Cert.FfnIdeal.S32768x1024.Idx) :
    (Cert.FfnRefIdeal.Value.res_main_v40 m c : Vec Ideal Cert.FfnIdeal.S32768x1024 .f32) i
      = result (m ((c.tc : Thread _ _).loc Cert.FfnRefIdeal.main_arg0)) (m ((c.tc : Thread _ _).loc Cert.FfnRefIdeal.main_arg1))
        (m ((c.tc : Thread _ _).loc Cert.FfnRefIdeal.main_arg2)) (m ((c.tc : Thread _ _).loc Cert.FfnRefIdeal.main_arg3))
        (m ((c.tc : Thread _ _).loc Cert.FfnRefIdeal.main_arg4)) i := by
  rw [Cert.FfnRefIdeal.Read.val_main_v40_eq, eq_ix2 i]
  exact FfnRef.out_apply _ _ _ _ _ _ _

theorem algebraic : algebraic_FfnIdeal_FfnRefIdeal (hFfnIdeal := Cert.FfnIdeal.Gen.facts) (hFfnRefIdeal := Cert.FfnRefIdeal.Gen.facts) :=
  fun m ρ m' ρ' _ hag => ⟨fun c => resultAt m c,
    (θ_run _ _ _).mono (fun _ h c => ⟨(h c).1.trans (final m c), (h c).2⟩) (Cert.FfnIdeal.Value.run_blocks (F := Ideal) m ρ),
    (θ_run _ _ _).mono (fun _ h c => ⟨(h c).1.trans (by
      obtain ⟨h0, h1, h2, h3, h4⟩ := hag c
      funext i
      refine (ref_eq m' c i).trans ?_
      rw [h0, h1, h2, h3, h4]), (h c).2⟩) (Cert.FfnRefIdeal.Value.run (F := Ideal) m' ρ')⟩

end Cert.Proof.Ffn

end
-- ==== Proof.Ffnt.Block.lean ====
/-
  The two-stage feed-forward kernel's payloads are, chunk by chunk, the one-stage kernel's: its running sums are `Ffn.chain`
  and each stage's result is `Ffn.half_apply`'s expression.
-/
module

public import proofs.«01_k».proof.Proof.Ffn.Block
public import proofs.«01_k».proof.Proof.Gen.FfntIdeal.Skeleton

@[expose] public section

noncomputable section

namespace Cert.Proof.Ffnt

open Idealize.ShloMosaic Cert.FfntIdeal Cert.FfntIdeal.Gen
open Cert.Proof.Ffn (Rows Normed WUp WDown)

abbrev Gain := Vec Ideal S1x1024 .f32

/-! ### The first stage -/

theorem one0 (x : Rows) (g : Gain) (a b : WUp) (d : WDown) :
    k0_pay5 (k0_pay4 x g a b d) = Cert.FfnIdeal.Gen.k0_pay3 (Cert.FfnIdeal.Gen.k0_pay2 x g a b d) := rfl
theorem one1 (xn : Normed) (a b : WUp) (d : WDown) (acc : Rows) :
    k0_pay6 xn a b d acc = Cert.FfnIdeal.Gen.k0_pay4 xn a b d acc := rfl
theorem one2 (xn : Normed) (a b : WUp) (d : WDown) (acc : Rows) :
    k0_pay9 xn (k0_pay7 xn a) (k0_pay8 b) d acc = Cert.FfnIdeal.Gen.k0_pay4 xn a b d acc := rfl
theorem one3 (xn : Normed) (a b : WUp) (d : WDown) (acc : Rows) :
    k0_pay11 (k0_pay10 xn a b) d acc = Cert.FfnIdeal.Gen.k0_pay4 xn a b d acc := rfl
theorem one4 (xn : Normed) (a b : WUp) (d : WDown) (acc : Rows) :
    k0_pay12 xn a b d acc = Cert.FfnIdeal.Gen.k0_pay4 xn a b d acc := rfl
theorem one5 (xn : Normed) (a b : WUp) (d : WDown) (acc : Rows) :
    k0_pay13 xn a b d acc = Cert.FfnIdeal.Gen.k0_pay4 xn a b d acc := rfl
theorem one6 (xn : Normed) (a b : WUp) (d : WDown) (acc : Rows) :
    k0_pay17 (k0_pay14 xn a) (k0_pay15 xn b) k0_pay16 d acc = Cert.FfnIdeal.Gen.k0_pay4 xn a b d acc := rfl
theorem one7 (xn : Normed) (a b : WUp) (d : WDown) (acc : Rows) :
    k0_pay20 (k0_pay18 xn a b) (k0_pay19 d) acc = Cert.FfnIdeal.Gen.k0_pay4 xn a b d acc := rfl
theorem one8 (xn : Normed) (a b : WUp) (d : WDown) (acc : Rows) :
    k0_pay21 xn a b d acc = Cert.FfnIdeal.Gen.k0_pay4 xn a b d acc := rfl
theorem one9 (xn : Normed) (a b : WUp) (d : WDown) (acc : Rows) :
    k0_pay22 xn a b d acc = Cert.FfnIdeal.Gen.k0_pay4 xn a b d acc := rfl
theorem one10 (xn : Normed) (a b : WUp) (d : WDown) (acc : Rows) :
    k0_pay27 (k0_pay23 xn a) (k0_pay24 xn b) (k0_pay25 xn a) k0_pay26 d acc = Cert.FfnIdeal.Gen.k0_pay4 xn a b d acc := rfl
theorem one_last (x acc : Rows) (g : Gain) : k0_pay28 x acc g = Cert.FfnIdeal.Gen.k0_pay26 x acc g := by
  funext y
  rw [eq_ix2 y]
  pointwise [k0_pay28, Cert.FfnIdeal.Gen.k0_pay26]

/-! ### The second stage, from the first stage's rows -/

theorem two_norm (x acc : Rows) (g g' : Gain) :
    k0_pay32 (k0_pay28 x acc g) (k0_pay29 g') (k0_pay30 x acc g) k0_pay31 = Cert.FfnIdeal.Gen.k0_pay1 (k0_pay28 x acc g) g' := rfl
theorem two0 (x acc : Rows) (g g' : Gain) (a b : WUp) (d : WDown) :
    k0_pay33 (k0_pay28 x acc g) (k0_pay29 g') (k0_pay30 x acc g) k0_pay31 a b d
      = Cert.FfnIdeal.Gen.k0_pay3 (Cert.FfnIdeal.Gen.k0_pay2 (k0_pay28 x acc g) g' a b d) := rfl
theorem two1 (x acc' : Rows) (g g' : Gain) (a b : WUp) (d : WDown) (acc : Rows) :
    k0_pay35 (Cert.FfnIdeal.Gen.k0_pay1 (k0_pay28 x acc' g) g') (k0_pay34 (k0_pay28 x acc' g) (k0_pay29 g') (k0_pay30 x acc' g) k0_pay31 a) b d acc
      = Cert.FfnIdeal.Gen.k0_pay4 (Cert.FfnIdeal.Gen.k0_pay1 (k0_pay28 x acc' g) g') a b d acc := rfl
theorem two2 (xn : Normed) (a b : WUp) (d : WDown) (acc : Rows) :
    k0_pay37 (k0_pay36 xn a b) d acc = Cert.FfnIdeal.Gen.k0_pay4 xn a b d acc := rfl
theorem two3 (xn : Normed) (a b : WUp) (d : WDown) (acc : Rows) :
    k0_pay39 (k0_pay38 xn a b d acc) = Cert.FfnIdeal.Gen.k0_pay4 xn a b d acc := rfl
theorem two4 (xn : Normed) (a b : WUp) (d : WDown) (acc : Rows) :
    k0_pay40 xn a b d acc = Cert.FfnIdeal.Gen.k0_pay4 xn a b d acc := rfl
theorem two5 (xn : Normed) (a b : WUp) (d : WDown) (acc : Rows) :
    k0_pay43 (k0_pay41 xn a) (k0_pay42 xn b) d acc = Cert.FfnIdeal.Gen.k0_pay4 xn a b d acc := rfl
theorem two6 (xn : Normed) (a b : WUp) (d : WDown) (acc : Rows) :
    k0_pay45 (k0_pay44 xn a b) d acc = Cert.FfnIdeal.Gen.k0_pay4 xn a b d acc := rfl
theorem two7 (xn : Normed) (a b : WUp) (d : WDown) (acc : Rows) :
    k0_pay46 xn a b d acc = Cert.FfnIdeal.Gen.k0_pay4 xn a b d acc := rfl
theorem two8 (xn : Normed) (a b : WUp) (d : WDown) (acc : Rows) :
    k0_pay47 xn a b d acc = Cert.FfnIdeal.Gen.k0_pay4 xn a b d acc := rfl
theorem two9 (xn : Normed) (a b : WUp) (d : WDown) (acc : Rows) :
    k0_pay51 (k0_pay48 xn a) (k0_pay49 xn b) (k0_pay50 xn a) d acc = Cert.FfnIdeal.Gen.k0_pay4 xn a b d acc := rfl
theorem two10 (xn : Normed) (a b : WUp) (d : WDown) (acc : Rows) :
    k0_pay1 (k0_pay52 xn a b d) acc = Cert.FfnIdeal.Gen.k0_pay4 xn a b d acc := rfl
theorem two_last (x acc : Rows) (g : Gain) : k0_pay2 x acc g = Cert.FfnIdeal.Gen.k0_pay26 x acc g := by
  funext y
  rw [eq_ix2 y]
  pointwise [k0_pay2, Cert.FfnIdeal.Gen.k0_pay26]

end Cert.Proof.Ffnt

end
-- ==== Proof.Ffnt.Point.lean ====
/-
  What the body of the two-stage feed-forward kernel leaves in the output block: `ffnHalf` of `ffnHalf` of each row.
-/
module

public import proofs.«01_k».proof.Proof.Ffn.Point
public import proofs.«01_k».proof.Proof.Ffnt.Block
public import proofs.«01_k».proof.Proof.Gen.FfntIdeal.Value

@[expose] public section

noncomputable section

namespace Cert.Proof.Ffnt

open Idealize.ShloMosaic Idealize.ShloMosaic.TcCoe Cert.FfntIdeal Cert.FfntIdeal.Gen
open Cert.Proof.Ffn (off2 readCov_cons)
open scoped BigOperators

/-- **The output block at row `r`, column `l`.** -/
theorem out_apply (c : Dev nD) (i : grid0.Coords)
    (a1 : Memref sig .tc .vmem S512x1024 .f32) (h1 : a1.IsWhole)
    (a2 : Memref sig .tc .vmem S1x1024 .f32) (h2 : a2.IsWhole)
    (a3 : Memref sig .tc .vmem S1x1024x5632 .bf16) (h3 : a3.IsWhole)
    (a4 : Memref sig .tc .vmem S1x2816x1024 .bf16) (h4 : a4.IsWhole)
    (a5 : Memref sig .tc .vmem S1x1024 .f32) (h5 : a5.IsWhole)
    (a6 : Memref sig .tc .vmem S1x1024 .f32) (h6 : a6.IsWhole)
    (a7 : Memref sig .tc .vmem S1x1024x5632 .bf16) (h7 : a7.IsWhole)
    (a8 : Memref sig .tc .vmem S1x2816x1024 .bf16) (h8 : a8.IsWhole)
    (a9 : Memref sig .tc .vmem S1x1024 .f32) (h9 : a9.IsWhole)
    (a10 : Memref sig .tc .vmem S512x1024 .f32) (h10 : a10.IsWhole)
    (a11 : Memref sig .tc .vmem S512x1024 .f32) (h11 : a11.IsWhole)
    (x0 : Vec Ideal S512x1024 .f32)
    (x1 : Vec Ideal S1x1024 .f32)
    (x2 : Vec Ideal S1x1024x5632 .bf16)
    (x3 : Vec Ideal S1x2816x1024 .bf16)
    (x4 : Vec Ideal S1x1024 .f32)
    (x5 : Vec Ideal S1x1024 .f32)
    (x6 : Vec Ideal S1x1024x5632 .bf16)
    (x7 : Vec Ideal S1x2816x1024 .bf16)
    (x8 : Vec Ideal S1x1024 .f32) (r : Fin 512) (l : Fin 1024) :
    out0_A_9 c i a1 h1 a2 h2 a3 h3 a4 h4 a5 h5 a6 h6 a7 h7 a8 h8 a9 h9 a10 h10 a11 h11 x0 x1 x2 x3 x4 x5 x6 x7 x8 (ix2 r l)
      = ffnHalf (ffnHalf (fun k => x0 (ix2 r k)) (fun k => x1 (ix2 0 k)) (fun k => x4 (ix2 0 k))
          (fun i k => x2 (ix3 0 i k)) (fun k l => x3 (ix3 0 k l))) (fun k => x5 (ix2 0 k)) (fun k => x8 (ix2 0 k))
          (fun i k => x6 (ix3 0 i k)) (fun k l => x7 (ix3 0 k l)) l := by
  unfold out0_A_9
  rw [View.read_writes_eq_canon _ _ _ (cover0_A_9 c i a1 h1 a2 h2 a3 h3 a4 h4 a5 h5 a6 h6 a7 h7 a8 h8 a9 h9 a10 h10 a11 h11 x0 x1 x2 x3 x4 x5 x6 x7 x8)]
  unfold kernelRun0_A
  dsimp only
  sl_unfold_words
  simp only [View.readAt_eq_ld, h1.read_unread, h2.read_unread, h3.read_unread, h4.read_unread, h5.read_unread,
    h6.read_unread, h7.read_unread, h8.read_unread, h9.read_unread,
    readCov_cons (S := S512x1024) _ off2, View.canon_unit_zero (S := S512x1024) off2,
    View.ld_unit_zero (S := S512x1024) off2, View.ld_unit_zero (S := S1x1024) off2]
  simp only [two_norm, two0, two1, two2, two3, two4, two5, two6, two7, two8, two9, two10]
  simp only [one0, one1, one2, one3, one4, one5, one6, one7, one8, one9, one10, two_last, one_last]
  refine (Ffn.half_apply (Cert.FfnIdeal.Gen.k0_pay26 x0 (Ffn.chain x0 x1 x2 x3) x4) x5 x6 x7 x8 r l).trans ?_
  simp only [Ffn.half_apply]

end Cert.Proof.Ffnt

end
-- ==== Proof.Ffnt.Kernel.lean ====
/-
  The two-stage feed-forward kernel's result array: every row is `ffnHalf` of `ffnHalf` of the same row of the argument.
-/
module

public import proofs.«01_k».proof.Proof.Blocks
public import proofs.«01_k».proof.Proof.Ffnt.Point
public import proofs.«01_k».proof.Proof.Gen.FfntIdeal.Value

@[expose] public section

noncomputable section

namespace Cert.Proof.Ffnt

open Idealize.ShloMosaic Idealize.ShloMosaic.TcCoe Cert.FfntIdeal Cert.FfntIdeal.Gen
open Idealize.SL.Sem Idealize.ShloMosaic.StableHlo
open scoped BigOperators

/-- The block's function of the argument arrays, at an index of the result. -/
def result (h : FVec Ideal S32768x1024 .f32) (preG : FVec Ideal S1024 .f32) (wgu : FVec Ideal S2x1024x5632 .bf16)
    (wd : FVec Ideal S2x2816x1024 .bf16) (postG preG' : FVec Ideal S1024 .f32) (wgu' : FVec Ideal S2x1024x5632 .bf16)
    (wd' : FVec Ideal S2x2816x1024 .bf16) (postG' : FVec Ideal S1024 .f32) (i : S32768x1024.Idx) : EReal :=
  ffnHalf (ffnHalf (fun k => h (ix2 (i 0) k)) (fun k => preG (ix1 k)) (fun k => postG (ix1 k))
    (fun a k => wgu (ix3 0 a k)) (fun k l => wd (ix3 0 k l))) (fun k => preG' (ix1 k)) (fun k => postG' (ix1 k))
    (fun a k => wgu' (ix3 1 a k)) (fun k l => wd' (ix3 1 k l)) (i 1)

variable (m : (ℓ : Loc nD τ sig) → Buf (Elt Ideal) ℓ) (ρ : Dev nD → PrngReg)

abbrev resultAt (c : Dev nD) : Buf (Elt Ideal) ((c : Thread nD τ).loc main_v4) :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-! ### The blocks the windows name: the rows' blocks move with the point, every other block stays -/

theorem move0 : ∀ t : Fin cfg0.N, win0_0.index t 0 = t.val ∧ win0_0.index t 1 = 0 := (by decide +kernel : ∀ t : Fin grid0.N, _)
theorem move9 : ∀ t : Fin cfg0.N, win0_9.index t 0 = t.val ∧ win0_9.index t 1 = 0 := (by decide +kernel : ∀ t : Fin grid0.N, _)
theorem stay1 : ∀ t : Fin cfg0.N, win0_1.index t 0 = 0 ∧ win0_1.index t 1 = 0 := (by decide +kernel : ∀ t : Fin grid0.N, _)
theorem stay4 : ∀ t : Fin cfg0.N, win0_4.index t 0 = 0 ∧ win0_4.index t 1 = 0 := (by decide +kernel : ∀ t : Fin grid0.N, _)
theorem stay5 : ∀ t : Fin cfg0.N, win0_5.index t 0 = 0 ∧ win0_5.index t 1 = 0 := (by decide +kernel : ∀ t : Fin grid0.N, _)
theorem stay8 : ∀ t : Fin cfg0.N, win0_8.index t 0 = 0 ∧ win0_8.index t 1 = 0 := (by decide +kernel : ∀ t : Fin grid0.N, _)
theorem stay2 : ∀ t : Fin cfg0.N, win0_2.index t 0 = 0 ∧ win0_2.index t 1 = 0 ∧ win0_2.index t 2 = 0 := (by decide +kernel : ∀ t : Fin grid0.N, _)
theorem stay3 : ∀ t : Fin cfg0.N, win0_3.index t 0 = 0 ∧ win0_3.index t 1 = 0 ∧ win0_3.index t 2 = 0 := (by decide +kernel : ∀ t : Fin grid0.N, _)
theorem stay6 : ∀ t : Fin cfg0.N, win0_6.index t 0 = 1 ∧ win0_6.index t 1 = 0 ∧ win0_6.index t 2 = 0 := (by decide +kernel : ∀ t : Fin grid0.N, _)
theorem stay7 : ∀ t : Fin cfg0.N, win0_7.index t 0 = 1 ∧ win0_7.index t 1 = 0 ∧ win0_7.index t 2 = 0 := (by decide +kernel : ∀ t : Fin grid0.N, _)

/-! ### The gains, reshaped to rows before the call -/

theorem V_v0 (c : Dev nD) (k : Fin 1024) : V m c main_v0 (ix2 0 k) = m ((c : Thread nD τ).loc main_arg1) (ix1 k) := by
  have e : V m c main_v0 = shapeCast S1x1024 (m ((c : Thread nD τ).loc main_arg1)) shapeCasts_S1024_S1x1024 := by
    unfold V
    after_results
    rfl
  rw [e]
  pointwise
theorem V_v1 (c : Dev nD) (k : Fin 1024) : V m c main_v1 (ix2 0 k) = m ((c : Thread nD τ).loc main_arg4) (ix1 k) := by
  have e : V m c main_v1 = shapeCast S1x1024 (m ((c : Thread nD τ).loc main_arg4)) shapeCasts_S1024_S1x1024 := by
    unfold V
    after_results
    rfl
  rw [e]
  pointwise
theorem V_v2 (c : Dev nD) (k : Fin 1024) : V m c main_v2 (ix2 0 k) = m ((c : Thread nD τ).loc main_arg5) (ix1 k) := by
  have e : V m c main_v2 = shapeCast S1x1024 (m ((c : Thread nD τ).loc main_arg5)) shapeCasts_S1024_S1x1024 := by
    unfold V
    after_results
    rfl
  rw [e]
  pointwise
theorem V_v3 (c : Dev nD) (k : Fin 1024) : V m c main_v3 (ix2 0 k) = m ((c : Thread nD τ).loc main_arg8) (ix1 k) := by
  have e : V m c main_v3 = shapeCast S1x1024 (m ((c : Thread nD τ).loc main_arg8)) shapeCasts_S1024_S1x1024 := by
    unfold V
    after_results
    rfl
  rw [e]
  pointwise

/-! ### The input blocks at an index -/

theorem in0 (c : Dev nD) (t : Fin cfg0.N) (r : Fin 512) (k : Fin 1024) :
    (iblk m c 0 t : Vec Ideal S512x1024 .f32) (ix2 r k)
      = m ((c : Thread nD τ).loc main_arg0) (ix2 ⟨t.val * 512 + r.val, by have := t.isLt; have hN : cfg0.N = 64 := N_0; have := r.isLt; omega⟩ k) := by
  have hi := move0 t
  unfold iblk
  rw [View.read_apply]
  show V m c main_arg0 _ = _
  rw [V_main_arg0]
  exact at2 (m ((c : Thread nD τ).loc main_arg0)) (by show win0_0.index t 0 * 512 + 1 * r.val = t.val * 512 + r.val; rw [hi.1]; omega)
    (by show win0_0.index t 1 * 1024 + 1 * k.val = k.val; rw [hi.2]; omega)

theorem in1 (c : Dev nD) (t : Fin cfg0.N) (k : Fin 1024) :
    (iblk m c 1 t : Vec Ideal S1x1024 .f32) (ix2 0 k) = m ((c : Thread nD τ).loc main_arg1) (ix1 k) := by
  have hi := stay1 t
  unfold iblk
  rw [View.read_apply]
  exact (at2 (V m c main_v0) (by show win0_1.index t 0 * 1 + 1 * 0 = 0; rw [hi.1])
    (by show win0_1.index t 1 * 1024 + 1 * k.val = k.val; rw [hi.2]; omega)).trans (V_v0 m c k)

theorem in4 (c : Dev nD) (t : Fin cfg0.N) (k : Fin 1024) :
    (iblk m c 4 t : Vec Ideal S1x1024 .f32) (ix2 0 k) = m ((c : Thread nD τ).loc main_arg4) (ix1 k) := by
  have hi := stay4 t
  unfold iblk
  rw [View.read_apply]
  exact (at2 (V m c main_v1) (by show win0_4.index t 0 * 1 + 1 * 0 = 0; rw [hi.1])
    (by show win0_4.index t 1 * 1024 + 1 * k.val = k.val; rw [hi.2]; omega)).trans (V_v1 m c k)

theorem in5 (c : Dev nD) (t : Fin cfg0.N) (k : Fin 1024) :
    (iblk m c 5 t : Vec Ideal S1x1024 .f32) (ix2 0 k) = m ((c : Thread nD τ).loc main_arg5) (ix1 k) := by
  have hi := stay5 t
  unfold iblk
  rw [View.read_apply]
  exact (at2 (V m c main_v2) (by show win0_5.index t 0 * 1 + 1 * 0 = 0; rw [hi.1])
    (by show win0_5.index t 1 * 1024 + 1 * k.val = k.val; rw [hi.2]; omega)).trans (V_v2 m c k)

theorem in8 (c : Dev nD) (t : Fin cfg0.N) (k : Fin 1024) :
    (iblk m c 8 t : Vec Ideal S1x1024 .f32) (ix2 0 k) = m ((c : Thread nD τ).loc main_arg8) (ix1 k) := by
  have hi := stay8 t
  unfold iblk
  rw [View.read_apply]
  exact (at2 (V m c main_v3) (by show win0_8.index t 0 * 1 + 1 * 0 = 0; rw [hi.1])
    (by show win0_8.index t 1 * 1024 + 1 * k.val = k.val; rw [hi.2]; omega)).trans (V_v3 m c k)

theorem in2 (c : Dev nD) (t : Fin cfg0.N) (a : Fin 1024) (k : Fin 5632) :
    (iblk m c 2 t : Vec Ideal S1x1024x5632 .bf16) (ix3 0 a k) = m ((c : Thread nD τ).loc main_arg2) (ix3 0 a k) := by
  have hi := stay2 t
  unfold iblk
  rw [View.read_apply]
  show V m c main_arg2 _ = _
  rw [V_main_arg2]
  exact at3 (m ((c : Thread nD τ).loc main_arg2)) (by show win0_2.index t 0 * 1 + 1 * 0 = 0; rw [hi.1])
    (by show win0_2.index t 1 * 1024 + 1 * a.val = a.val; rw [hi.2.1]; omega)
    (by show win0_2.index t 2 * 5632 + 1 * k.val = k.val; rw [hi.2.2]; omega)

theorem in3 (c : Dev nD) (t : Fin cfg0.N) (a : Fin 2816) (k : Fin 1024) :
    (iblk m c 3 t : Vec Ideal S1x2816x1024 .bf16) (ix3 0 a k) = m ((c : Thread nD τ).loc main_arg3) (ix3 0 a k) := by
  have hi := stay3 t
  unfold iblk
  rw [View.read_apply]
  show V m c main_arg3 _ = _
  rw [V_main_arg3]
  exact at3 (m ((c : Thread nD τ).loc main_arg3)) (by show win0_3.index t 0 * 1 + 1 * 0 = 0; rw [hi.1])
    (by show win0_3.index t 1 * 2816 + 1 * a.val = a.val; rw [hi.2.1]; omega)
    (by show win0_3.index t 2 * 1024 + 1 * k.val = k.val; rw [hi.2.2]; omega)

theorem in6 (c : Dev nD) (t : Fin cfg0.N) (a : Fin 1024) (k : Fin 5632) :
    (iblk m c 6 t : Vec Ideal S1x1024x5632 .bf16) (ix3 0 a k) = m ((c : Thread nD τ).loc main_arg6) (ix3 1 a k) := by
  have hi := stay6 t
  unfold iblk
  rw [View.read_apply]
  show V m c main_arg6 _ = _
  rw [V_main_arg6]
  exact at3 (m ((c : Thread nD τ).loc main_arg6)) (by show win0_6.index t 0 * 1 + 1 * 0 = 1; rw [hi.1])
    (by show win0_6.index t 1 * 1024 + 1 * a.val = a.val; rw [hi.2.1]; omega)
    (by show win0_6.index t 2 * 5632 + 1 * k.val = k.val; rw [hi.2.2]; omega)

theorem in7 (c : Dev nD) (t : Fin cfg0.N) (a : Fin 2816) (k : Fin 1024) :
    (iblk m c 7 t : Vec Ideal S1x2816x1024 .bf16) (ix3 0 a k) = m ((c : Thread nD τ).loc main_arg7) (ix3 1 a k) := by
  have hi := stay7 t
  unfold iblk
  rw [View.read_apply]
  show V m c main_arg7 _ = _
  rw [V_main_arg7]
  exact at3 (m ((c : Thread nD τ).loc main_arg7)) (by show win0_7.index t 0 * 1 + 1 * 0 = 1; rw [hi.1])
    (by show win0_7.index t 1 * 2816 + 1 * a.val = a.val; rw [hi.2.1]; omega)
    (by show win0_7.index t 2 * 1024 + 1 * k.val = k.val; rw [hi.2.2]; omega)

/-- What point `t` writes back is rows `512 t …` of the result. -/
theorem flushed_eq (c : Dev nD) (t : Fin cfg0.N) :
    (dats m 0 c).flushed 9 t = ((cfg0.win 9).blk t).view.read (Elt Ideal) (resultAt m c) := by
  have hi := move9 t
  rw [Cert.FfntIdeal.Value.flushed9]
  funext (y : S512x1024.Idx)
  rw [View.read_apply]
  show outsAt0 m c t y = resultAt m c _
  obtain ⟨r, l, rfl⟩ : ∃ (r : Fin 512) (l : Fin 1024), y = ix2 r l := ⟨y 0, y 1, eq_ix2 y⟩
  unfold outsAt0
  rw [out_apply]
  simp only [in0, in1, in2, in3, in4, in5, in6, in7, in8]
  exact (at2 (resultAt m c) (a := ⟨t.val * 512 + r.val, by have := t.isLt; have hN : cfg0.N = 64 := N_0; have := r.isLt; omega⟩) (b := l)
    (by show win0_9.index t 0 * 512 + 1 * r.val = t.val * 512 + r.val; rw [hi.1]; omega)
    (by show win0_9.index t 1 * 1024 + 1 * l.val = l.val; rw [hi.2]; omega)).symm

/-- The blocks cover the result, so after the run the array is the result. -/
theorem final (c : Dev nD) : (dats m 0 c).arrAt 9 cfg0.N = resultAt m c :=
  (dats m 0 c).arrAt_eq_of_cover 9 (resultAt m c) (fun t _ => flushed_eq m c t) fun (i : S32768x1024.Idx) => by
    have h0 : (i 0 : ℕ) < 32768 := (i 0).isLt
    have h1 : (i 1 : ℕ) < 1024 := (i 1).isLt
    have hN : cfg0.N = 64 := N_0
    let t : Fin cfg0.N := ⟨(i 0 : ℕ) / 512, by omega⟩
    have hi := move9 t
    refine ⟨t, flush0_9 t, ?_⟩
    show i ∈ ((View.whole main_v4).slice (win0_9.rect t)).set
    rw [View.set_slice_whole, Rect.mem_set_unit]
    intro a
    match a with
    | ⟨0, _⟩ => show win0_9.index t 0 * 512 ≤ (i 0 : ℕ) ∧ (i 0 : ℕ) < win0_9.index t 0 * 512 + 512
                rw [hi.1]; show (i 0 : ℕ) / 512 * 512 ≤ _ ∧ _ < (i 0 : ℕ) / 512 * 512 + 512; omega
    | ⟨1, _⟩ => show win0_9.index t 1 * 1024 ≤ (i 1 : ℕ) ∧ (i 1 : ℕ) < win0_9.index t 1 * 1024 + 1024
                rw [hi.2]; omega

end Cert.Proof.Ffnt

end
-- ==== Proof.Ffnt.Reference.lean ====
/-
  The two-stage feed-forward reference's result, index by index: the row function `ffnHalf` applied twice.
-/
module

public import proofs.«01_k».proof.Proof.Rows
public import proofs.«01_k».proof.Proof.Gen.FfntRefIdeal.Read

@[expose] public section

noncomputable section

namespace Cert.Proof.FfntRef

open Idealize.ShloMosaic Idealize.ShloMosaic.TcCoe Cert.FfntRefIdeal Cert.FfntRefIdeal.Read
open Idealize.SL.Sem Idealize.ShloMosaic.StableHlo
open scoped BigOperators

variable (h : FVec Ideal S32768x1024 .f32) (preG postG preG' postG' : FVec Ideal S1024 .f32)
  (wgu wgu' : FVec Ideal S2x1024x5632 .bf16) (wd wd' : FVec Ideal S2x2816x1024 .bf16)

theorem norm_apply (r : Fin 32768) (k : Fin 1024) :
    val_main_v16 (F := Ideal) h preG (ix2 r k) = rms (fun k => preG (ix1 k)) (fun k => h (ix2 r k)) k := by
  pointwise [val_main_v16, val_main_v15, val_main_v14, val_main_v13, val_main_v12, val_main_v11, val_main_v10, val_main_v9, val_main_v8, val_main_v7, val_main_v6, val_main_v5, val_main_v4, val_main_cst_1, val_main_cst_0, val_main_cst]
  unfold rms
  rfl

theorem hidden_apply (r : Fin 32768) (k : Fin 2816) :
    val_main_v22 (F := Ideal) h preG wgu (ix2 r k)
      = swish (∑ i, val_main_v16 (F := Ideal) h preG (ix2 r i) * wgu (ix3 0 i ⟨k.val, by omega⟩))
        * ∑ i, val_main_v16 (F := Ideal) h preG (ix2 r i) * wgu (ix3 0 i ⟨2816 + k.val, by omega⟩) := by
  pointwise [val_main_v22, val_main_v21, val_main_call0_v5, val_main_call0_v4, val_main_call0_cst_0, val_main_call0_v3, val_main_call0_v2, val_main_call0_cst, val_main_call0_v1, val_main_call0_v0, val_main_v20, val_main_v19, val_main_v18, val_main_v17, val_main_v1, val_main_v0]
  unfold swish
  rfl

theorem mid_apply (r : Fin 32768) (l : Fin 1024) :
    val_main_v40 (F := Ideal) h preG wgu wd postG (ix2 r l)
      = ffnHalf (fun k => h (ix2 r k)) (fun k => preG (ix1 k)) (fun k => postG (ix1 k))
          (fun a k => wgu (ix3 0 a k)) (fun k l => wd (ix3 0 k l)) l := by
  pointwise [val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_cst_5, val_main_cst_4, val_main_cst_3, val_main_cst_2, val_main_v3, val_main_v2]
  simp only [hidden_apply, norm_apply]
  rfl

theorem norm2_apply (r : Fin 32768) (k : Fin 1024) :
    val_main_v57 (F := Ideal) h preG wgu wd postG preG' (ix2 r k)
      = rms (fun k => preG' (ix1 k)) (fun k => val_main_v40 (F := Ideal) h preG wgu wd postG (ix2 r k)) k := by
  pointwise [val_main_v57, val_main_v56, val_main_v55, val_main_v54, val_main_v53, val_main_v52, val_main_v51, val_main_v50, val_main_v49, val_main_v48, val_main_v47, val_main_v46, val_main_v45, val_main_cst_8, val_main_cst_7, val_main_cst_6]
  unfold rms
  rfl

theorem hidden2_apply (r : Fin 32768) (k : Fin 2816) :
    val_main_v63 (F := Ideal) h preG wgu wd postG preG' wgu' (ix2 r k)
      = swish (∑ i, val_main_v57 (F := Ideal) h preG wgu wd postG preG' (ix2 r i) * wgu' (ix3 1 i ⟨k.val, by omega⟩))
        * ∑ i, val_main_v57 (F := Ideal) h preG wgu wd postG preG' (ix2 r i) * wgu' (ix3 1 i ⟨2816 + k.val, by omega⟩) := by
  pointwise [val_main_v63, val_main_v62, val_main_call1_v5, val_main_call1_v4, val_main_call1_cst_0, val_main_call1_v3, val_main_call1_v2, val_main_call1_cst, val_main_call1_v1, val_main_call1_v0, val_main_v61, val_main_v60, val_main_v59, val_main_v58, val_main_v42, val_main_v41]
  unfold swish
  rfl

theorem out_apply (r : Fin 32768) (l : Fin 1024) :
    val_main_v81 (F := Ideal) h preG wgu wd postG preG' wgu' wd' postG' (ix2 r l)
      = ffnHalf (ffnHalf (fun k => h (ix2 r k)) (fun k => preG (ix1 k)) (fun k => postG (ix1 k))
          (fun a k => wgu (ix3 0 a k)) (fun k l => wd (ix3 0 k l))) (fun k => preG' (ix1 k)) (fun k => postG' (ix1 k))
          (fun a k => wgu' (ix3 1 a k)) (fun k l => wd' (ix3 1 k l)) l := by
  pointwise [val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_cst_12, val_main_cst_11, val_main_cst_10, val_main_cst_9, val_main_v44, val_main_v43]
  simp only [hidden2_apply, norm2_apply, mid_apply]
  rfl

end Cert.Proof.FfntRef

end
-- ==== Proof.Ffnt.Claims.lean ====
/-
  The two-stage feed-forward call's claims: the reference's frame, and equality of the two results at every index.
-/
module

public import proofs.«01_k».proof.Defs
public import proofs.«01_k».proof.Proof.Ffnt.Kernel
public import proofs.«01_k».proof.Proof.Ffnt.Reference
public import proofs.«01_k».proof.Proof.Gen.FfntRefIdeal
public import proofs.«01_k».proof.Proof.Gen.FfntRefIdeal.Run
public import Idealize.ShloMosaic.Adequacy

@[expose] public section

noncomputable section

namespace Cert.Proof.Ffnt

open Idealize.ShloMosaic Idealize.ShloMosaic.TcCoe Idealize.SL.Sem

theorem frame_ref : quiescent_FfntRefIdeal (hFfntRefIdeal := Cert.FfntRefIdeal.Gen.facts) := fun m ρ _ =>
  (θ_run _ _ _).mono (fun r h => ⟨fun c => (h c).2, Idealize.ShloMosaic.sem_eq_zero_of_no_sems (by decide) r.2⟩)
    (Cert.FfntRefIdeal.Value.run (F := Ideal) m ρ)

/-- The reference's stages at arguments equal to the kernel's are the kernel's result. -/
theorem ref_eq (m : (ℓ : Loc Cert.FfntRefIdeal.nD Cert.FfntRefIdeal.τ Cert.FfntRefIdeal.sig) → Buf (Elt Ideal) ℓ) (c : Dev Cert.FfntRefIdeal.nD)
    (i : Cert.FfntIdeal.S32768x1024.Idx) :
    Cert.FfntRefIdeal.Read.val_main_v81 (F := Ideal) (m ((c.tc : Thread _ _).loc Cert.FfntRefIdeal.main_arg0)) (m ((c.tc : Thread _ _).loc Cert.FfntRefIdeal.main_arg1)) (m ((c.tc : Thread _ _).loc Cert.FfntRefIdeal.main_arg2)) (m ((c.tc : Thread _ _).loc Cert.FfntRefIdeal.main_arg3)) (m ((c.tc : Thread _ _).loc Cert.FfntRefIdeal.main_arg4)) (m ((c.tc : Thread _ _).loc Cert.FfntRefIdeal.main_arg5)) (m ((c.tc : Thread _ _).loc Cert.FfntRefIdeal.main_arg6)) (m ((c.tc : Thread _ _).loc Cert.FfntRefIdeal.main_arg7)) (m ((c.tc : Thread _ _).loc Cert.FfntRefIdeal.main_arg8)) i
      = result (m ((c.tc : Thread _ _).loc Cert.FfntRefIdeal.main_arg0)) (m ((c.tc : Thread _ _).loc Cert.FfntRefIdeal.main_arg1)) (m ((c.tc : Thread _ _).loc Cert.FfntRefIdeal.main_arg2)) (m ((c.tc : Thread _ _).loc Cert.FfntRefIdeal.main_arg3)) (m ((c.tc : Thread _ _).loc Cert.FfntRefIdeal.main_arg4)) (m ((c.tc : Thread _ _).loc Cert.FfntRefIdeal.main_arg5)) (m ((c.tc : Thread _ _).loc Cert.FfntRefIdeal.main_arg6)) (m ((c.tc : Thread _ _).loc Cert.FfntRefIdeal.main_arg7)) (m ((c.tc : Thread _ _).loc Cert.FfntRefIdeal.main_arg8)) i := by
  rw [eq_ix2 i]
  exact FfntRef.out_apply _ _ _ _ _ _ _ _ _ _ _

theorem algebraic : algebraic_FfntIdeal_FfntRefIdeal (hFfntIdeal := Cert.FfntIdeal.Gen.facts) (hFfntRefIdeal := Cert.FfntRefIdeal.Gen.facts) :=
  fun m ρ m' ρ' _ hag => ⟨fun c => resultAt m c,
    (θ_run _ _ _).mono (fun _ h c => ⟨(h c).1.trans (final m c), (h c).2⟩) (Cert.FfntIdeal.Value.run_blocks (F := Ideal) m ρ),
    (θ_run _ _ _).mono (fun _ h c => ⟨(h c).1.trans ((Cert.FfntRefIdeal.Read.val_main_v81_eq _).trans (by
      obtain ⟨h0, h1, h2, h3, h4, h5, h6, h7, h8⟩ := hag c
      funext i
      refine (ref_eq m' c i).trans ?_
      rw [h0, h1, h2, h3, h4, h5, h6, h7, h8])), (h c).2⟩) (Cert.FfntRefIdeal.Value.run (F := Ideal) m' ρ')⟩

end Cert.Proof.Ffnt

end
-- ==== Proof.Merge.Point.lean ====
/-
  What the body of the merging kernel leaves in the output block: `mergeRow` of each row. The spatial mixing is stored
  tile by tile, 128 rows by 128 columns, into a scratch block; every tile is one function of the operands' tiles, so the
  scratch block has one formula.
-/
module

public import proofs.«01_k».proof.Proof.Ffn.Point
public import proofs.«01_k».proof.Proof.Blocks
public import proofs.«01_k».proof.Proof.Merge.Rows
public import proofs.«01_k».proof.Proof.Gen.MergeIdeal.Value
public import Idealize.ShloMosaic.Lib.Pipeline.ReadBack
public import Idealize.ShloMosaic.Lib.Pipeline.ValueKit.Tiles

@[expose] public section

noncomputable section

namespace Cert.Proof.Merge

open Idealize.ShloMosaic Idealize.ShloMosaic.TcCoe Cert.MergeIdeal Cert.MergeIdeal.Gen
open Cert.Proof.Ffn (off2)
open scoped BigOperators

theorem off3 : (![0, 0, 0] : Fin 3 → Nat) = fun _ => 0 := by funext a; fin_cases a <;> rfl

/-- One tile of the spatial mixing, from the tiles of its operands. -/
theorem tile_apply (w : Vec Ideal S1x128x128 .f32) (b : Vec Ideal S128x1 .f32) (v u : Vec Ideal S128x128 .bf16) (i d : Fin 128) :
    k0_pay4 w b v u (ix2 i d)
      = u (ix2 i d) * ((∑ j, v (ix2 j d) * (if j ≤ i then w (ix3 0 i j) else 0)) + b (ix2 i 0)) := by
  pointwise [k0_pay4, k0_pay2, k0_pay3]
  simp only [select_le, ite_mul, zero_mul, mul_comm (v _)]

/-- The spatial mixing of a block of 512 rows, times its gate. -/
def mixed (u v : Vec Ideal S512x1024 .bf16) (w : Vec Ideal S8x128x128 .f32) (b : Vec Ideal S128x8 .f32) (r : Fin 512) (c : Fin 1024) : EReal :=
  u (ix2 r c) * spatial (fun g i j => w (ix3 g i j)) (fun g i => b (ix2 i g))
    (fun j => v (ix2 ⟨r.val / 128 * 128 + j.val, by omega⟩ c)) (grp c) ⟨r.val % 128, by omega⟩

/-- One tile, at the rows from a multiple of 128 and the columns of group `g`, holds the mixing there. -/
theorem tile_at (u v : Vec Ideal S512x1024 .bf16) (w : Vec Ideal S8x128x128 .f32) (b : Vec Ideal S128x8 .f32)
    (y : S512x1024.Idx) (ro co g : ℕ) (hr : ro % 128 = 0) (hc : co = 128 * g)
    (iw : ∀ a, ![g, 0, 0] a + ![1, 128, 128] a ≤ S8x128x128.size a) (ib : ∀ a, ![0, g] a + ![128, 1] a ≤ S128x8.size a)
    (iv : ∀ a, ![ro, co] a + ![128, 128] a ≤ S512x1024.size a) :
    View.TileAt (Val := Elt Ideal) (S := S512x1024) (e := .bf16) y ![ro, co] ![128, 128]
      (k0_pay4 (View.ld w (Rect.unit ![g, 0, 0] ![1, 128, 128] iw)) (View.ld b (Rect.unit ![0, g] ![128, 1] ib))
        (View.ld v (Rect.unit ![ro, co] ![128, 128] iv)) (View.ld u (Rect.unit ![ro, co] ![128, 128] iv)))
      (mixed u v w b (y 0) (y 1)) := by
  intro (x : S128x128.Idx) hx
  obtain ⟨i, d, rfl⟩ : ∃ (i : Fin 128) (d : Fin 128), x = ix2 i d := ⟨x 0, x 1, eq_ix2 x⟩
  have h0 : (y 0 : ℕ) = ro + i.val := hx 0
  have h1 : (y 1 : ℕ) = co + d.val := hx 1
  obtain ⟨r, c, rfl⟩ : ∃ (r : Fin 512) (c : Fin 1024), y = ix2 r c := ⟨y 0, y 1, eq_ix2 y⟩
  replace h0 : r.val = ro + i.val := h0
  replace h1 : c.val = co + d.val := h1
  have hi := i.isLt
  have hd := d.isLt
  have hg : g < 8 := by have := c.isLt; omega
  have ei : (⟨r.val % 128, by omega⟩ : Fin 128) = i := Fin.ext (by show r.val % 128 = i.val; omega)
  have eg : grp c = ⟨g, hg⟩ := Fin.ext (by show c.val / 128 = g; omega)
  refine (tile_apply _ _ _ _ i d).trans ?_
  show _ = mixed u v w b r c
  unfold mixed spatial
  rw [ei, eg]
  congr 1
  · exact at2 u (by show ro + 1 * i.val = r.val; omega) (by show co + 1 * d.val = c.val; omega)
  congr 1
  · refine Finset.sum_congr rfl fun j _ => ?_
    congr 1
    · exact at2 v (by show ro + 1 * j.val = r.val / 128 * 128 + j.val; omega) (by show co + 1 * d.val = c.val; omega)
    split
    · exact at3 w (by show g + 1 * 0 = g; omega) (by show 0 + 1 * i.val = i.val; omega) (by show 0 + 1 * j.val = j.val; omega)
    · rfl
  · exact at2 b (by show 0 + 1 * i.val = i.val; omega) (by show g + 1 * 0 = g; omega)

/-- The output block from its operands, the mixing given. -/
theorem last_apply (g0 g1 g2 ya ys yc : Vec Ideal S512x1024 .bf16) (pa ps pc wo : Vec Ideal S1x1024x1024 .bf16)
    (h : Vec Ideal S512x1024 .f32) (g : Vec Ideal S1x1024 .f32) (gs : Vec Ideal S512x3072 .bf16) (r : Fin 512) (l : Fin 1024)
    (e0 : ∀ k : Fin 1024, g0 (ix2 r k) = gs (ix2 r ⟨k.val, by omega⟩))
    (e1 : ∀ k : Fin 1024, g1 (ix2 r k) = gs (ix2 r ⟨1024 + k.val, by omega⟩))
    (e2 : ∀ k : Fin 1024, g2 (ix2 r k) = gs (ix2 r ⟨2048 + k.val, by omega⟩)) :
    k0_pay1 (k0_pay62 g0 ya pa g1 ys ps g2 yc pc wo) h g (ix2 r l)
      = mergeRow (fun k => h (ix2 r k)) (fun k => ya (ix2 r k)) (fun k => ys (ix2 r k)) (fun k => yc (ix2 r k)) (fun k => gs (ix2 r k))
          (fun a k => pa (ix3 0 a k)) (fun a k => ps (ix3 0 a k)) (fun a k => pc (ix3 0 a k)) (fun a k => wo (ix3 0 a k))
          (fun k => g (ix2 0 k)) l := by
  unfold mergeRow branches
  dsimp only
  simp only [← e0, ← e1, ← e2]
  pointwise [k0_pay1, k0_pay62]
  rfl

/-- **The output block at row `r`, column `l`.** -/
theorem out_apply (c : Dev nD) (i : grid0.Coords)
    (a1 : Memref sig .tc .vmem S512x1024 .f32) (h1 : a1.IsWhole)
    (a2 : Memref sig .tc .vmem S512x1024 .bf16) (h2 : a2.IsWhole)
    (a3 : Memref sig .tc .vmem S512x1024 .bf16) (h3 : a3.IsWhole)
    (a4 : Memref sig .tc .vmem S512x1024 .bf16) (h4 : a4.IsWhole)
    (a5 : Memref sig .tc .vmem S512x1024 .bf16) (h5 : a5.IsWhole)
    (a6 : Memref sig .tc .vmem S512x3072 .bf16) (h6 : a6.IsWhole)
    (a7 : Memref sig .tc .vmem S8x128x128 .f32) (h7 : a7.IsWhole)
    (a8 : Memref sig .tc .vmem S128x8 .f32) (h8 : a8.IsWhole)
    (a9 : Memref sig .tc .vmem S1x1024x1024 .bf16) (h9 : a9.IsWhole)
    (a10 : Memref sig .tc .vmem S1x1024x1024 .bf16) (h10 : a10.IsWhole)
    (a11 : Memref sig .tc .vmem S1x1024x1024 .bf16) (h11 : a11.IsWhole)
    (a12 : Memref sig .tc .vmem S1x1024x1024 .bf16) (h12 : a12.IsWhole)
    (a13 : Memref sig .tc .vmem S1x1024 .f32) (h13 : a13.IsWhole)
    (a14 : Memref sig .tc .vmem S512x1024 .f32) (h14 : a14.IsWhole)
    (a15 : Memref sig .tc .vmem S512x1024 .bf16) (h15 : a15.IsWhole)
    (x0 : Vec Ideal S512x1024 .f32) (x1 x2 x3 x4 : Vec Ideal S512x1024 .bf16) (x5 : Vec Ideal S512x3072 .bf16)
    (x6 : Vec Ideal S8x128x128 .f32) (x7 : Vec Ideal S128x8 .f32) (x8 x9 x10 x11 : Vec Ideal S1x1024x1024 .bf16)
    (x12 : Vec Ideal S1x1024 .f32) (r : Fin 512) (l : Fin 1024) :
    out0_A_13 c i a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12 (ix2 r l)
      = mergeRow (fun k => x0 (ix2 r k)) (fun k => x1 (ix2 r k)) (fun k => x2 (ix2 r k)) (fun k => mixed x3 x4 x6 x7 r k)
          (fun k => x5 (ix2 r k)) (fun a k => x8 (ix3 0 a k)) (fun a k => x9 (ix3 0 a k)) (fun a k => x10 (ix3 0 a k))
          (fun a k => x11 (ix3 0 a k)) (fun k => x12 (ix2 0 k)) l := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 x0 x1 x2 x3 x4 x5 x6 x7 x8 x9 x10 x11 x12)]
  unfold kernelRun0_A
  dsimp only
  sl_unfold_words
  simp only [View.readAt_eq_ld, h1.read_unread, h2.read_unread, h3.read_unread, h4.read_unread, h5.read_unread,
    h6.read_unread, h7.read_unread, h8.read_unread, h9.read_unread, h10.read_unread, h11.read_unread, h12.read_unread, h13.read_unread,
    View.canon_unit_zero (S := S512x1024) off2,
    View.ld_unit_zero (S := S512x1024) off2, View.ld_unit_zero (S := S1x1024) off2,
    View.ld_unit_zero (S := S1x1024x1024) off3]
  rw [View.readCov_eq_canon_ld _ _ _ (View.cover_of_tiled_head _ _ _ (by rfl))]
  refine (last_apply _ _ _ _ _ _ _ _ _ _ _ _ x5 r l ?_ ?_ ?_).trans ?_
  · intro k
    exact at2 x5 (by show 0 + 1 * r.val = r.val; omega) (by show 0 + 1 * k.val = k.val; omega)
  · intro k
    exact at2 x5 (by show 0 + 1 * r.val = r.val; omega) (by show 1024 + 1 * k.val = 1024 + k.val; omega)
  · intro k
    exact at2 x5 (by show 0 + 1 * r.val = r.val; omega) (by show 2048 + 1 * k.val = 2048 + k.val; omega)
  congr 1
  · funext k
    rw [View.ld_unit_zero (S := S512x1024) off2]
    refine View.canon_eq_of_allAt _ _ _ (View.cover_of_tiled_head _ _ _ (by rfl) _) ?_
    iterate 32 refine View.allAt_cons_unit _ _ _ _ _ (tile_at x3 x4 x6 x7 (ix2 r k) _ _ _ (by decide) (by decide) _ _ _) ?_
    exact View.allAt_nil _ _

end Cert.Proof.Merge

end
-- ==== Proof.Merge.Kernel.lean ====
/-
  The merging kernel's result array: every row is `mergeRow` of the rows of the arguments, the spatial mixing taken over
  the 128 rows of its chunk.
-/
module

public import proofs.«01_k».proof.Proof.Blocks
public import proofs.«01_k».proof.Proof.Merge.Point
public import proofs.«01_k».proof.Proof.Gen.MergeIdeal.Value

@[expose] public section

noncomputable section

namespace Cert.Proof.Merge

open Idealize.ShloMosaic Idealize.ShloMosaic.TcCoe Cert.MergeIdeal Cert.MergeIdeal.Gen
open Idealize.SL.Sem Idealize.ShloMosaic.StableHlo
open scoped BigOperators

/-- The spatial mixing at a row and a column of the arrays, times its gate. -/
def mixedRow (ua vn : FVec Ideal S32768x1024 .bf16) (w : FVec Ideal S8x128x128 .f32) (b : FVec Ideal S8x128 .f32) (r : Fin 32768)
    (c : Fin 1024) : EReal :=
  ua (ix2 r c) * spatial (fun g i j => w (ix3 g i j)) (fun g i => b (ix2 g i))
    (fun j => vn (ix2 ⟨r.val / 128 * 128 + j.val, by omega⟩ c)) (grp c) ⟨r.val % 128, by omega⟩

/-- The step's function of the argument arrays, at a row and a column of the result. -/
def resultRow (h : FVec Ideal S32768x1024 .f32) (ya ys ua vn : FVec Ideal S32768x1024 .bf16) (gs : FVec Ideal S32768x3072 .bf16)
    (w : FVec Ideal S8x128x128 .f32) (b : FVec Ideal S8x128 .f32) (pa ps pc wo : FVec Ideal S2x1024x1024 .bf16) (g : FVec Ideal S1024 .f32)
    (r : Fin 32768) (l : Fin 1024) : EReal :=
  mergeRow (fun k => h (ix2 r k)) (fun k => ya (ix2 r k)) (fun k => ys (ix2 r k))
    (mixedRow ua vn w b r)
    (fun k => gs (ix2 r k)) (fun a k => pa (ix3 0 a k)) (fun a k => ps (ix3 0 a k)) (fun a k => pc (ix3 0 a k))
    (fun a k => wo (ix3 0 a k)) (fun k => g (ix1 k)) l

/-- The same at an index. -/
def result (h : FVec Ideal S32768x1024 .f32) (ya ys ua vn : FVec Ideal S32768x1024 .bf16) (gs : FVec Ideal S32768x3072 .bf16)
    (w : FVec Ideal S8x128x128 .f32) (b : FVec Ideal S8x128 .f32) (pa ps pc wo : FVec Ideal S2x1024x1024 .bf16) (g : FVec Ideal S1024 .f32)
    (i : S32768x1024.Idx) : EReal := resultRow h ya ys ua vn gs w b pa ps pc wo g (i 0) (i 1)

variable (m : (ℓ : Loc nD τ sig) → Buf (Elt Ideal) ℓ) (ρ : Dev nD → PrngReg)

abbrev resultAt (c : Dev nD) : Buf (Elt Ideal) ((c : Thread nD τ).loc main_v2) :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12))

/-! ### The blocks the windows name: the rows' blocks move with the point, every other block stays -/

theorem move0 : ∀ t : Fin cfg0.N, win0_0.index t 0 = t.val ∧ win0_0.index t 1 = 0 := (by decide +kernel : ∀ t : Fin grid0.N, _)
theorem move1 : ∀ t : Fin cfg0.N, win0_1.index t 0 = t.val ∧ win0_1.index t 1 = 0 := (by decide +kernel : ∀ t : Fin grid0.N, _)
theorem move2 : ∀ t : Fin cfg0.N, win0_2.index t 0 = t.val ∧ win0_2.index t 1 = 0 := (by decide +kernel : ∀ t : Fin grid0.N, _)
theorem move3 : ∀ t : Fin cfg0.N, win0_3.index t 0 = t.val ∧ win0_3.index t 1 = 0 := (by decide +kernel : ∀ t : Fin grid0.N, _)
theorem move4 : ∀ t : Fin cfg0.N, win0_4.index t 0 = t.val ∧ win0_4.index t 1 = 0 := (by decide +kernel : ∀ t : Fin grid0.N, _)
theorem move5 : ∀ t : Fin cfg0.N, win0_5.index t 0 = t.val ∧ win0_5.index t 1 = 0 := (by decide +kernel : ∀ t : Fin grid0.N, _)
theorem move13 : ∀ t : Fin cfg0.N, win0_13.index t 0 = t.val ∧ win0_13.index t 1 = 0 := (by decide +kernel : ∀ t : Fin grid0.N, _)
theorem stay6 : ∀ t : Fin cfg0.N, win0_6.index t 0 = 0 ∧ win0_6.index t 1 = 0 ∧ win0_6.index t 2 = 0 := (by decide +kernel : ∀ t : Fin grid0.N, _)
theorem stay7 : ∀ t : Fin cfg0.N, win0_7.index t 0 = 0 ∧ win0_7.index t 1 = 0 := (by decide +kernel : ∀ t : Fin grid0.N, _)
theorem stay8 : ∀ t : Fin cfg0.N, win0_8.index t 0 = 0 ∧ win0_8.index t 1 = 0 ∧ win0_8.index t 2 = 0 := (by decide +kernel : ∀ t : Fin grid0.N, _)
theorem stay9 : ∀ t : Fin cfg0.N, win0_9.index t 0 = 0 ∧ win0_9.index t 1 = 0 ∧ win0_9.index t 2 = 0 := (by decide +kernel : ∀ t : Fin grid0.N, _)
theorem stay10 : ∀ t : Fin cfg0.N, win0_10.index t 0 = 0 ∧ win0_10.index t 1 = 0 ∧ win0_10.index t 2 = 0 := (by decide +kernel : ∀ t : Fin grid0.N, _)
theorem stay11 : ∀ t : Fin cfg0.N, win0_11.index t 0 = 0 ∧ win0_11.index t 1 = 0 ∧ win0_11.index t 2 = 0 := (by decide +kernel : ∀ t : Fin grid0.N, _)
theorem stay12 : ∀ t : Fin cfg0.N, win0_12.index t 0 = 0 ∧ win0_12.index t 1 = 0 := (by decide +kernel : ∀ t : Fin grid0.N, _)

/-! ### The bias, transposed, and the gain, a row, before the call -/

theorem bias_apply (A : FVec Ideal S8x128 .f32) (i : Fin 128) (g : Fin 8) :
    transpose S128x8 [1, 0] A transposes_S8x128_S128x8_1_0 (ix2 i g) = A (ix2 g i) := by pointwise

theorem gain_apply (A : FVec Ideal S1024 .f32) (k : Fin 1024) :
    shapeCast S1x1024 A shapeCasts_S1024_S1x1024 (ix2 0 k) = A (ix1 k) := by pointwise

theorem V_v0 (c : Dev nD) (i : Fin 128) (g : Fin 8) : V m c main_v0 (ix2 i g) = m ((c : Thread nD τ).loc main_arg7) (ix2 g i) := by
  have e : V m c main_v0 = transpose S128x8 [1, 0] (m ((c : Thread nD τ).loc main_arg7)) transposes_S8x128_S128x8_1_0 := by
    unfold V
    after_results
  exact (congrFun e _).trans (bias_apply _ i g)

theorem V_v1 (c : Dev nD) (k : Fin 1024) : V m c main_v1 (ix2 0 k) = m ((c : Thread nD τ).loc main_arg12) (ix1 k) := by
  have e : V m c main_v1 = shapeCast S1x1024 (m ((c : Thread nD τ).loc main_arg12)) shapeCasts_S1024_S1x1024 := by
    unfold V
    after_results
    rfl
  exact (congrFun e _).trans (gain_apply _ k)

/-! ### The input blocks at an index -/

/-- The array's row that is row `r` of point `t`'s block. -/
def rowOf (t : Fin cfg0.N) (r : Fin 512) : Fin 32768 := ⟨t.val * 512 + r.val, by have := t.isLt; have hN : cfg0.N = 64 := N_0; have := r.isLt; omega⟩

theorem in0 (c : Dev nD) (t : Fin cfg0.N) (r : Fin 512) (k : Fin 1024) :
    (iblk m c 0 t : Vec Ideal S512x1024 .f32) (ix2 r k) = m ((c : Thread nD τ).loc main_arg0) (ix2 (rowOf t r) k) := by
  have hi := move0 t
  unfold iblk
  rw [View.read_apply]
  show V m c main_arg0 _ = _
  rw [V_main_arg0]
  exact at2 (m ((c : Thread nD τ).loc main_arg0)) (by show win0_0.index t 0 * 512 + 1 * r.val = t.val * 512 + r.val; rw [hi.1]; omega)
    (by show win0_0.index t 1 * 1024 + 1 * k.val = k.val; rw [hi.2]; omega)

theorem in1 (c : Dev nD) (t : Fin cfg0.N) (r : Fin 512) (k : Fin 1024) :
    (iblk m c 1 t : Vec Ideal S512x1024 .bf16) (ix2 r k) = m ((c : Thread nD τ).loc main_arg1) (ix2 (rowOf t r) k) := by
  have hi := move1 t
  unfold iblk
  rw [View.read_apply]
  show V m c main_arg1 _ = _
  rw [V_main_arg1]
  exact at2 (m ((c : Thread nD τ).loc main_arg1)) (by show win0_1.index t 0 * 512 + 1 * r.val = t.val * 512 + r.val; rw [hi.1]; omega)
    (by show win0_1.index t 1 * 1024 + 1 * k.val = k.val; rw [hi.2]; omega)

theorem in2 (c : Dev nD) (t : Fin cfg0.N) (r : Fin 512) (k : Fin 1024) :
    (iblk m c 2 t : Vec Ideal S512x1024 .bf16) (ix2 r k) = m ((c : Thread nD τ).loc main_arg2) (ix2 (rowOf t r) k) := by
  have hi := move2 t
  unfold iblk
  rw [View.read_apply]
  show V m c main_arg2 _ = _
  rw [V_main_arg2]
  exact at2 (m ((c : Thread nD τ).loc main_arg2)) (by show win0_2.index t 0 * 512 + 1 * r.val = t.val * 512 + r.val; rw [hi.1]; omega)
    (by show win0_2.index t 1 * 1024 + 1 * k.val = k.val; rw [hi.2]; omega)

theorem in3 (c : Dev nD) (t : Fin cfg0.N) (r : Fin 512) (k : Fin 1024) :
    (iblk m c 3 t : Vec Ideal S512x1024 .bf16) (ix2 r k) = m ((c : Thread nD τ).loc main_arg3) (ix2 (rowOf t r) k) := by
  have hi := move3 t
  unfold iblk
  rw [View.read_apply]
  show V m c main_arg3 _ = _
  rw [V_main_arg3]
  exact at2 (m ((c : Thread nD τ).loc main_arg3)) (by show win0_3.index t 0 * 512 + 1 * r.val = t.val * 512 + r.val; rw [hi.1]; omega)
    (by show win0_3.index t 1 * 1024 + 1 * k.val = k.val; rw [hi.2]; omega)

theorem in4 (c : Dev nD) (t : Fin cfg0.N) (r : Fin 512) (k : Fin 1024) :
    (iblk m c 4 t : Vec Ideal S512x1024 .bf16) (ix2 r k) = m ((c : Thread nD τ).loc main_arg4) (ix2 (rowOf t r) k) := by
  have hi := move4 t
  unfold iblk
  rw [View.read_apply]
  show V m c main_arg4 _ = _
  rw [V_main_arg4]
  exact at2 (m ((c : Thread nD τ).loc main_arg4)) (by show win0_4.index t 0 * 512 + 1 * r.val = t.val * 512 + r.val; rw [hi.1]; omega)
    (by show win0_4.index t 1 * 1024 + 1 * k.val = k.val; rw [hi.2]; omega)

theorem in5 (c : Dev nD) (t : Fin cfg0.N) (r : Fin 512) (k : Fin 3072) :
    (iblk m c 5 t : Vec Ideal S512x3072 .bf16) (ix2 r k) = m ((c : Thread nD τ).loc main_arg5) (ix2 (rowOf t r) k) := by
  have hi := move5 t
  unfold iblk
  rw [View.read_apply]
  show V m c main_arg5 _ = _
  rw [V_main_arg5]
  exact at2 (m ((c : Thread nD τ).loc main_arg5)) (by show win0_5.index t 0 * 512 + 1 * r.val = t.val * 512 + r.val; rw [hi.1]; omega)
    (by show win0_5.index t 1 * 3072 + 1 * k.val = k.val; rw [hi.2]; omega)

theorem in6 (c : Dev nD) (t : Fin cfg0.N) (g : Fin 8) (a k : Fin 128) :
    (iblk m c 6 t : Vec Ideal S8x128x128 .f32) (ix3 g a k) = m ((c : Thread nD τ).loc main_arg6) (ix3 g a k) := by
  have hi := stay6 t
  unfold iblk
  rw [View.read_apply]
  show V m c main_arg6 _ = _
  rw [V_main_arg6]
  exact at3 (m ((c : Thread nD τ).loc main_arg6)) (by show win0_6.index t 0 * 8 + 1 * g.val = g.val; rw [hi.1]; omega)
    (by show win0_6.index t 1 * 128 + 1 * a.val = a.val; rw [hi.2.1]; omega)
    (by show win0_6.index t 2 * 128 + 1 * k.val = k.val; rw [hi.2.2]; omega)

theorem in7 (c : Dev nD) (t : Fin cfg0.N) (i : Fin 128) (g : Fin 8) :
    (iblk m c 7 t : Vec Ideal S128x8 .f32) (ix2 i g) = m ((c : Thread nD τ).loc main_arg7) (ix2 g i) := by
  have hi := stay7 t
  unfold iblk
  rw [View.read_apply]
  exact (at2 (V m c main_v0) (by show win0_7.index t 0 * 128 + 1 * i.val = i.val; rw [hi.1]; omega)
    (by show win0_7.index t 1 * 8 + 1 * g.val = g.val; rw [hi.2]; omega)).trans (V_v0 m c i g)

theorem in8 (c : Dev nD) (t : Fin cfg0.N) (a k : Fin 1024) :
    (iblk m c 8 t : Vec Ideal S1x1024x1024 .bf16) (ix3 0 a k) = m ((c : Thread nD τ).loc main_arg8) (ix3 0 a k) := by
  have hi := stay8 t
  unfold iblk
  rw [View.read_apply]
  show V m c main_arg8 _ = _
  rw [V_main_arg8]
  exact at3 (m ((c : Thread nD τ).loc main_arg8)) (by show win0_8.index t 0 * 1 + 1 * 0 = 0; rw [hi.1])
    (by show win0_8.index t 1 * 1024 + 1 * a.val = a.val; rw [hi.2.1]; omega)
    (by show win0_8.index t 2 * 1024 + 1 * k.val = k.val; rw [hi.2.2]; omega)

theorem in9 (c : Dev nD) (t : Fin cfg0.N) (a k : Fin 1024) :
    (iblk m c 9 t : Vec Ideal S1x1024x1024 .bf16) (ix3 0 a k) = m ((c : Thread nD τ).loc main_arg9) (ix3 0 a k) := by
  have hi := stay9 t
  unfold iblk
  rw [View.read_apply]
  show V m c main_arg9 _ = _
  rw [V_main_arg9]
  exact at3 (m ((c : Thread nD τ).loc main_arg9)) (by show win0_9.index t 0 * 1 + 1 * 0 = 0; rw [hi.1])
    (by show win0_9.index t 1 * 1024 + 1 * a.val = a.val; rw [hi.2.1]; omega)
    (by show win0_9.index t 2 * 1024 + 1 * k.val = k.val; rw [hi.2.2]; omega)

theorem in10 (c : Dev nD) (t : Fin cfg0.N) (a k : Fin 1024) :
    (iblk m c 10 t : Vec Ideal S1x1024x1024 .bf16) (ix3 0 a k) = m ((c : Thread nD τ).loc main_arg10) (ix3 0 a k) := by
  have hi := stay10 t
  unfold iblk
  rw [View.read_apply]
  show V m c main_arg10 _ = _
  rw [V_main_arg10]
  exact at3 (m ((c : Thread nD τ).loc main_arg10)) (by show win0_10.index t 0 * 1 + 1 * 0 = 0; rw [hi.1])
    (by show win0_10.index t 1 * 1024 + 1 * a.val = a.val; rw [hi.2.1]; omega)
    (by show win0_10.index t 2 * 1024 + 1 * k.val = k.val; rw [hi.2.2]; omega)

theorem in11 (c : Dev nD) (t : Fin cfg0.N) (a k : Fin 1024) :
    (iblk m c 11 t : Vec Ideal S1x1024x1024 .bf16) (ix3 0 a k) = m ((c : Thread nD τ).loc main_arg11) (ix3 0 a k) := by
  have hi := stay11 t
  unfold iblk
  rw [View.read_apply]
  show V m c main_arg11 _ = _
  rw [V_main_arg11]
  exact at3 (m ((c : Thread nD τ).loc main_arg11)) (by show win0_11.index t 0 * 1 + 1 * 0 = 0; rw [hi.1])
    (by show win0_11.index t 1 * 1024 + 1 * a.val = a.val; rw [hi.2.1]; omega)
    (by show win0_11.index t 2 * 1024 + 1 * k.val = k.val; rw [hi.2.2]; omega)

theorem in12 (c : Dev nD) (t : Fin cfg0.N) (k : Fin 1024) :
    (iblk m c 12 t : Vec Ideal S1x1024 .f32) (ix2 0 k) = m ((c : Thread nD τ).loc main_arg12) (ix1 k) := by
  have hi := stay12 t
  unfold iblk
  rw [View.read_apply]
  exact (at2 (V m c main_v1) (by show win0_12.index t 0 * 1 + 1 * 0 = 0; rw [hi.1])
    (by show win0_12.index t 1 * 1024 + 1 * k.val = k.val; rw [hi.2]; omega)).trans (V_v1 m c k)

/-- A point's block holds whole chunks, so the mixing of a row of the block is the mixing of that row of the array. -/
theorem mixed_eq (c : Dev nD) (t : Fin cfg0.N) (r : Fin 512) (k : Fin 1024) :
    mixed (iblk m c 3 t : Vec Ideal S512x1024 .bf16) (iblk m c 4 t : Vec Ideal S512x1024 .bf16) (iblk m c 6 t : Vec Ideal S8x128x128 .f32)
        (iblk m c 7 t : Vec Ideal S128x8 .f32) r k
      = mixedRow (m ((c : Thread nD τ).loc main_arg3)) (m ((c : Thread nD τ).loc main_arg4)) (m ((c : Thread nD τ).loc main_arg6))
          (m ((c : Thread nD τ).loc main_arg7)) (rowOf t r) k := by
  have hr : (rowOf t r).val = t.val * 512 + r.val := rfl
  have e1 : (⟨(rowOf t r).val % 128, by omega⟩ : Fin 128) = ⟨r.val % 128, by omega⟩ := Fin.ext (by show _ % 128 = r.val % 128; omega)
  have e2 : ∀ j : Fin 128, (⟨(rowOf t r).val / 128 * 128 + j.val, by omega⟩ : Fin 32768) = rowOf t ⟨r.val / 128 * 128 + j.val, by omega⟩ :=
    fun j => Fin.ext (by show (rowOf t r).val / 128 * 128 + j.val = t.val * 512 + (r.val / 128 * 128 + j.val); omega)
  unfold mixed mixedRow
  simp only [in3, in4, in6, in7, e1, e2]

set_option maxRecDepth 4096 in
/-- What point `t` writes back is rows `512 t …` of the result. -/
theorem flushed_eq (c : Dev nD) (t : Fin cfg0.N) :
    (dats m 0 c).flushed 13 t = ((cfg0.win 13).blk t).view.read (Elt Ideal) (resultAt m c) := by
  have hi := move13 t
  rw [Cert.MergeIdeal.Value.flushed13]
  funext (y : S512x1024.Idx)
  rw [View.read_apply]
  show outsAt0 m c t y = resultAt m c _
  obtain ⟨r, l, rfl⟩ : ∃ (r : Fin 512) (l : Fin 1024), y = ix2 r l := ⟨y 0, y 1, eq_ix2 y⟩
  unfold outsAt0
  rw [out_apply]
  simp only [in0, in1, in2, in5, in8, in9, in10, in11, in12, mixed_eq]
  exact (at2 (resultAt m c) (a := rowOf t r) (b := l)
    (by show win0_13.index t 0 * 512 + 1 * r.val = t.val * 512 + r.val; rw [hi.1]; omega)
    (by show win0_13.index t 1 * 1024 + 1 * l.val = l.val; rw [hi.2]; omega)).symm

/-- The blocks cover the result, so after the run the array is the result. -/
theorem final (c : Dev nD) : (dats m 0 c).arrAt 13 cfg0.N = resultAt m c :=
  (dats m 0 c).arrAt_eq_of_cover 13 (resultAt m c) (fun t _ => flushed_eq m c t) fun (i : S32768x1024.Idx) => by
    have h0 : (i 0 : ℕ) < 32768 := (i 0).isLt
    have h1 : (i 1 : ℕ) < 1024 := (i 1).isLt
    have hN : cfg0.N = 64 := N_0
    let t : Fin cfg0.N := ⟨(i 0 : ℕ) / 512, by omega⟩
    have hi := move13 t
    refine ⟨t, flush0_13 t, ?_⟩
    show i ∈ ((View.whole main_v2).slice (win0_13.rect t)).set
    rw [View.set_slice_whole, Rect.mem_set_unit]
    intro a
    match a with
    | ⟨0, _⟩ => show win0_13.index t 0 * 512 ≤ (i 0 : ℕ) ∧ (i 0 : ℕ) < win0_13.index t 0 * 512 + 512
                rw [hi.1]; show (i 0 : ℕ) / 512 * 512 ≤ _ ∧ _ < (i 0 : ℕ) / 512 * 512 + 512; omega
    | ⟨1, _⟩ => show win0_13.index t 1 * 1024 ≤ (i 1 : ℕ) ∧ (i 1 : ℕ) < win0_13.index t 1 * 1024 + 1024
                rw [hi.2]; omega

end Cert.Proof.Merge

end
-- ==== Proof.Merge.Reference.lean ====
/-
  The branch-merging reference's result, index by index: the row function `mergeRow`.
-/
module

public import proofs.«01_k».proof.Proof.Blocks
public import proofs.«01_k».proof.Proof.Merge.Rows
public import proofs.«01_k».proof.Proof.Gen.MergeRefIdeal.Read

@[expose] public section

noncomputable section

namespace Cert.Proof.MergeRef

open Idealize.ShloMosaic Idealize.ShloMosaic.TcCoe Cert.MergeRefIdeal Cert.MergeRefIdeal.Read
open Idealize.SL.Sem Idealize.ShloMosaic.StableHlo
open scoped BigOperators

variable (h : FVec Ideal S32768x1024 .f32) (ya ys ua vn : FVec Ideal S32768x1024 .bf16) (gs : FVec Ideal S32768x3072 .bf16)
  (w : FVec Ideal S8x128x128 .f32) (b : FVec Ideal S8x128 .f32) (pa ps pc wo : FVec Ideal S2x1024x1024 .bf16) (g : FVec Ideal S1024 .f32)

/-- The row of the array that is row `j` of the chunk of 128 in which row `r` lies. -/
def chunkRow (r : Fin 32768) (j : Fin 128) : Fin 32768 := ⟨r.val / 128 * 128 + j.val, by omega⟩

theorem gated_apply (r : Fin 32768) (c : Fin 1024) :
    val_main_v11 (F := Ideal) ua vn w b (ix2 r c)
      = ua (ix2 r c) * spatial (fun g i j => w (ix3 g i j)) (fun g i => b (ix2 g i)) (fun j => vn (ix2 (chunkRow r j) c)) (grp c)
          ⟨r.val % 128, by omega⟩ := by
  rw [val_main_v11_apply, val_main_v9_apply, val_main_v10_apply, val_main_v8_apply, val_main_v4_apply, val_main_v3_apply,
    val_main_v7_apply, val_main_v6_apply, val_main_v5_apply]
  simp only [val_main_v1_apply, val_main_v0_apply, val_main_v2_apply, val_main_call0_v5_apply, val_main_call0_v4_apply,
    val_main_call0_v6_apply, val_main_call0_cst_apply, val_main_call0_v3_apply, val_main_call0_v2_apply, val_main_call0_v1_apply,
    val_main_call0_v0_apply, val_main_call0_c_apply]
  unfold spatial
  have hr := r.isLt
  have hc := c.isLt
  show ua (ix2 r c) * ((∑ j : Fin 128, _) + _) = _
  congr 2
  · refine Finset.sum_congr rfl fun j _ => ?_
    have hj := j.isLt
    congr 1
    · refine at2 vn ?_ ?_
      · show ((((r.val * 1024 + c.val) / 131072 * 128 + j.val) * 8 + (r.val * 1024 + c.val) / 128 % 8) * 128 + (r.val * 1024 + c.val) % 128) / 1024 = r.val / 128 * 128 + j.val
        omega
      · show ((((r.val * 1024 + c.val) / 131072 * 128 + j.val) * 8 + (r.val * 1024 + c.val) / 128 % 8) * 128 + (r.val * 1024 + c.val) % 128) % 1024 = c.val
        omega
    · rw [← select_le]
      have e : (r.val * 1024 + c.val) / 1024 % 128 = r.val % 128 := by omega
      have e' : (r.val * 1024 + c.val) / 128 % 8 = c.val / 128 := by omega
      show Scalar.select (IntOp.cmpi .sge (IntOp.addi (BitVec.ofNat 32 ((r.val * 1024 + c.val) / 1024 % 128)) 0#32) (BitVec.ofNat 32 j.val)) _ (Ideal.ofBits .f32 0x00000000#32) = _
      rw [e, Ideal.ofBits_zero_f32]
      congr 1
      · show IntOp.cmpi .sge (BitVec.ofNat 32 (r.val % 128) + 0#32) _ = _
        rw [BitVec.add_zero]
      · exact at3 w (a := grp c) (b := ⟨r.val % 128, by omega⟩) (c := j) e' e rfl
  · refine at2 b ?_ ?_
    · show (r.val * 1024 + c.val) / 128 % 8 = c.val / 128
      omega
    · show (r.val * 1024 + c.val) / 1024 % 128 = r.val % 128
      omega

theorem gate0_apply (r : Fin 32768) (c : Fin 1024) : val_main_v15 (F := Ideal) gs (ix2 r c) = gs (ix2 r ⟨c.val, by omega⟩) := by
  rw [val_main_v15_apply, val_main_v14_apply, val_main_v13_apply, val_main_v12_apply]
  have hr := r.isLt
  have hc := c.isLt
  refine at2 gs ?_ ?_
  · show (((r.val * 1024 + c.val) / 1024 * 3 + 0) * 1024 + (r.val * 1024 + c.val) % 1024) / 3072 = r.val
    omega
  · show (((r.val * 1024 + c.val) / 1024 * 3 + 0) * 1024 + (r.val * 1024 + c.val) % 1024) % 3072 = c.val
    omega

theorem gate1_apply (r : Fin 32768) (c : Fin 1024) : val_main_v23 (F := Ideal) gs (ix2 r c) = gs (ix2 r ⟨1024 + c.val, by omega⟩) := by
  rw [val_main_v23_apply, val_main_v22_apply, val_main_v13_apply, val_main_v12_apply]
  have hr := r.isLt
  have hc := c.isLt
  refine at2 gs ?_ ?_
  · show (((r.val * 1024 + c.val) / 1024 * 3 + (1 + 0)) * 1024 + (r.val * 1024 + c.val) % 1024) / 3072 = r.val
    omega
  · show (((r.val * 1024 + c.val) / 1024 * 3 + (1 + 0)) * 1024 + (r.val * 1024 + c.val) % 1024) % 3072 = 1024 + c.val
    omega

theorem gate2_apply (r : Fin 32768) (c : Fin 1024) : val_main_v32 (F := Ideal) gs (ix2 r c) = gs (ix2 r ⟨2048 + c.val, by omega⟩) := by
  rw [val_main_v32_apply, val_main_v31_apply, val_main_v13_apply, val_main_v12_apply]
  have hr := r.isLt
  have hc := c.isLt
  refine at2 gs ?_ ?_
  · show (((r.val * 1024 + c.val) / 1024 * 3 + (2 + 0)) * 1024 + (r.val * 1024 + c.val) % 1024) / 3072 = r.val
    omega
  · show (((r.val * 1024 + c.val) / 1024 * 3 + (2 + 0)) * 1024 + (r.val * 1024 + c.val) % 1024) % 3072 = 2048 + c.val
    omega

/-- The gated sum of the branches, and its projection. -/
theorem merged_apply (r : Fin 32768) (k : Fin 1024) :
    val_main_v38 (F := Ideal) ya ys ua vn gs w b pa ps pc (ix2 r k)
      = branches (fun a => ya (ix2 r a)) (fun a => ys (ix2 r a)) (fun a => val_main_v11 (F := Ideal) ua vn w b (ix2 r a))
          (fun a => gs (ix2 r a)) (fun a k => pa (ix3 0 a k)) (fun a k => ps (ix3 0 a k)) (fun a k => pc (ix3 0 a k)) k := by
  unfold branches
  dsimp only
  rw [← gate0_apply gs r k, ← gate1_apply gs r k, ← gate2_apply gs r k]
  generalize hyc : val_main_v11 (F := Ideal) ua vn w b = yc
  pointwise [val_main_v38, val_main_v37, val_main_v36, val_main_v35, val_main_v34, val_main_v33, val_main_v30, val_main_v29, val_main_v28, val_main_v27, val_main_v26, val_main_v25, val_main_v24, val_main_v21, val_main_v20, val_main_v19, val_main_v18, val_main_v17, val_main_v16]
  rw [hyc]

/-- The reference's row. -/
theorem out_apply (r : Fin 32768) (l : Fin 1024) :
    val_main_v56 (F := Ideal) h ya ys ua vn gs w b pa ps pc wo g (ix2 r l)
      = mergeRow (fun k => h (ix2 r k)) (fun k => ya (ix2 r k)) (fun k => ys (ix2 r k))
          (fun c => ua (ix2 r c) * spatial (fun g i j => w (ix3 g i j)) (fun g i => b (ix2 g i))
            (fun j => vn (ix2 (chunkRow r j) c)) (grp c) ⟨r.val % 128, by omega⟩)
          (fun k => gs (ix2 r k)) (fun a k => pa (ix3 0 a k)) (fun a k => ps (ix3 0 a k)) (fun a k => pc (ix3 0 a k))
          (fun a k => wo (ix3 0 a k)) (fun k => g (ix1 k)) l := by
  unfold mergeRow
  simp only [← gated_apply, ← merged_apply]
  generalize hm : val_main_v38 (F := Ideal) ya ys ua vn gs w b pa ps pc = mg
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_cst, val_main_cst_0, val_main_cst_1]
  rw [hm]
  rfl

end Cert.Proof.MergeRef

end
-- ==== Proof.Merge.Claims.lean ====
/-
  The branch-merging call's claims: the reference's frame, and equality of the two results at every index.
-/
module

public import proofs.«01_k».proof.Defs
public import proofs.«01_k».proof.Proof.Merge.Kernel
public import proofs.«01_k».proof.Proof.Merge.Reference
public import proofs.«01_k».proof.Proof.Gen.MergeRefIdeal
public import proofs.«01_k».proof.Proof.Gen.MergeRefIdeal.Run
public import Idealize.ShloMosaic.Adequacy

@[expose] public section

noncomputable section

namespace Cert.Proof.Merge

open Idealize.ShloMosaic Idealize.ShloMosaic.TcCoe Idealize.SL.Sem

theorem frame_ref : quiescent_MergeRefIdeal (hMergeRefIdeal := Cert.MergeRefIdeal.Gen.facts) := fun m ρ _ =>
  (θ_run _ _ _).mono (fun r h => ⟨fun c => (h c).2, Idealize.ShloMosaic.sem_eq_zero_of_no_sems (by decide) r.2⟩)
    (Cert.MergeRefIdeal.Value.run (F := Ideal) m ρ)

/-- The reference's stages at arguments equal to the kernel's are the kernel's result. -/
theorem ref_eq (m : (ℓ : Loc Cert.MergeRefIdeal.nD Cert.MergeRefIdeal.τ Cert.MergeRefIdeal.sig) → Buf (Elt Ideal) ℓ) (c : Dev Cert.MergeRefIdeal.nD)
    (i : Cert.MergeIdeal.S32768x1024.Idx) :
    Cert.MergeRefIdeal.Read.val_main_v56 (F := Ideal) (m ((c.tc : Thread _ _).loc Cert.MergeRefIdeal.main_arg0)) (m ((c.tc : Thread _ _).loc Cert.MergeRefIdeal.main_arg1)) (m ((c.tc : Thread _ _).loc Cert.MergeRefIdeal.main_arg2)) (m ((c.tc : Thread _ _).loc Cert.MergeRefIdeal.main_arg3)) (m ((c.tc : Thread _ _).loc Cert.MergeRefIdeal.main_arg4)) (m ((c.tc : Thread _ _).loc Cert.MergeRefIdeal.main_arg5)) (m ((c.tc : Thread _ _).loc Cert.MergeRefIdeal.main_arg6)) (m ((c.tc : Thread _ _).loc Cert.MergeRefIdeal.main_arg7)) (m ((c.tc : Thread _ _).loc Cert.MergeRefIdeal.main_arg8)) (m ((c.tc : Thread _ _).loc Cert.MergeRefIdeal.main_arg9)) (m ((c.tc : Thread _ _).loc Cert.MergeRefIdeal.main_arg10)) (m ((c.tc : Thread _ _).loc Cert.MergeRefIdeal.main_arg11)) (m ((c.tc : Thread _ _).loc Cert.MergeRefIdeal.main_arg12)) i
      = result (m ((c.tc : Thread _ _).loc Cert.MergeRefIdeal.main_arg0)) (m ((c.tc : Thread _ _).loc Cert.MergeRefIdeal.main_arg1)) (m ((c.tc : Thread _ _).loc Cert.MergeRefIdeal.main_arg2)) (m ((c.tc : Thread _ _).loc Cert.MergeRefIdeal.main_arg3)) (m ((c.tc : Thread _ _).loc Cert.MergeRefIdeal.main_arg4)) (m ((c.tc : Thread _ _).loc Cert.MergeRefIdeal.main_arg5)) (m ((c.tc : Thread _ _).loc Cert.MergeRefIdeal.main_arg6)) (m ((c.tc : Thread _ _).loc Cert.MergeRefIdeal.main_arg7)) (m ((c.tc : Thread _ _).loc Cert.MergeRefIdeal.main_arg8)) (m ((c.tc : Thread _ _).loc Cert.MergeRefIdeal.main_arg9)) (m ((c.tc : Thread _ _).loc Cert.MergeRefIdeal.main_arg10)) (m ((c.tc : Thread _ _).loc Cert.MergeRefIdeal.main_arg11)) (m ((c.tc : Thread _ _).loc Cert.MergeRefIdeal.main_arg12)) i := by
  rw [eq_ix2 i]
  exact MergeRef.out_apply _ _ _ _ _ _ _ _ _ _ _ _ _ _ _

theorem algebraic : algebraic_MergeIdeal_MergeRefIdeal (hMergeIdeal := Cert.MergeIdeal.Gen.facts) (hMergeRefIdeal := Cert.MergeRefIdeal.Gen.facts) :=
  fun m ρ m' ρ' _ hag => ⟨fun c => resultAt m c,
    (θ_run _ _ _).mono (fun _ h c => ⟨(h c).1.trans (final m c), (h c).2⟩) (Cert.MergeIdeal.Value.run_blocks (F := Ideal) m ρ),
    (θ_run _ _ _).mono (fun _ h c => ⟨(h c).1.trans ((Cert.MergeRefIdeal.Read.val_main_v56_eq m' c).trans (by
      obtain ⟨h0, h1, h2, h3, h4, h5, h6, h7, h8, h9, h10, h11, h12⟩ := hag c
      funext i
      refine (ref_eq m' c i).trans ?_
      rw [h0, h1, h2, h3, h4, h5, h6, h7, h8, h9, h10, h11, h12])), (h c).2⟩) (Cert.MergeRefIdeal.Value.run (F := Ideal) m' ρ')⟩

end Cert.Proof.Merge

end
-- ==== Proof.Inproj.Rows.lean ====
/-
  The input projection on one normalized row: products with columns of the weights, and what is made of them: the
  scaled queries, the gates, the short convolution over a row and the three before it, and the layer norm.
-/
module

public import proofs.«01_k».proof.Proof.Rows

@[expose] public section

noncomputable section

namespace Cert.Proof

open Idealize.ShloMosaic
open scoped BigOperators

/-- A row's product with column `l` of a matrix. -/
def prod {n : ℕ} (x : Fin 1024 → EReal) (w : Fin 1024 → Fin n → EReal) (l : Fin n) : EReal := ∑ k, x k * w k l

/-- The logistic sigmoid. -/
def sigm (x : EReal) : EReal := Ideal.div 1 (1 + Ideal.exp (-x))

/-- The Gaussian-error gate in its form by the hyperbolic tangent. -/
def gelu (x : EReal) : EReal :=
  x * (Ideal.ofBits .f32 0x3F000000#32 * (1 + Ideal.tanh (Ideal.ofBits .f32 0x3F4C422A#32 * (x + Ideal.ofBits .f32 0x3D372713#32 * (x * x * x)))))

/-- A product stored as it is. -/
def kept (x : EReal) : EReal := x

/-- The scaling of the queries. -/
def scaled (x : EReal) : EReal := x * Ideal.ofBits .f32 0x3E0293EE#32

/-- A row's mean. -/
def meanOf (v : Fin 1024 → EReal) : EReal := Ideal.div (∑ k, v k) (Ideal.ofBits .f32 0x44800000#32)

/-- A row's layer norm with gain `g` and bias `b`. -/
def layerNorm (g b v : Fin 1024 → EReal) (l : Fin 1024) : EReal :=
  (v l - meanOf v) * Ideal.rsqrt (meanOf (fun k => (v k - meanOf v) * (v k - meanOf v)) + Ideal.ofBits .f32 0x358637BD#32) * g l + b l

/-- The convolution at one channel: the bias and the four taps `w` on the rows 3, 2, 1 and 0 back; then the gate. -/
def conv (w : Fin 4 → EReal) (b x3 x2 x1 x0 : EReal) : EReal :=
  swish (b + w 3 * x0 + w 0 * x3 + w 1 * x2 + w 2 * x1)

/-- Rows of a block behind the eight rows that came before it: `p` for the first eight, then `q`. -/
def behind (p : Fin 8 → Fin 1536 → EReal) (q : Fin 256 → Fin 1536 → EReal) (j : Fin 264) (c : Fin 1536) : EReal :=
  if h : j.val < 8 then p ⟨j.val, h⟩ c else q ⟨j.val - 8, by omega⟩ c

/-- The row `d` before row `r` of the same sequence of 8192 rows, zero where there is none. -/
def lag (raw : Fin 32768 → Fin 1536 → EReal) (d : ℕ) (r : Fin 32768) (c : Fin 1536) : EReal :=
  if d ≤ r.val % 8192 then raw ⟨r.val - d, by omega⟩ c else 0

/-- The convolution of whole sequences of rows, at a row and a channel. -/
def mixed (raw : Fin 32768 → Fin 1536 → EReal) (w : Fin 4 → Fin 1536 → EReal) (b : Fin 1536 → EReal) (r : Fin 32768) (c : Fin 1536) : EReal :=
  conv (fun t => w t c) (b c) (lag raw 3 r c) (lag raw 2 r c) (lag raw 1 r c) (raw r c)

end Cert.Proof

end
-- ==== Proof.Inproj.Tile.lean ====
/-
  The tiles of 256 columns which the input projection's body computes and stores, each as a function of the block of
  normalized rows and a block of weight columns; and the block of 264 rows that holds the products to be convolved,
  behind the last eight rows of the block before.
-/
module

public import proofs.«01_k».proof.Proof.Ffn.Point
public import proofs.«01_k».proof.Proof.Merge.Point
public import proofs.«01_k».proof.Proof.Blocks
public import proofs.«01_k».proof.Proof.Inproj.Rows
public import proofs.«01_k».proof.Proof.Gen.InprojIdeal.Value
public import Idealize.ShloMosaic.Lib.Pipeline.ReadBack
public import Idealize.ShloMosaic.Lib.WritesUnit
public import Idealize.ShloMosaic.Lib.Pipeline.ValueKit.Tiles

@[expose] public section

noncomputable section

namespace Cert.Proof.Inproj

open Idealize.ShloMosaic Idealize.ShloMosaic.TcCoe Cert.InprojIdeal Cert.InprojIdeal.Gen
open scoped BigOperators

abbrev Normed := Vec Ideal S256x1024 .bf16
abbrev Cols := Vec Ideal S1x1024x256 .bf16

/-! ### The payloads at an index -/

/-- The block's normalized rows. -/
theorem normed_apply (x0 : Vec Ideal S256x1024 .f32) (x1 : Vec Ideal S1x1024 .f32) (r : Fin 256) (k : Fin 1024) :
    k0_pay3 x0 x1 (ix2 r k) = rms (fun k => x1 (ix2 0 k)) (fun k => x0 (ix2 r k)) k := by
  pointwise [k0_pay3]
  rfl

theorem scaled_apply (xn : Normed) (w : Cols) (i d : Fin 256) :
    k0_pay6 xn w (ix2 i d) = scaled (∑ k, xn (ix2 i k) * w (ix3 0 k d)) := by
  pointwise [k0_pay6]
  rfl

theorem plain_apply (xn : Normed) (w : Cols) (i d : Fin 256) :
    k0_pay23 xn w (ix2 i d) = kept (∑ k, xn (ix2 i k) * w (ix3 0 k d)) := by
  pointwise [k0_pay23]
  rfl

theorem raw_apply (xn : Normed) (w : Cols) (i d : Fin 256) :
    k0_pay30 (k0_pay29 xn w) (ix2 i d) = ∑ k, xn (ix2 i k) * w (ix3 0 k d) := by
  pointwise [k0_pay30, k0_pay29]

theorem swish_apply (xn : Normed) (w : Cols) (i d : Fin 256) :
    k0_pay61 xn w (ix2 i d) = swish (∑ k, xn (ix2 i k) * w (ix3 0 k d)) := by
  pointwise [k0_pay61]
  simp only [zero_sub, swish]

theorem gelu_apply (xn : Normed) (w : Cols) (i d : Fin 256) :
    k0_pay55 xn w (ix2 i d) = gelu (∑ k, xn (ix2 i k) * w (ix3 0 k d)) := by
  pointwise [k0_pay55]
  rfl

theorem geluWide_apply (xn : Normed) (w : Cols) (i d : Fin 256) :
    k0_pay15 xn w (ix2 i d) = gelu (∑ k, xn (ix2 i k) * w (ix3 0 k d)) := by
  pointwise [k0_pay15]
  rfl

theorem sigm_apply (xn : Normed) (w : Cols) (i d : Fin 256) :
    k0_pay60 xn w (ix2 i d) = sigm (∑ k, xn (ix2 i k) * w (ix3 0 k d)) := by
  pointwise [k0_pay60]
  simp only [zero_sub, sigm]

theorem narrow_apply (xn : Normed) (w : Vec Ideal S1x1024x128 .bf16) (i : Fin 256) (l : Fin 128) :
    k0_pay58 xn w (ix2 i l) = ∑ k, xn (ix2 i k) * w (ix3 0 k l) := by
  pointwise [k0_pay58]

theorem norm_apply (x : Vec Ideal S256x1024 .f32) (g b : Vec Ideal S1x1024 .f32) (i : Fin 256) (l : Fin 1024) :
    k0_pay16 x g b (ix2 i l) = layerNorm (fun k => g (ix2 0 k)) (fun k => b (ix2 0 k)) (fun k => x (ix2 i k)) l := by
  pointwise [k0_pay16]
  rfl

theorem conv_apply (xn : Normed) (w : Cols) (b w3 w0 w1 w2 : Vec Ideal S1x256 .f32) (s3 s2 s1 : Vec Ideal S256x256 .f32) (i d : Fin 256) :
    k0_pay31 (k0_pay29 xn w) b w3 w0 s3 w1 s2 w2 s1 (ix2 i d)
      = swish (b (ix2 0 d) + w3 (ix2 0 d) * (∑ k, xn (ix2 i k) * w (ix3 0 k d)) + w0 (ix2 0 d) * s3 (ix2 i d)
          + w1 (ix2 0 d) * s2 (ix2 i d) + w2 (ix2 0 d) * s1 (ix2 i d)) := by
  pointwise [k0_pay31, k0_pay29]
  simp only [zero_sub, swish]

theorem zero_apply (j : Fin 8) (l : Fin 1536) : k0_pay2 (F := Ideal) (ix2 j l) = 0 := by
  pointwise [k0_pay2]

theorem last_apply (s : Vec Ideal S8x1536 .f32) : k0_pay48 s = s := by
  funext i
  rw [eq_ix2 i]
  pointwise [k0_pay48]

/-! ### The payloads of the convolution's other tiles are those of the third -/

section
variable (xn : Normed) (w : Cols) (b w3 w0 w1 w2 : Vec Ideal S1x256 .f32) (s3 s2 s1 : Vec Ideal S256x256 .f32)

theorem raw0 : k0_pay19 xn w = k0_pay30 (k0_pay29 xn w) := rfl
theorem raw1 : k0_pay25 xn w = k0_pay30 (k0_pay29 xn w) := rfl
theorem raw3 : k0_pay34 xn w = k0_pay30 (k0_pay29 xn w) := rfl
theorem raw4 : k0_pay39 xn w = k0_pay30 (k0_pay29 xn w) := rfl
theorem raw5 : k0_pay44 xn w = k0_pay30 (k0_pay29 xn w) := rfl
theorem conv0 : k0_pay22 (k0_pay20 xn w b w3 w0 s3 w1 s2 w2 s1) (k0_pay21 xn w b w3 w0 s3 w1 s2 w2 s1)
    = k0_pay31 (k0_pay29 xn w) b w3 w0 s3 w1 s2 w2 s1 := rfl
theorem conv1 : k0_pay27 (k0_pay26 xn w b w3 w0 s3) w1 s2 w2 s1 = k0_pay31 (k0_pay29 xn w) b w3 w0 s3 w1 s2 w2 s1 := rfl
theorem conv3 : k0_pay36 (k0_pay35 xn w b w3 w0 s3 w1 s2) w2 s1 = k0_pay31 (k0_pay29 xn w) b w3 w0 s3 w1 s2 w2 s1 := rfl
theorem conv4 : k0_pay41 (k0_pay38 xn w) (k0_pay40 b) w3 w0 s3 w1 s2 w2 s1 = k0_pay31 (k0_pay29 xn w) b w3 w0 s3 w1 s2 w2 s1 := rfl
theorem conv5 : k0_pay47 (k0_pay45 xn w b w3 w0 s3 w1 s2 w2 s1) k0_pay46 = k0_pay31 (k0_pay29 xn w) b w3 w0 s3 w1 s2 w2 s1 := rfl

end

/-! ### A tile of columns, placed -/

/-- The product of row `i` of the block with column `d` of a block of weight columns, in the whole weights. -/
theorem cols_eq {M : ℕ} (xn : Normed) (W : Vec Ideal (⟨3, ![1, 1024, M]⟩ : Shape) .bf16) (wo : ℕ)
    (iw : ∀ a, (![0, 0, wo] : Fin 3 → ℕ) a + (![1, 1024, 256] : Fin 3 → ℕ) a ≤ (⟨3, ![1, 1024, M]⟩ : Shape).size a)
    (i d : Fin 256) (l : Fin M) (hl : l.val = wo + d.val) :
    (∑ k : Fin 1024, xn (ix2 i k) * (View.ld W (Rect.unit ![0, 0, wo] ![1, 1024, 256] iw) : Cols) (ix3 0 k d))
      = prod (fun k => xn (ix2 i k)) (fun k l => W (ix3 0 k l)) l := by
  unfold prod
  refine Finset.sum_congr rfl fun k _ => ?_
  congr 1
  exact at3 W (by show 0 + 1 * 0 = 0; omega) (by show 0 + 1 * k.val = k.val; omega) (by show wo + 1 * d.val = l.val; omega)

/-- A stored tile at columns from `co`, made of the weights' columns from `off + co`, holds `f` of the products there. -/
theorem col_at {N M : ℕ} (f : EReal → EReal) (pay : Normed → Cols → FVec Ideal S256x256 .bf16)
    (hp : ∀ xn w i d, pay xn w (ix2 i d) = f (∑ k : Fin 1024, xn (ix2 i k) * w (ix3 0 k d)))
    (xn : Normed) (W : Vec Ideal (⟨3, ![1, 1024, M]⟩ : Shape) .bf16) (off : ℕ) (hM : off + N ≤ M)
    (y : (⟨2, ![256, N]⟩ : Shape).Idx) (co wo : ℕ) (hw : wo = off + co)
    (iw : ∀ a, (![0, 0, wo] : Fin 3 → ℕ) a + (![1, 1024, 256] : Fin 3 → ℕ) a ≤ (⟨3, ![1, 1024, M]⟩ : Shape).size a) :
    View.TileAt (Val := Elt Ideal) (S := (⟨2, ![256, N]⟩ : Shape)) (e := .bf16) y ![0, co] ![256, 256]
      (pay xn (View.ld W (Rect.unit ![0, 0, wo] ![1, 1024, 256] iw)))
      (f (prod (fun k => xn (ix2 (y 0) k)) (fun k l => W (ix3 0 k l)) ⟨off + (y 1).val, lt_of_lt_of_le (Nat.add_lt_add_left (y 1).isLt off) hM⟩)) := by
  intro (x : S256x256.Idx) hx
  obtain ⟨i, d, rfl⟩ : ∃ (i d : Fin 256), x = ix2 i d := ⟨x 0, x 1, eq_ix2 x⟩
  have h0 : (y 0 : ℕ) = 0 + i.val := hx 0
  have h1 : (y 1 : ℕ) = co + d.val := hx 1
  have e0 : y 0 = i := Fin.ext (by show (y 0 : ℕ) = i.val; omega)
  rw [hp, e0]
  refine congrArg f ?_
  exact cols_eq xn W wo iw i d _ (by show off + (y 1 : ℕ) = wo + d.val; omega)

/-- The same for the tiles kept unrounded. -/
theorem wide_at {M : ℕ} (xn : Normed) (W : Vec Ideal (⟨3, ![1, 1024, M]⟩ : Shape) .bf16) (off : ℕ) (hM : off + 1024 ≤ M)
    (y : S256x1024.Idx) (co wo : ℕ) (hw : wo = off + co)
    (iw : ∀ a, (![0, 0, wo] : Fin 3 → ℕ) a + (![1, 1024, 256] : Fin 3 → ℕ) a ≤ (⟨3, ![1, 1024, M]⟩ : Shape).size a) :
    View.TileAt (Val := Elt Ideal) (S := S256x1024) (e := .f32) y ![0, co] ![256, 256]
      (k0_pay15 xn (View.ld W (Rect.unit ![0, 0, wo] ![1, 1024, 256] iw)))
      (gelu (prod (fun k => xn (ix2 (y 0) k)) (fun k l => W (ix3 0 k l)) ⟨off + (y 1).val, lt_of_lt_of_le (Nat.add_lt_add_left (y 1).isLt off) hM⟩)) := by
  intro (x : S256x256.Idx) hx
  obtain ⟨i, d, rfl⟩ : ∃ (i d : Fin 256), x = ix2 i d := ⟨x 0, x 1, eq_ix2 x⟩
  have h0 : (y 0 : ℕ) = 0 + i.val := hx 0
  have h1 : (y 1 : ℕ) = co + d.val := hx 1
  have e0 : y 0 = i := Fin.ext (by show (y 0 : ℕ) = i.val; omega)
  rw [geluWide_apply, e0]
  refine congrArg gelu ?_
  exact cols_eq xn W wo iw i d _ (by show off + (y 1 : ℕ) = wo + d.val; omega)

/-! ### The block of products to be convolved -/

/-- The product of row `i` of the block with the weights' column for channel `c`. -/
def chan (xn : Normed) (W : Vec Ideal S1x1024x5632 .bf16) (i : Fin 256) (c : Fin 1536) : EReal :=
  prod (fun k => xn (ix2 i k)) (fun k l => W (ix3 0 k l)) ⟨4096 + c.val, by omega⟩

/-- `f` holds, in its first eight rows and its first `n` columns, the rows `p` and behind them the rows `q`. -/
def Holds (p : Fin 8 → Fin 1536 → EReal) (q : Fin 256 → Fin 1536 → EReal) (f : Vec Ideal S264x1536 .f32) (n : ℕ) : Prop :=
  ∀ (j : Fin 264) (c : Fin 1536), (j.val < 8 ∨ c.val < n) → f (ix2 j c) = behind p q j c

variable (v : View sig .tc .vmem S264x1536 .f32) (f : v.ty.Contents (Elt Ideal))

/-- Storing the next 256 columns of products extends what is held. -/
theorem holds_step (xn : Normed) (W : Vec Ideal S1x1024x5632 .bf16) (p : Fin 8 → Fin 1536 → EReal)
    (L : List (View.Piece (Elt Ideal) S264x1536 .f32)) (co n wo : ℕ) (hn : n = co + 256) (hw : wo = 4096 + co)
    (iw : ∀ a, (![0, 0, wo] : Fin 3 → ℕ) a + (![1, 1024, 256] : Fin 3 → ℕ) a ≤ S1x1024x5632.size a)
    (ib : ∀ a, (![8, co] : Fin 2 → ℕ) a + (![256, 256] : Fin 2 → ℕ) a ≤ S264x1536.size a)
    (h : Holds p (chan xn W) (v.read (Elt Ideal) (v.writes (Elt Ideal) f L)) co) :
    Holds p (chan xn W) (v.read (Elt Ideal) (v.writes (Elt Ideal) f
      (⟨Rect.unit ![8, co] ![256, 256] ib, k0_pay30 (k0_pay29 xn (View.ld W (Rect.unit ![0, 0, wo] ![1, 1024, 256] iw)))⟩ :: L))) n := by
  intro j c hjc
  have hc := c.isLt
  have hj := j.isLt
  have hb : co + 256 ≤ 1536 := ib 1
  by_cases hin : 8 ≤ j.val ∧ co ≤ c.val ∧ c.val < co + 256
  · obtain ⟨h1, h2, h3⟩ := hin
    rw [View.read_writes_cons_unit_of_mem v f ib _ L (ix2 j c)
      (ix2 (⟨j.val - 8, by omega⟩ : Fin 256) (⟨c.val - co, by omega⟩ : Fin 256)) rfl (by
        intro a
        match a with
        | ⟨0, _⟩ => show j.val = 8 + (j.val - 8); omega
        | ⟨1, _⟩ => show c.val = co + (c.val - co); omega)]
    refine (raw_apply _ _ _ _).trans ?_
    unfold behind chan
    rw [dif_neg (by omega)]
    exact cols_eq xn W wo iw _ _ _ (by show 4096 + c.val = wo + (c.val - co); omega)
  · refine Eq.trans ?_ (h j c (by omega))
    by_cases h8 : j.val < 8
    · exact View.read_writes_cons_unit_of_not_mem v f ib _ L (ix2 j c) rfl 0 (Or.inl h8)
    · exact View.read_writes_cons_unit_of_not_mem v f ib _ L (ix2 j c) rfl 1 (by
        show c.val < co ∨ co + 256 ≤ c.val
        omega)

/-- At the start of a sequence the first eight rows are zero. -/
theorem holds_zero (q : Fin 256 → Fin 1536 → EReal) (L : List (View.Piece (Elt Ideal) S264x1536 .f32))
    (ib : ∀ a, (![0, 0] : Fin 2 → ℕ) a + (![8, 1536] : Fin 2 → ℕ) a ≤ S264x1536.size a) :
    Holds (fun _ _ => 0) q (v.read (Elt Ideal) (v.writes (Elt Ideal) f (⟨Rect.unit ![0, 0] ![8, 1536] ib, k0_pay2 (F := Ideal)⟩ :: L))) 0 := by
  intro j c hjc
  have h8 : j.val < 8 := by omega
  rw [View.read_writes_cons_unit_of_mem v f ib _ L (ix2 j c) (ix2 (⟨j.val, h8⟩ : Fin 8) c) rfl (by
    intro a
    match a with
    | ⟨0, _⟩ => show j.val = 0 + j.val; omega
    | ⟨1, _⟩ => show c.val = 0 + c.val; omega)]
  unfold behind
  rw [dif_pos h8]
  exact zero_apply _ _

/-- Within a sequence they are what the block before left. -/
theorem holds_carried (q : Fin 256 → Fin 1536 → EReal) (s : Vec Ideal S264x1536 .f32) (hs : v.read (Elt Ideal) f = s) :
    Holds (fun j c => s (ix2 ⟨j.val, by omega⟩ c)) q (v.read (Elt Ideal) (v.writes (Elt Ideal) f [])) 0 := by
  intro j c hjc
  have h8 : j.val < 8 := by omega
  rw [View.writes_nil, hs]
  unfold behind
  rw [dif_pos h8]

/-- A load of 256 rows from row `o` and the columns from `co`. -/
theorem holds_ld (p : Fin 8 → Fin 1536 → EReal) (q : Fin 256 → Fin 1536 → EReal) (s : Vec Ideal S264x1536 .f32) (o co n : ℕ)
    (ib : ∀ a, (![o, co] : Fin 2 → ℕ) a + (![256, 256] : Fin 2 → ℕ) a ≤ S264x1536.size a) (hn : n = co + 256) (h : Holds p q s n)
    (i d : Fin 256) (j : Fin 264) (c : Fin 1536) (hj : j.val = o + i.val) (hc : c.val = co + d.val) :
    (View.ld s (Rect.unit ![o, co] ![256, 256] ib) : Vec Ideal S256x256 .f32) (ix2 i d) = behind p q j c := by
  refine Eq.trans ?_ (h j c (Or.inr (by have := d.isLt; omega)))
  exact at2 s (by show o + 1 * i.val = j.val; omega) (by show co + 1 * d.val = c.val; omega)

/-- The convolution of the block, at one row and channel. -/
def convAt (xn : Normed) (W : Vec Ideal S1x1024x5632 .bf16) (p : Fin 8 → Fin 1536 → EReal) (cw : Vec Ideal S4x1536 .f32)
    (cb : Vec Ideal S1x1536 .f32) (i : Fin 256) (c : Fin 1536) : EReal :=
  conv (fun t => cw (ix2 t c)) (cb (ix2 0 c)) (behind p (chan xn W) ⟨5 + i.val, by omega⟩ c) (behind p (chan xn W) ⟨6 + i.val, by omega⟩ c)
    (behind p (chan xn W) ⟨7 + i.val, by omega⟩ c) (chan xn W i c)

/-- A stored tile of the convolution, the three shifted loads given. -/
theorem conv_at (xn : Normed) (W : Vec Ideal S1x1024x5632 .bf16) (p : Fin 8 → Fin 1536 → EReal) (cw : Vec Ideal S4x1536 .f32)
    (cb : Vec Ideal S1x1536 .f32) (y : S256x1536.Idx) (co wo : ℕ) (hw : wo = 4096 + co)
    (iw : ∀ a, (![0, 0, wo] : Fin 3 → ℕ) a + (![1, 1024, 256] : Fin 3 → ℕ) a ≤ S1x1024x5632.size a)
    (ib : ∀ a, (![0, co] : Fin 2 → ℕ) a + (![1, 256] : Fin 2 → ℕ) a ≤ S1x1536.size a)
    (i0 : ∀ a, (![0, co] : Fin 2 → ℕ) a + (![1, 256] : Fin 2 → ℕ) a ≤ S4x1536.size a)
    (i1 : ∀ a, (![1, co] : Fin 2 → ℕ) a + (![1, 256] : Fin 2 → ℕ) a ≤ S4x1536.size a)
    (i2 : ∀ a, (![2, co] : Fin 2 → ℕ) a + (![1, 256] : Fin 2 → ℕ) a ≤ S4x1536.size a)
    (i3 : ∀ a, (![3, co] : Fin 2 → ℕ) a + (![1, 256] : Fin 2 → ℕ) a ≤ S4x1536.size a)
    (z3 z2 z1 : Vec Ideal S264x1536 .f32)
    (b3 : ∀ a, (![5, co] : Fin 2 → ℕ) a + (![256, 256] : Fin 2 → ℕ) a ≤ S264x1536.size a)
    (b2 : ∀ a, (![6, co] : Fin 2 → ℕ) a + (![256, 256] : Fin 2 → ℕ) a ≤ S264x1536.size a)
    (b1 : ∀ a, (![7, co] : Fin 2 → ℕ) a + (![256, 256] : Fin 2 → ℕ) a ≤ S264x1536.size a)
    (e3 : Holds p (chan xn W) z3 (co + 256)) (e2 : Holds p (chan xn W) z2 (co + 256)) (e1 : Holds p (chan xn W) z1 (co + 256)) :
    View.TileAt (Val := Elt Ideal) (S := S256x1536) (e := .bf16) y ![0, co] ![256, 256]
      (k0_pay31 (k0_pay29 xn (View.ld W (Rect.unit ![0, 0, wo] ![1, 1024, 256] iw))) (View.ld cb (Rect.unit ![0, co] ![1, 256] ib))
        (View.ld cw (Rect.unit ![3, co] ![1, 256] i3)) (View.ld cw (Rect.unit ![0, co] ![1, 256] i0)) (View.ld z3 (Rect.unit ![5, co] ![256, 256] b3))
        (View.ld cw (Rect.unit ![1, co] ![1, 256] i1)) (View.ld z2 (Rect.unit ![6, co] ![256, 256] b2))
        (View.ld cw (Rect.unit ![2, co] ![1, 256] i2)) (View.ld z1 (Rect.unit ![7, co] ![256, 256] b1)))
      (convAt xn W p cw cb (y 0) (y 1)) := by
  intro (x : S256x256.Idx) hx
  obtain ⟨i, d, rfl⟩ : ∃ (i d : Fin 256), x = ix2 i d := ⟨x 0, x 1, eq_ix2 x⟩
  have h0 : (y 0 : ℕ) = 0 + i.val := hx 0
  have h1 : (y 1 : ℕ) = co + d.val := hx 1
  obtain ⟨r, c, rfl⟩ : ∃ (r : Fin 256) (c : Fin 1536), y = ix2 r c := ⟨y 0, y 1, eq_ix2 y⟩
  obtain rfl : r = i := Fin.ext (by have h : r.val = 0 + i.val := h0; omega)
  replace h1 : c.val = co + d.val := h1
  refine (conv_apply _ _ _ _ _ _ _ _ _ _ r d).trans ?_
  show _ = convAt xn W p cw cb r c
  rw [cols_eq xn W wo iw r d ⟨4096 + c.val, by omega⟩ (by show 4096 + c.val = wo + d.val; omega),
    holds_ld p _ z3 5 co _ b3 rfl e3 r d ⟨5 + r.val, by omega⟩ c rfl h1,
    holds_ld p _ z2 6 co _ b2 rfl e2 r d ⟨6 + r.val, by omega⟩ c rfl h1,
    holds_ld p _ z1 7 co _ b1 rfl e1 r d ⟨7 + r.val, by omega⟩ c rfl h1]
  have hcw : ∀ (t : Fin 4) (it : ∀ a, (![t.val, co] : Fin 2 → ℕ) a + (![1, 256] : Fin 2 → ℕ) a ≤ S4x1536.size a),
      (View.ld cw (Rect.unit ![t.val, co] ![1, 256] it) : Vec Ideal S1x256 .f32) (ix2 0 d) = cw (ix2 t c) := fun t it =>
    at2 cw (by show t.val + 1 * 0 = t.val; omega) (by show co + 1 * d.val = c.val; omega)
  have hcb : (View.ld cb (Rect.unit ![0, co] ![1, 256] ib) : Vec Ideal S1x256 .f32) (ix2 0 d) = cb (ix2 0 c) :=
    at2 cb (by show 0 + 1 * 0 = 0; omega) (by show co + 1 * d.val = c.val; omega)
  have t0 := hcw 0 i0
  have t1 := hcw 1 i1
  have t2 := hcw 2 i2
  have t3 := hcw 3 i3
  rw [hcb]
  unfold convAt conv
  congr 1
  congr 1
  · congr 1
    · congr 1
      · congr 1
        congr 1
      · congr 1
    · congr 1
  · congr 1

end Cert.Proof.Inproj

end
-- ==== Proof.Inproj.PointA.lean ====
/-
  What the body leaves in its nine output blocks at the first block of a sequence, where the rows before are zero.
-/
module

public import proofs.«01_k».proof.Proof.Inproj.Tile

@[expose] public section

noncomputable section

namespace Cert.Proof.Inproj

open Idealize.ShloMosaic Idealize.ShloMosaic.TcCoe Cert.InprojIdeal Cert.InprojIdeal.Gen
open Cert.Proof.Ffn (off2 readCov_cons)
open Cert.Proof.Merge (off3)
open scoped BigOperators

variable (c : Dev nD) (i : grid0.Coords)
  (a1 : Memref sig .tc .vmem S256x1024 .f32) (h1 : a1.IsWhole)
  (a2 : Memref sig .tc .vmem S1x1024 .f32) (h2 : a2.IsWhole)
  (a3 : Memref sig .tc .vmem S1x1024x5632 .bf16) (h3 : a3.IsWhole)
  (a4 : Memref sig .tc .vmem S1x1024x128 .bf16) (h4 : a4.IsWhole)
  (a5 : Memref sig .tc .vmem S1x1024x5120 .bf16) (h5 : a5.IsWhole)
  (a6 : Memref sig .tc .vmem S4x1536 .f32) (h6 : a6.IsWhole)
  (a7 : Memref sig .tc .vmem S1x1536 .f32) (h7 : a7.IsWhole)
  (a8 : Memref sig .tc .vmem S1x1024 .f32) (h8 : a8.IsWhole)
  (a9 : Memref sig .tc .vmem S1x1024 .f32) (h9 : a9.IsWhole)
  (a10 : Memref sig .tc .vmem S256x1024 .bf16) (h10 : a10.IsWhole)
  (a11 : Memref sig .tc .vmem S256x1024 .bf16) (h11 : a11.IsWhole)
  (a12 : Memref sig .tc .vmem S256x1024 .bf16) (h12 : a12.IsWhole)
  (a13 : Memref sig .tc .vmem S256x1024 .bf16) (h13 : a13.IsWhole)
  (a14 : Memref sig .tc .vmem S256x1536 .bf16) (h14 : a14.IsWhole)
  (a15 : Memref sig .tc .vmem S256x128 .f32) (h15 : a15.IsWhole)
  (a16 : Memref sig .tc .vmem S256x1024 .bf16) (h16 : a16.IsWhole)
  (a17 : Memref sig .tc .vmem S256x1024 .bf16) (h17 : a17.IsWhole)
  (a18 : Memref sig .tc .vmem S256x3072 .bf16) (h18 : a18.IsWhole)
  (a19 : Memref sig .tc .vmem S264x1536 .f32) (h19 : a19.IsWhole)
  (a20 : Memref sig .tc .vmem S256x1024 .f32) (h20 : a20.IsWhole)
  (a21 : Memref sig .tc .vmem S256x1024 .bf16) (h21 : a21.IsWhole)
  (hA : cond0_0 i)
  (x0 : Vec Ideal S256x1024 .f32) (x1 : Vec Ideal S1x1024 .f32) (x2 : Vec Ideal S1x1024x5632 .bf16) (x3 : Vec Ideal S1x1024x128 .bf16) (x4 : Vec Ideal S1x1024x5120 .bf16) (x5 : Vec Ideal S4x1536 .f32) (x6 : Vec Ideal S1x1536 .f32) (x7 : Vec Ideal S1x1024 .f32) (x8 : Vec Ideal S1x1024 .f32)

/-- The queries. -/
theorem q_A (r : Fin 256) (l : Fin 1024) :
    out0_A_9 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8 (ix2 r l)
      = scaled (prod (fun k => k0_pay3 x0 x1 (ix2 r k)) (fun k l => x2 (ix3 0 k l)) ⟨0 + l.val, by omega⟩) := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8)]
  unfold kernelRun0_A
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  refine View.canon_eq_of_allAt _ _ _ (View.cover_of_tiled_head _ _ _ (by rfl) _) ?_
  iterate 4 refine View.allAt_cons_unit _ _ _ _ _ (col_at scaled k0_pay6 scaled_apply (k0_pay3 x0 x1) x2 0 (by omega) (ix2 r l) _ _ (by decide) _) ?_
  exact View.allAt_nil _ _

/-- The keys. -/
theorem k_A (r : Fin 256) (l : Fin 1024) :
    out0_A_10 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8 (ix2 r l)
      = kept (prod (fun k => k0_pay3 x0 x1 (ix2 r k)) (fun k l => x2 (ix3 0 k l)) ⟨1024 + l.val, by omega⟩) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8)]
  unfold kernelRun0_A
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  refine View.canon_eq_of_allAt _ _ _ (View.cover_of_tiled_head _ _ _ (by rfl) _) ?_
  iterate 4 refine View.allAt_cons_unit _ _ _ _ _ (col_at kept k0_pay23 plain_apply (k0_pay3 x0 x1) x2 1024 (by omega) (ix2 r l) _ _ (by decide) _) ?_
  exact View.allAt_nil _ _

/-- The values. -/
theorem v_A (r : Fin 256) (l : Fin 1024) :
    out0_A_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8 (ix2 r l)
      = kept (prod (fun k => k0_pay3 x0 x1 (ix2 r k)) (fun k l => x2 (ix3 0 k l)) ⟨2048 + l.val, by omega⟩) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8)]
  unfold kernelRun0_A
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  refine View.canon_eq_of_allAt _ _ _ (View.cover_of_tiled_head _ _ _ (by rfl) _) ?_
  iterate 4 refine View.allAt_cons_unit _ _ _ _ _ (col_at kept k0_pay23 plain_apply (k0_pay3 x0 x1) x2 2048 (by omega) (ix2 r l) _ _ (by decide) _) ?_
  exact View.allAt_nil _ _

/-- The gates of the recurrence. -/
theorem z_A (r : Fin 256) (l : Fin 1024) :
    out0_A_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8 (ix2 r l)
      = swish (prod (fun k => k0_pay3 x0 x1 (ix2 r k)) (fun k l => x2 (ix3 0 k l)) ⟨3072 + l.val, by omega⟩) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8)]
  unfold kernelRun0_A
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  refine View.canon_eq_of_allAt _ _ _ (View.cover_of_tiled_head _ _ _ (by rfl) _) ?_
  iterate 4 refine View.allAt_cons_unit _ _ _ _ _ (col_at swish k0_pay61 swish_apply (k0_pay3 x0 x1) x2 3072 (by omega) (ix2 r l) _ _ (by decide) _) ?_
  exact View.allAt_nil _ _

/-- The first half of the pair. -/
theorem u_A (r : Fin 256) (l : Fin 1024) :
    out0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8 (ix2 r l)
      = gelu (prod (fun k => k0_pay3 x0 x1 (ix2 r k)) (fun k l => x4 (ix3 0 k l)) ⟨0 + l.val, by omega⟩) := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8)]
  unfold kernelRun0_A
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  refine View.canon_eq_of_allAt _ _ _ (View.cover_of_tiled_head _ _ _ (by rfl) _) ?_
  iterate 4 refine View.allAt_cons_unit _ _ _ _ _ (col_at gelu k0_pay55 gelu_apply (k0_pay3 x0 x1) x4 0 (by omega) (ix2 r l) _ _ (by decide) _) ?_
  exact View.allAt_nil _ _

/-- The gates of the branches. -/
theorem gate_A (r : Fin 256) (l : Fin 3072) :
    out0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8 (ix2 r l)
      = sigm (prod (fun k => k0_pay3 x0 x1 (ix2 r k)) (fun k l => x4 (ix3 0 k l)) ⟨2048 + l.val, by omega⟩) := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8)]
  unfold kernelRun0_A
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  refine View.canon_eq_of_allAt _ _ _ (View.cover_of_tiled_head _ _ _ (by rfl) _) ?_
  iterate 12 refine View.allAt_cons_unit _ _ _ _ _ (col_at sigm k0_pay60 sigm_apply (k0_pay3 x0 x1) x4 2048 (by omega) (ix2 r l) _ _ (by decide) _) ?_
  exact View.allAt_nil _ _

/-- The time steps. -/
theorem dt_A (r : Fin 256) (l : Fin 128) :
    out0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8 (ix2 r l)
      = prod (fun k => k0_pay3 x0 x1 (ix2 r k)) (fun k l => x3 (ix3 0 k l)) l := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8)]
  unfold kernelRun0_A
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  exact narrow_apply _ _ r l

/-- The normed second half of the pair. -/
theorem vn_A (r : Fin 256) (l : Fin 1024) :
    out0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8 (ix2 r l)
      = layerNorm (fun k => x7 (ix2 0 k)) (fun k => x8 (ix2 0 k))
          (fun c => gelu (prod (fun k => k0_pay3 x0 x1 (ix2 r k)) (fun k l => x4 (ix3 0 k l)) ⟨1024 + c.val, by omega⟩)) l := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8)]
  unfold kernelRun0_A
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  refine (norm_apply _ _ _ r l).trans ?_
  refine congrArg (fun v => layerNorm (fun k => x7 (ix2 0 k)) (fun k => x8 (ix2 0 k)) v l) (funext fun c => ?_)
  rw [View.readCov_eq_canon_ld _ _ _ (View.cover_of_tiled_head _ _ _ (by rfl)), View.ld_unit_zero (S := S256x1024) off2]
  refine View.canon_eq_of_allAt _ _ _ (View.cover_of_tiled_head _ _ _ (by rfl) _) ?_
  iterate 4 refine View.allAt_cons_unit _ _ _ _ _ (wide_at (k0_pay3 x0 x1) x4 1024 (by omega) (ix2 r c) _ _ (by decide) _) ?_
  exact View.allAt_nil _ _

/-- The convolved channels. -/
theorem xbc_A (r : Fin 256) (l : Fin 1536) :
    out0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8 (ix2 r l)
      = convAt (k0_pay3 x0 x1) x2 (fun _ _ => 0) x5 x6 r l := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8)]
  unfold kernelRun0_A
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  simp only [View.readCov, View.readAt_eq_ld, raw0, raw1, raw3, raw4, raw5, conv0, conv1, conv3, conv4, conv5]
  refine View.canon_eq_of_allAt _ _ _ (View.cover_of_tiled_head _ _ _ (by rfl) _) ?_
  refine View.allAt_cons_unit _ _ _ _ _ ?_ ?_
  · refine conv_at (k0_pay3 x0 x1) x2 (fun _ _ => 0) x5 x6 (ix2 r l) _ _ ?_ _ _ _ _ _ _ _ _ _ _ _ _ ?_ ?_ ?_
    · rfl
    all_goals
      iterate 6 refine holds_step a19.view _ (k0_pay3 x0 x1) x2 _ _ _ _ _ rfl rfl _ _ ?_
      exact holds_zero a19.view _ _ _ _
  refine View.allAt_cons_unit _ _ _ _ _ ?_ ?_
  · refine conv_at (k0_pay3 x0 x1) x2 (fun _ _ => 0) x5 x6 (ix2 r l) _ _ ?_ _ _ _ _ _ _ _ _ _ _ _ _ ?_ ?_ ?_
    · rfl
    all_goals
      iterate 5 refine holds_step a19.view _ (k0_pay3 x0 x1) x2 _ _ _ _ _ rfl rfl _ _ ?_
      exact holds_zero a19.view _ _ _ _
  refine View.allAt_cons_unit _ _ _ _ _ ?_ ?_
  · refine conv_at (k0_pay3 x0 x1) x2 (fun _ _ => 0) x5 x6 (ix2 r l) _ _ ?_ _ _ _ _ _ _ _ _ _ _ _ _ ?_ ?_ ?_
    · rfl
    all_goals
      iterate 4 refine holds_step a19.view _ (k0_pay3 x0 x1) x2 _ _ _ _ _ rfl rfl _ _ ?_
      exact holds_zero a19.view _ _ _ _
  refine View.allAt_cons_unit _ _ _ _ _ ?_ ?_
  · refine conv_at (k0_pay3 x0 x1) x2 (fun _ _ => 0) x5 x6 (ix2 r l) _ _ ?_ _ _ _ _ _ _ _ _ _ _ _ _ ?_ ?_ ?_
    · rfl
    all_goals
      iterate 3 refine holds_step a19.view _ (k0_pay3 x0 x1) x2 _ _ _ _ _ rfl rfl _ _ ?_
      exact holds_zero a19.view _ _ _ _
  refine View.allAt_cons_unit _ _ _ _ _ ?_ ?_
  · refine conv_at (k0_pay3 x0 x1) x2 (fun _ _ => 0) x5 x6 (ix2 r l) _ _ ?_ _ _ _ _ _ _ _ _ _ _ _ _ ?_ ?_ ?_
    · rfl
    all_goals
      iterate 2 refine holds_step a19.view _ (k0_pay3 x0 x1) x2 _ _ _ _ _ rfl rfl _ _ ?_
      exact holds_zero a19.view _ _ _ _
  refine View.allAt_cons_unit _ _ _ _ _ ?_ ?_
  · refine conv_at (k0_pay3 x0 x1) x2 (fun _ _ => 0) x5 x6 (ix2 r l) _ _ ?_ _ _ _ _ _ _ _ _ _ _ _ _ ?_ ?_ ?_
    · rfl
    all_goals
      iterate 1 refine holds_step a19.view _ (k0_pay3 x0 x1) x2 _ _ _ _ _ rfl rfl _ _ ?_
      exact holds_zero a19.view _ _ _ _
  exact View.allAt_nil _ _

/-- The last eight products of the block, at the head of the carried rows. -/
theorem carry_A (j : Fin 8) (l : Fin 1536) :
    sout0_A_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hA x0 x1 x2 x3 x4 x5 x6 x7 x8 (ix2 (⟨j.val, by omega⟩ : Fin 264) l)
      = chan (k0_pay3 x0 x1) x2 ⟨248 + j.val, by omega⟩ l := by
  unfold sout0_A_0
  unfold kernelRun0_A
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  simp only [View.readCov, View.readAt_eq_ld, last_apply, raw0, raw1, raw3, raw4, raw5]
  refine (View.read_writes_cons_unit_of_mem _ _ _ _ _ _ (ix2 j l) rfl (by
    intro a
    match a with
    | ⟨0, _⟩ => show j.val = 0 + j.val; omega
    | ⟨1, _⟩ => show l.val = 0 + l.val; omega)).trans ?_
  refine (at2 (View.read (Elt Ideal) a19.view _) (a := (⟨256 + j.val, by omega⟩ : Fin 264)) (b := l)
    (by show 256 + 1 * j.val = 256 + j.val; omega) (by show 0 + 1 * l.val = l.val; omega)).trans ?_
  have hold : ∀ p s, Holds p (chan (k0_pay3 x0 x1) x2) s 1536 →
      s (ix2 (⟨256 + j.val, by omega⟩ : Fin 264) l) = chan (k0_pay3 x0 x1) x2 ⟨248 + j.val, by omega⟩ l := by
    intro p s h
    rw [h _ l (Or.inr l.isLt)]
    unfold behind
    rw [dif_neg (by show ¬ 256 + j.val < 8; omega)]
    congr 1
    exact Fin.ext (by show 256 + j.val - 8 = 248 + j.val; omega)
  refine hold (fun _ _ => 0) _ ?_
  iterate 6 refine holds_step a19.view _ (k0_pay3 x0 x1) x2 _ _ _ _ _ rfl rfl _ _ ?_
  exact holds_zero a19.view _ _ _ _

end Cert.Proof.Inproj

end
-- ==== Proof.Inproj.PointB.lean ====
/-
  What the body leaves in its nine output blocks at a later block of a sequence, where the rows before are carried over.
-/
module

public import proofs.«01_k».proof.Proof.Inproj.Tile

@[expose] public section

noncomputable section

namespace Cert.Proof.Inproj

open Idealize.ShloMosaic Idealize.ShloMosaic.TcCoe Cert.InprojIdeal Cert.InprojIdeal.Gen
open Cert.Proof.Ffn (off2 readCov_cons)
open Cert.Proof.Merge (off3)
open scoped BigOperators

variable (c : Dev nD) (i : grid0.Coords)
  (a1 : Memref sig .tc .vmem S256x1024 .f32) (h1 : a1.IsWhole)
  (a2 : Memref sig .tc .vmem S1x1024 .f32) (h2 : a2.IsWhole)
  (a3 : Memref sig .tc .vmem S1x1024x5632 .bf16) (h3 : a3.IsWhole)
  (a4 : Memref sig .tc .vmem S1x1024x128 .bf16) (h4 : a4.IsWhole)
  (a5 : Memref sig .tc .vmem S1x1024x5120 .bf16) (h5 : a5.IsWhole)
  (a6 : Memref sig .tc .vmem S4x1536 .f32) (h6 : a6.IsWhole)
  (a7 : Memref sig .tc .vmem S1x1536 .f32) (h7 : a7.IsWhole)
  (a8 : Memref sig .tc .vmem S1x1024 .f32) (h8 : a8.IsWhole)
  (a9 : Memref sig .tc .vmem S1x1024 .f32) (h9 : a9.IsWhole)
  (a10 : Memref sig .tc .vmem S256x1024 .bf16) (h10 : a10.IsWhole)
  (a11 : Memref sig .tc .vmem S256x1024 .bf16) (h11 : a11.IsWhole)
  (a12 : Memref sig .tc .vmem S256x1024 .bf16) (h12 : a12.IsWhole)
  (a13 : Memref sig .tc .vmem S256x1024 .bf16) (h13 : a13.IsWhole)
  (a14 : Memref sig .tc .vmem S256x1536 .bf16) (h14 : a14.IsWhole)
  (a15 : Memref sig .tc .vmem S256x128 .f32) (h15 : a15.IsWhole)
  (a16 : Memref sig .tc .vmem S256x1024 .bf16) (h16 : a16.IsWhole)
  (a17 : Memref sig .tc .vmem S256x1024 .bf16) (h17 : a17.IsWhole)
  (a18 : Memref sig .tc .vmem S256x3072 .bf16) (h18 : a18.IsWhole)
  (a19 : Memref sig .tc .vmem S264x1536 .f32) (h19 : a19.IsWhole)
  (a20 : Memref sig .tc .vmem S256x1024 .f32) (h20 : a20.IsWhole)
  (a21 : Memref sig .tc .vmem S256x1024 .bf16) (h21 : a21.IsWhole)
  (hB : ¬cond0_0 i)
  (x0 : Vec Ideal S256x1024 .f32) (x1 : Vec Ideal S1x1024 .f32) (x2 : Vec Ideal S1x1024x5632 .bf16) (x3 : Vec Ideal S1x1024x128 .bf16) (x4 : Vec Ideal S1x1024x5120 .bf16) (x5 : Vec Ideal S4x1536 .f32) (x6 : Vec Ideal S1x1536 .f32) (x7 : Vec Ideal S1x1024 .f32) (x8 : Vec Ideal S1x1024 .f32) (xs0 : Vec Ideal S264x1536 .f32)

/-- The queries. -/
theorem q_B (r : Fin 256) (l : Fin 1024) :
    out0_B_9 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0 (ix2 r l)
      = scaled (prod (fun k => k0_pay3 x0 x1 (ix2 r k)) (fun k l => x2 (ix3 0 k l)) ⟨0 + l.val, by omega⟩) := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0)]
  unfold kernelRun0_B
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  refine View.canon_eq_of_allAt _ _ _ (View.cover_of_tiled_head _ _ _ (by rfl) _) ?_
  iterate 4 refine View.allAt_cons_unit _ _ _ _ _ (col_at scaled k0_pay6 scaled_apply (k0_pay3 x0 x1) x2 0 (by omega) (ix2 r l) _ _ (by decide) _) ?_
  exact View.allAt_nil _ _

/-- The keys. -/
theorem k_B (r : Fin 256) (l : Fin 1024) :
    out0_B_10 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0 (ix2 r l)
      = kept (prod (fun k => k0_pay3 x0 x1 (ix2 r k)) (fun k l => x2 (ix3 0 k l)) ⟨1024 + l.val, by omega⟩) := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0)]
  unfold kernelRun0_B
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  refine View.canon_eq_of_allAt _ _ _ (View.cover_of_tiled_head _ _ _ (by rfl) _) ?_
  iterate 4 refine View.allAt_cons_unit _ _ _ _ _ (col_at kept k0_pay23 plain_apply (k0_pay3 x0 x1) x2 1024 (by omega) (ix2 r l) _ _ (by decide) _) ?_
  exact View.allAt_nil _ _

/-- The values. -/
theorem v_B (r : Fin 256) (l : Fin 1024) :
    out0_B_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0 (ix2 r l)
      = kept (prod (fun k => k0_pay3 x0 x1 (ix2 r k)) (fun k l => x2 (ix3 0 k l)) ⟨2048 + l.val, by omega⟩) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0)]
  unfold kernelRun0_B
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  refine View.canon_eq_of_allAt _ _ _ (View.cover_of_tiled_head _ _ _ (by rfl) _) ?_
  iterate 4 refine View.allAt_cons_unit _ _ _ _ _ (col_at kept k0_pay23 plain_apply (k0_pay3 x0 x1) x2 2048 (by omega) (ix2 r l) _ _ (by decide) _) ?_
  exact View.allAt_nil _ _

/-- The gates of the recurrence. -/
theorem z_B (r : Fin 256) (l : Fin 1024) :
    out0_B_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0 (ix2 r l)
      = swish (prod (fun k => k0_pay3 x0 x1 (ix2 r k)) (fun k l => x2 (ix3 0 k l)) ⟨3072 + l.val, by omega⟩) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0)]
  unfold kernelRun0_B
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  refine View.canon_eq_of_allAt _ _ _ (View.cover_of_tiled_head _ _ _ (by rfl) _) ?_
  iterate 4 refine View.allAt_cons_unit _ _ _ _ _ (col_at swish k0_pay61 swish_apply (k0_pay3 x0 x1) x2 3072 (by omega) (ix2 r l) _ _ (by decide) _) ?_
  exact View.allAt_nil _ _

/-- The first half of the pair. -/
theorem u_B (r : Fin 256) (l : Fin 1024) :
    out0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0 (ix2 r l)
      = gelu (prod (fun k => k0_pay3 x0 x1 (ix2 r k)) (fun k l => x4 (ix3 0 k l)) ⟨0 + l.val, by omega⟩) := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0)]
  unfold kernelRun0_B
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  refine View.canon_eq_of_allAt _ _ _ (View.cover_of_tiled_head _ _ _ (by rfl) _) ?_
  iterate 4 refine View.allAt_cons_unit _ _ _ _ _ (col_at gelu k0_pay55 gelu_apply (k0_pay3 x0 x1) x4 0 (by omega) (ix2 r l) _ _ (by decide) _) ?_
  exact View.allAt_nil _ _

/-- The gates of the branches. -/
theorem gate_B (r : Fin 256) (l : Fin 3072) :
    out0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0 (ix2 r l)
      = sigm (prod (fun k => k0_pay3 x0 x1 (ix2 r k)) (fun k l => x4 (ix3 0 k l)) ⟨2048 + l.val, by omega⟩) := by
  unfold out0_B_17
  rw [View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0)]
  unfold kernelRun0_B
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  refine View.canon_eq_of_allAt _ _ _ (View.cover_of_tiled_head _ _ _ (by rfl) _) ?_
  iterate 12 refine View.allAt_cons_unit _ _ _ _ _ (col_at sigm k0_pay60 sigm_apply (k0_pay3 x0 x1) x4 2048 (by omega) (ix2 r l) _ _ (by decide) _) ?_
  exact View.allAt_nil _ _

/-- The time steps. -/
theorem dt_B (r : Fin 256) (l : Fin 128) :
    out0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0 (ix2 r l)
      = prod (fun k => k0_pay3 x0 x1 (ix2 r k)) (fun k l => x3 (ix3 0 k l)) l := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0)]
  unfold kernelRun0_B
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  exact narrow_apply _ _ r l

/-- The normed second half of the pair. -/
theorem vn_B (r : Fin 256) (l : Fin 1024) :
    out0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0 (ix2 r l)
      = layerNorm (fun k => x7 (ix2 0 k)) (fun k => x8 (ix2 0 k))
          (fun c => gelu (prod (fun k => k0_pay3 x0 x1 (ix2 r k)) (fun k l => x4 (ix3 0 k l)) ⟨1024 + c.val, by omega⟩)) l := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0)]
  unfold kernelRun0_B
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  refine (norm_apply _ _ _ r l).trans ?_
  refine congrArg (fun v => layerNorm (fun k => x7 (ix2 0 k)) (fun k => x8 (ix2 0 k)) v l) (funext fun c => ?_)
  rw [View.readCov_eq_canon_ld _ _ _ (View.cover_of_tiled_head _ _ _ (by rfl)), View.ld_unit_zero (S := S256x1024) off2]
  refine View.canon_eq_of_allAt _ _ _ (View.cover_of_tiled_head _ _ _ (by rfl) _) ?_
  iterate 4 refine View.allAt_cons_unit _ _ _ _ _ (wide_at (k0_pay3 x0 x1) x4 1024 (by omega) (ix2 r c) _ _ (by decide) _) ?_
  exact View.allAt_nil _ _

/-- The convolved channels. -/
theorem xbc_B (r : Fin 256) (l : Fin 1536) :
    out0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0 (ix2 r l)
      = convAt (k0_pay3 x0 x1) x2 (fun j c => xs0 (ix2 ⟨j.val, by omega⟩ c)) x5 x6 r l := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0)]
  unfold kernelRun0_B
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  simp only [raw0, raw1, raw3, raw4, raw5, conv0, conv1, conv3, conv4, conv5]
  refine View.canon_eq_of_allAt _ _ _ (View.cover_of_tiled_head _ _ _ (by rfl) _) ?_
  iterate 6
    refine View.allAt_cons_unit _ _ _ _ _ ?_ ?_
    · refine conv_at (k0_pay3 x0 x1) x2 (fun j c => xs0 (ix2 ⟨j.val, by omega⟩ c)) x5 x6 (ix2 r l) _ _ ?_ _ _ _ _ _ _ _ _ _ _ _ _ ?_ ?_ ?_
      · rfl
      all_goals
        repeat refine holds_step a19.view _ (k0_pay3 x0 x1) x2 (fun j c => xs0 (ix2 ⟨j.val, by omega⟩ c)) _ _ _ _ rfl rfl _ _ ?_
        exact holds_carried a19.view _ _ xs0 (h19.read_unread xs0)
  exact View.allAt_nil _ _

/-- The last eight products of the block, at the head of the carried rows. -/
theorem carry_B (j : Fin 8) (l : Fin 1536) :
    sout0_B_0 c i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 hB x0 x1 x2 x3 x4 x5 x6 x7 x8 xs0 (ix2 (⟨j.val, by omega⟩ : Fin 264) l)
      = chan (k0_pay3 x0 x1) x2 ⟨248 + j.val, by omega⟩ l := by
  unfold sout0_B_0
  unfold kernelRun0_B
  dsimp only
  sl_unfold_words
  simp only [View.readAt_eq_ld, h1.read_unread, h2.read_unread, h3.read_unread, h4.read_unread, h5.read_unread, h6.read_unread,
    h7.read_unread, h8.read_unread, h9.read_unread, readCov_cons (S := S256x1024) _ off2,
    View.canon_unit_zero (S := S256x1024) off2, View.canon_unit_zero (S := S256x128) off2, View.ld_unit_zero (S := S256x1024) off2,
    View.ld_unit_zero (S := S1x1024) off2, View.ld_unit_zero (S := S1x1024x128) off3]
  simp only [View.readCov, View.readAt_eq_ld, last_apply, raw0, raw1, raw3, raw4, raw5]
  refine (View.read_writes_cons_unit_of_mem _ _ _ _ _ _ (ix2 j l) rfl (by
    intro a
    match a with
    | ⟨0, _⟩ => show j.val = 0 + j.val; omega
    | ⟨1, _⟩ => show l.val = 0 + l.val; omega)).trans ?_
  refine (at2 (View.read (Elt Ideal) a19.view _) (a := (⟨256 + j.val, by omega⟩ : Fin 264)) (b := l)
    (by show 256 + 1 * j.val = 256 + j.val; omega) (by show 0 + 1 * l.val = l.val; omega)).trans ?_
  have hold : ∀ p s, Holds p (chan (k0_pay3 x0 x1) x2) s 1536 →
      s (ix2 (⟨256 + j.val, by omega⟩ : Fin 264) l) = chan (k0_pay3 x0 x1) x2 ⟨248 + j.val, by omega⟩ l := by
    intro p s h
    rw [h _ l (Or.inr l.isLt)]
    unfold behind
    rw [dif_neg (by show ¬ 256 + j.val < 8; omega)]
    congr 1
    exact Fin.ext (by show 256 + j.val - 8 = 248 + j.val; omega)
  refine hold (fun j c => View.read (Elt Ideal) a19.view a19.view.junk (ix2 ⟨j.val, by omega⟩ c)) _ ?_
  iterate 6 refine holds_step a19.view _ (k0_pay3 x0 x1) x2 _ _ _ _ _ rfl rfl _ _ ?_
  exact holds_carried a19.view _ _ _ rfl

end Cert.Proof.Inproj

end
-- ==== Proof.Inproj.Kernel.lean ====
/-
  The input projection's nine result arrays: every row is a function of the normalized row, and of the three rows before
  it where the convolution takes them.
-/
module

public import proofs.«01_k».proof.Proof.Blocks
public import proofs.«01_k».proof.Proof.Inproj.PointA
public import proofs.«01_k».proof.Proof.Inproj.PointB
public import proofs.«01_k».proof.Proof.Gen.InprojIdeal.Value

@[expose] public section

noncomputable section

namespace Cert.Proof.Inproj

open Idealize.ShloMosaic Idealize.ShloMosaic.TcCoe Cert.InprojIdeal Cert.InprojIdeal.Gen
open Idealize.SL.Sem Idealize.ShloMosaic.StableHlo
open scoped BigOperators

/-! ### The results as functions of the argument arrays -/

section

variable (h : FVec Ideal S32768x1024 .f32) (g : FVec Ideal S1024 .f32) (wa : FVec Ideal S2x1024x5632 .bf16) (wd : FVec Ideal S2x1024x128 .bf16)
  (wb : FVec Ideal S2x1024x5120 .bf16) (cw : FVec Ideal S4x1536 .f32) (cb : FVec Ideal S1536 .f32) (lg lb : FVec Ideal S1024 .f32)

/-- A row, normalized. -/
def normRow (r : Fin 32768) : Fin 1024 → EReal := rms (fun k => g (ix1 k)) (fun k => h (ix2 r k))

/-- A row's product with a column of the first weights. -/
def prodA (r : Fin 32768) (l : Fin 5632) : EReal := prod (normRow h g r) (fun k l => wa (ix3 0 k l)) l

/-- A row's product with a column of the last weights. -/
def prodB (r : Fin 32768) (l : Fin 5120) : EReal := prod (normRow h g r) (fun k l => wb (ix3 0 k l)) l

/-- The channels the convolution reads. -/
def rawRow (r : Fin 32768) (c : Fin 1536) : EReal := prodA h g wa r ⟨4096 + c.val, by omega⟩

def qRow (r : Fin 32768) (l : Fin 1024) : EReal := scaled (prodA h g wa r ⟨0 + l.val, by omega⟩)
def kRow (r : Fin 32768) (l : Fin 1024) : EReal := kept (prodA h g wa r ⟨1024 + l.val, by omega⟩)
def vRow (r : Fin 32768) (l : Fin 1024) : EReal := kept (prodA h g wa r ⟨2048 + l.val, by omega⟩)
def zRow (r : Fin 32768) (l : Fin 1024) : EReal := swish (prodA h g wa r ⟨3072 + l.val, by omega⟩)
def xbcRow (r : Fin 32768) (l : Fin 1536) : EReal := mixed (rawRow h g wa) (fun t c => cw (ix2 t c)) (fun c => cb (ix1 c)) r l
def dtRow (r : Fin 32768) (l : Fin 128) : EReal := prod (normRow h g r) (fun k l => wd (ix3 0 k l)) l
def uRow (r : Fin 32768) (l : Fin 1024) : EReal := gelu (prodB h g wb r ⟨0 + l.val, by omega⟩)
def vnRow (r : Fin 32768) (l : Fin 1024) : EReal :=
  layerNorm (fun k => lg (ix1 k)) (fun k => lb (ix1 k)) (fun c => gelu (prodB h g wb r ⟨1024 + c.val, by omega⟩)) l
def gateRow (r : Fin 32768) (l : Fin 3072) : EReal := sigm (prodB h g wb r ⟨2048 + l.val, by omega⟩)

end

variable (m : (ℓ : Loc nD τ sig) → Buf (Elt Ideal) ℓ) (ρ : Dev nD → PrngReg)

abbrev qAt (c : Dev nD) : Buf (Elt Ideal) ((c : Thread nD τ).loc main_v4_0) := fun (i : S32768x1024.Idx) =>
  qRow (m ((c : Thread nD τ).loc main_arg0)) (m ((c : Thread nD τ).loc main_arg1)) (m ((c : Thread nD τ).loc main_arg2)) (i 0) (i 1)
abbrev kAt (c : Dev nD) : Buf (Elt Ideal) ((c : Thread nD τ).loc main_v4_1) := fun (i : S32768x1024.Idx) =>
  kRow (m ((c : Thread nD τ).loc main_arg0)) (m ((c : Thread nD τ).loc main_arg1)) (m ((c : Thread nD τ).loc main_arg2)) (i 0) (i 1)
abbrev vAt (c : Dev nD) : Buf (Elt Ideal) ((c : Thread nD τ).loc main_v4_2) := fun (i : S32768x1024.Idx) =>
  vRow (m ((c : Thread nD τ).loc main_arg0)) (m ((c : Thread nD τ).loc main_arg1)) (m ((c : Thread nD τ).loc main_arg2)) (i 0) (i 1)
abbrev zAt (c : Dev nD) : Buf (Elt Ideal) ((c : Thread nD τ).loc main_v4_3) := fun (i : S32768x1024.Idx) =>
  zRow (m ((c : Thread nD τ).loc main_arg0)) (m ((c : Thread nD τ).loc main_arg1)) (m ((c : Thread nD τ).loc main_arg2)) (i 0) (i 1)
abbrev xbcAt (c : Dev nD) : Buf (Elt Ideal) ((c : Thread nD τ).loc main_v4_4) := fun (i : S32768x1536.Idx) =>
  xbcRow (m ((c : Thread nD τ).loc main_arg0)) (m ((c : Thread nD τ).loc main_arg1)) (m ((c : Thread nD τ).loc main_arg2)) (m ((c : Thread nD τ).loc main_arg5)) (m ((c : Thread nD τ).loc main_arg6)) (i 0) (i 1)
abbrev dtAt (c : Dev nD) : Buf (Elt Ideal) ((c : Thread nD τ).loc main_v4_5) := fun (i : S32768x128.Idx) =>
  dtRow (m ((c : Thread nD τ).loc main_arg0)) (m ((c : Thread nD τ).loc main_arg1)) (m ((c : Thread nD τ).loc main_arg3)) (i 0) (i 1)
abbrev uAt (c : Dev nD) : Buf (Elt Ideal) ((c : Thread nD τ).loc main_v4_6) := fun (i : S32768x1024.Idx) =>
  uRow (m ((c : Thread nD τ).loc main_arg0)) (m ((c : Thread nD τ).loc main_arg1)) (m ((c : Thread nD τ).loc main_arg4)) (i 0) (i 1)
abbrev vnAt (c : Dev nD) : Buf (Elt Ideal) ((c : Thread nD τ).loc main_v4_7) := fun (i : S32768x1024.Idx) =>
  vnRow (m ((c : Thread nD τ).loc main_arg0)) (m ((c : Thread nD τ).loc main_arg1)) (m ((c : Thread nD τ).loc main_arg4)) (m ((c : Thread nD τ).loc main_arg7)) (m ((c : Thread nD τ).loc main_arg8)) (i 0) (i 1)
abbrev gateAt (c : Dev nD) : Buf (Elt Ideal) ((c : Thread nD τ).loc main_v4_8) := fun (i : S32768x3072.Idx) =>
  gateRow (m ((c : Thread nD τ).loc main_arg0)) (m ((c : Thread nD τ).loc main_arg1)) (m ((c : Thread nD τ).loc main_arg4)) (i 0) (i 1)

/-! ### The blocks the windows name: the rows' blocks move with the point, every other block stays -/

theorem move0 : ∀ t : Fin cfg0.N, win0_0.index t 0 = t.val ∧ win0_0.index t 1 = 0 := (by decide +kernel : ∀ t : Fin grid0.N, _)
theorem move9 : ∀ t : Fin cfg0.N, win0_9.index t 0 = t.val ∧ win0_9.index t 1 = 0 := (by decide +kernel : ∀ t : Fin grid0.N, _)
theorem move10 : ∀ t : Fin cfg0.N, win0_10.index t 0 = t.val ∧ win0_10.index t 1 = 0 := (by decide +kernel : ∀ t : Fin grid0.N, _)
theorem move11 : ∀ t : Fin cfg0.N, win0_11.index t 0 = t.val ∧ win0_11.index t 1 = 0 := (by decide +kernel : ∀ t : Fin grid0.N, _)
theorem move12 : ∀ t : Fin cfg0.N, win0_12.index t 0 = t.val ∧ win0_12.index t 1 = 0 := (by decide +kernel : ∀ t : Fin grid0.N, _)
theorem move13 : ∀ t : Fin cfg0.N, win0_13.index t 0 = t.val ∧ win0_13.index t 1 = 0 := (by decide +kernel : ∀ t : Fin grid0.N, _)
theorem move14 : ∀ t : Fin cfg0.N, win0_14.index t 0 = t.val ∧ win0_14.index t 1 = 0 := (by decide +kernel : ∀ t : Fin grid0.N, _)
theorem move15 : ∀ t : Fin cfg0.N, win0_15.index t 0 = t.val ∧ win0_15.index t 1 = 0 := (by decide +kernel : ∀ t : Fin grid0.N, _)
theorem move16 : ∀ t : Fin cfg0.N, win0_16.index t 0 = t.val ∧ win0_16.index t 1 = 0 := (by decide +kernel : ∀ t : Fin grid0.N, _)
theorem move17 : ∀ t : Fin cfg0.N, win0_17.index t 0 = t.val ∧ win0_17.index t 1 = 0 := (by decide +kernel : ∀ t : Fin grid0.N, _)
theorem stay1 : ∀ t : Fin cfg0.N, win0_1.index t 0 = 0 ∧ win0_1.index t 1 = 0 := (by decide +kernel : ∀ t : Fin grid0.N, _)
theorem stay5 : ∀ t : Fin cfg0.N, win0_5.index t 0 = 0 ∧ win0_5.index t 1 = 0 := (by decide +kernel : ∀ t : Fin grid0.N, _)
theorem stay6 : ∀ t : Fin cfg0.N, win0_6.index t 0 = 0 ∧ win0_6.index t 1 = 0 := (by decide +kernel : ∀ t : Fin grid0.N, _)
theorem stay7 : ∀ t : Fin cfg0.N, win0_7.index t 0 = 0 ∧ win0_7.index t 1 = 0 := (by decide +kernel : ∀ t : Fin grid0.N, _)
theorem stay8 : ∀ t : Fin cfg0.N, win0_8.index t 0 = 0 ∧ win0_8.index t 1 = 0 := (by decide +kernel : ∀ t : Fin grid0.N, _)
theorem stay2 : ∀ t : Fin cfg0.N, win0_2.index t 0 = 0 ∧ win0_2.index t 1 = 0 ∧ win0_2.index t 2 = 0 := (by decide +kernel : ∀ t : Fin grid0.N, _)
theorem stay3 : ∀ t : Fin cfg0.N, win0_3.index t 0 = 0 ∧ win0_3.index t 1 = 0 ∧ win0_3.index t 2 = 0 := (by decide +kernel : ∀ t : Fin grid0.N, _)
theorem stay4 : ∀ t : Fin cfg0.N, win0_4.index t 0 = 0 ∧ win0_4.index t 1 = 0 ∧ win0_4.index t 2 = 0 := (by decide +kernel : ∀ t : Fin grid0.N, _)

/-! ### The four vectors as rows, before the call -/

theorem row_apply (A : FVec Ideal S1024 .f32) (k : Fin 1024) :
    shapeCast S1x1024 A shapeCasts_S1024_S1x1024 (ix2 0 k) = A (ix1 k) := by pointwise

theorem row_apply' (A : FVec Ideal S1536 .f32) (k : Fin 1536) :
    shapeCast S1x1536 A shapeCasts_S1536_S1x1536 (ix2 0 k) = A (ix1 k) := by pointwise

theorem V_v0 (c : Dev nD) (k : Fin 1024) : V m c main_v0 (ix2 0 k) = m ((c : Thread nD τ).loc main_arg1) (ix1 k) := by
  have e : V m c main_v0 = shapeCast S1x1024 (m ((c : Thread nD τ).loc main_arg1)) shapeCasts_S1024_S1x1024 := by
    unfold V
    after_results
    rfl
  exact (congrFun e _).trans (row_apply _ k)

theorem V_v1 (c : Dev nD) (k : Fin 1536) : V m c main_v1 (ix2 0 k) = m ((c : Thread nD τ).loc main_arg6) (ix1 k) := by
  have e : V m c main_v1 = shapeCast S1x1536 (m ((c : Thread nD τ).loc main_arg6)) shapeCasts_S1536_S1x1536 := by
    unfold V
    after_results
    rfl
  exact (congrFun e _).trans (row_apply' _ k)

theorem V_v2 (c : Dev nD) (k : Fin 1024) : V m c main_v2 (ix2 0 k) = m ((c : Thread nD τ).loc main_arg7) (ix1 k) := by
  have e : V m c main_v2 = shapeCast S1x1024 (m ((c : Thread nD τ).loc main_arg7)) shapeCasts_S1024_S1x1024 := by
    unfold V
    after_results
    rfl
  exact (congrFun e _).trans (row_apply _ k)

theorem V_v3 (c : Dev nD) (k : Fin 1024) : V m c main_v3 (ix2 0 k) = m ((c : Thread nD τ).loc main_arg8) (ix1 k) := by
  have e : V m c main_v3 = shapeCast S1x1024 (m ((c : Thread nD τ).loc main_arg8)) shapeCasts_S1024_S1x1024 := by
    unfold V
    after_results
    rfl
  exact (congrFun e _).trans (row_apply _ k)

/-! ### The input blocks at an index -/

/-- The array's row that is row `r` of point `t`'s block. -/
def rowOf (t : Fin cfg0.N) (r : Fin 256) : Fin 32768 := ⟨t.val * 256 + r.val, by have := t.isLt; have hN : cfg0.N = 128 := N_0; have := r.isLt; omega⟩

theorem in0 (c : Dev nD) (t : Fin cfg0.N) (r : Fin 256) (k : Fin 1024) :
    (iblk m c 0 t : Vec Ideal S256x1024 .f32) (ix2 r k) = m ((c : Thread nD τ).loc main_arg0) (ix2 (rowOf t r) k) := by
  have hi := move0 t
  unfold iblk
  rw [View.read_apply]
  show V m c main_arg0 _ = _
  rw [V_main_arg0]
  exact at2 (m ((c : Thread nD τ).loc main_arg0)) (by show win0_0.index t 0 * 256 + 1 * r.val = t.val * 256 + r.val; rw [hi.1]; omega)
    (by show win0_0.index t 1 * 1024 + 1 * k.val = k.val; rw [hi.2]; omega)

theorem in1 (c : Dev nD) (t : Fin cfg0.N) (k : Fin 1024) :
    (iblk m c 1 t : Vec Ideal S1x1024 .f32) (ix2 0 k) = m ((c : Thread nD τ).loc main_arg1) (ix1 k) := by
  have hi := stay1 t
  unfold iblk
  rw [View.read_apply]
  refine Eq.trans ?_ (V_v0 m c k)
  exact at2 (V m c main_v0) (by show win0_1.index t 0 * 1 + 1 * 0 = 0; rw [hi.1])
    (by show win0_1.index t 1 * 1024 + 1 * k.val = k.val; rw [hi.2]; omega)

theorem in6 (c : Dev nD) (t : Fin cfg0.N) (k : Fin 1536) :
    (iblk m c 6 t : Vec Ideal S1x1536 .f32) (ix2 0 k) = m ((c : Thread nD τ).loc main_arg6) (ix1 k) := by
  have hi := stay6 t
  unfold iblk
  rw [View.read_apply]
  refine Eq.trans ?_ (V_v1 m c k)
  exact at2 (V m c main_v1) (by show win0_6.index t 0 * 1 + 1 * 0 = 0; rw [hi.1])
    (by show win0_6.index t 1 * 1536 + 1 * k.val = k.val; rw [hi.2]; omega)

theorem in7 (c : Dev nD) (t : Fin cfg0.N) (k : Fin 1024) :
    (iblk m c 7 t : Vec Ideal S1x1024 .f32) (ix2 0 k) = m ((c : Thread nD τ).loc main_arg7) (ix1 k) := by
  have hi := stay7 t
  unfold iblk
  rw [View.read_apply]
  refine Eq.trans ?_ (V_v2 m c k)
  exact at2 (V m c main_v2) (by show win0_7.index t 0 * 1 + 1 * 0 = 0; rw [hi.1])
    (by show win0_7.index t 1 * 1024 + 1 * k.val = k.val; rw [hi.2]; omega)

theorem in8 (c : Dev nD) (t : Fin cfg0.N) (k : Fin 1024) :
    (iblk m c 8 t : Vec Ideal S1x1024 .f32) (ix2 0 k) = m ((c : Thread nD τ).loc main_arg8) (ix1 k) := by
  have hi := stay8 t
  unfold iblk
  rw [View.read_apply]
  refine Eq.trans ?_ (V_v3 m c k)
  exact at2 (V m c main_v3) (by show win0_8.index t 0 * 1 + 1 * 0 = 0; rw [hi.1])
    (by show win0_8.index t 1 * 1024 + 1 * k.val = k.val; rw [hi.2]; omega)

theorem in2 (c : Dev nD) (t : Fin cfg0.N) :
    (fun k l => (iblk m c 2 t : Vec Ideal S1x1024x5632 .bf16) (ix3 0 k l)) = fun k (l : Fin 5632) => m ((c : Thread nD τ).loc main_arg2) (ix3 0 k l) := by
  funext k l
  have hi := stay2 t
  unfold iblk
  rw [View.read_apply]
  show V m c main_arg2 _ = _
  rw [V_main_arg2]
  exact at3 (m ((c : Thread nD τ).loc main_arg2)) (by show win0_2.index t 0 * 1 + 1 * 0 = 0; rw [hi.1])
    (by show win0_2.index t 1 * 1024 + 1 * k.val = k.val; rw [hi.2.1]; omega)
    (by show win0_2.index t 2 * 5632 + 1 * l.val = l.val; rw [hi.2.2]; omega)

theorem in3 (c : Dev nD) (t : Fin cfg0.N) :
    (fun k l => (iblk m c 3 t : Vec Ideal S1x1024x128 .bf16) (ix3 0 k l)) = fun k (l : Fin 128) => m ((c : Thread nD τ).loc main_arg3) (ix3 0 k l) := by
  funext k l
  have hi := stay3 t
  unfold iblk
  rw [View.read_apply]
  show V m c main_arg3 _ = _
  rw [V_main_arg3]
  exact at3 (m ((c : Thread nD τ).loc main_arg3)) (by show win0_3.index t 0 * 1 + 1 * 0 = 0; rw [hi.1])
    (by show win0_3.index t 1 * 1024 + 1 * k.val = k.val; rw [hi.2.1]; omega)
    (by show win0_3.index t 2 * 128 + 1 * l.val = l.val; rw [hi.2.2]; omega)

theorem in4 (c : Dev nD) (t : Fin cfg0.N) :
    (fun k l => (iblk m c 4 t : Vec Ideal S1x1024x5120 .bf16) (ix3 0 k l)) = fun k (l : Fin 5120) => m ((c : Thread nD τ).loc main_arg4) (ix3 0 k l) := by
  funext k l
  have hi := stay4 t
  unfold iblk
  rw [View.read_apply]
  show V m c main_arg4 _ = _
  rw [V_main_arg4]
  exact at3 (m ((c : Thread nD τ).loc main_arg4)) (by show win0_4.index t 0 * 1 + 1 * 0 = 0; rw [hi.1])
    (by show win0_4.index t 1 * 1024 + 1 * k.val = k.val; rw [hi.2.1]; omega)
    (by show win0_4.index t 2 * 5120 + 1 * l.val = l.val; rw [hi.2.2]; omega)

theorem in5 (c : Dev nD) (t : Fin cfg0.N) (r : Fin 4) (k : Fin 1536) :
    (iblk m c 5 t : Vec Ideal S4x1536 .f32) (ix2 r k) = m ((c : Thread nD τ).loc main_arg5) (ix2 r k) := by
  have hi := stay5 t
  unfold iblk
  rw [View.read_apply]
  show V m c main_arg5 _ = _
  rw [V_main_arg5]
  exact at2 (m ((c : Thread nD τ).loc main_arg5)) (by show win0_5.index t 0 * 4 + 1 * r.val = r.val; rw [hi.1]; omega)
    (by show win0_5.index t 1 * 1536 + 1 * k.val = k.val; rw [hi.2]; omega)

/-- A row of the block, normalized. -/
theorem norm_block (c : Dev nD) (t : Fin cfg0.N) (r : Fin 256) :
    (fun k => k0_pay3 (iblk m c 0 t) (iblk m c 1 t) (ix2 r k))
      = normRow (m ((c : Thread nD τ).loc main_arg0)) (m ((c : Thread nD τ).loc main_arg1)) (rowOf t r) := by
  funext k
  rw [normed_apply]
  unfold normRow
  congr 1
  · funext k
    exact in1 m c t k
  · funext k
    exact in0 m c t r k

/-- The channels of the block's rows are those of the arrays' rows. -/
theorem chan_block (c : Dev nD) (t : Fin cfg0.N) (i : Fin 256) (l : Fin 1536) :
    chan (k0_pay3 (iblk m c 0 t) (iblk m c 1 t)) (iblk m c 2 t) i l
      = rawRow (m ((c : Thread nD τ).loc main_arg0)) (m ((c : Thread nD τ).loc main_arg1)) (m ((c : Thread nD τ).loc main_arg2)) (rowOf t i) l := by
  unfold chan
  rw [norm_block, in2]
  rfl

/-- The rows a point leaves for the next one are the last eight of its block. -/
theorem carried (c : Dev nD) (t : Fin cfg0.N) (j : Fin 8) (l : Fin 1536) :
    (outsAt0 m c t.val t.isLt).2.2.2.2.2.2.2.2.2 (ix2 (⟨j.val, by omega⟩ : Fin 264) l)
      = rawRow (m ((c : Thread nD τ).loc main_arg0)) (m ((c : Thread nD τ).loc main_arg1)) (m ((c : Thread nD τ).loc main_arg2)) (rowOf t ⟨248 + j.val, by omega⟩) l := by
  by_cases h0 : t.val % 32 = 0
  · rw [outsAt0_A m c t h0]
    dsimp only
    rw [carry_A, chan_block]
  · rw [outsAt0_B m c t h0]
    dsimp only
    rw [carry_B, chan_block]

/-- Rows behind the eight that came before are the rows further back, where those eight are the rows before the block, or zero at the
    first block of a sequence. -/
theorem behind_lag (raw : Fin 32768 → Fin 1536 → EReal) (t : Fin cfg0.N) (p : Fin 8 → Fin 1536 → EReal) (q : Fin 256 → Fin 1536 → EReal)
    (hq : ∀ i l, q i l = raw (rowOf t i) l)
    (hp : ∀ j l, p j l = if t.val % 32 = 0 then 0 else raw ⟨t.val * 256 + j.val - 8, by have := t.isLt; have hN : cfg0.N = 128 := N_0; omega⟩ l)
    (d n : ℕ) (hd : d + n = 8) (hd' : 0 < d) (i : Fin 256) (l : Fin 1536) :
    behind p q ⟨n + i.val, by omega⟩ l = lag raw d (rowOf t i) l := by
  have hi := i.isLt
  have hr : (rowOf t i).val = t.val * 256 + i.val := rfl
  unfold behind lag
  by_cases hj : n + i.val < 8
  · rw [dif_pos hj, hp]
    by_cases h0 : t.val % 32 = 0
    · rw [if_pos h0, if_neg (by rw [hr]; omega)]
    · rw [if_neg h0, if_pos (by rw [hr]; omega)]
      exact congrArg (fun r => raw r l) (Fin.ext (by show t.val * 256 + (n + i.val) - 8 = (rowOf t i).val - d; rw [hr]; omega))
  · rw [dif_neg hj, hq, if_pos (by rw [hr]; omega)]
    exact congrArg (fun r => raw r l) (Fin.ext (by show t.val * 256 + (n + i.val - 8) = (rowOf t i).val - d; rw [hr]; omega))

/-- The block's convolution is the arrays'. -/
theorem conv_block (c : Dev nD) (t : Fin cfg0.N) (p : Fin 8 → Fin 1536 → EReal)
    (hp : ∀ j l, p j l = if t.val % 32 = 0 then 0 else rawRow (m ((c : Thread nD τ).loc main_arg0)) (m ((c : Thread nD τ).loc main_arg1)) (m ((c : Thread nD τ).loc main_arg2))
      ⟨t.val * 256 + j.val - 8, by have := t.isLt; have hN : cfg0.N = 128 := N_0; omega⟩ l) (i : Fin 256) (l : Fin 1536) :
    convAt (k0_pay3 (iblk m c 0 t) (iblk m c 1 t)) (iblk m c 2 t) p (iblk m c 5 t) (iblk m c 6 t) i l
      = xbcRow (m ((c : Thread nD τ).loc main_arg0)) (m ((c : Thread nD τ).loc main_arg1)) (m ((c : Thread nD τ).loc main_arg2)) (m ((c : Thread nD τ).loc main_arg5)) (m ((c : Thread nD τ).loc main_arg6)) (rowOf t i) l := by
  have hb := behind_lag (rawRow (m ((c : Thread nD τ).loc main_arg0)) (m ((c : Thread nD τ).loc main_arg1)) (m ((c : Thread nD τ).loc main_arg2))) t p
    (chan (k0_pay3 (iblk m c 0 t) (iblk m c 1 t)) (iblk m c 2 t)) (chan_block m c t) hp
  unfold convAt xbcRow mixed
  rw [hb 3 5 rfl (by omega), hb 2 6 rfl (by omega), hb 1 7 rfl (by omega), chan_block, in6]
  congr 1
  funext a
  exact in5 m c t a l

/-! ### What a point leaves, as rows of the results -/

theorem q_out (c : Dev nD) (t : Fin cfg0.N) (r : Fin 256) (l : Fin 1024) :
    (outsAt0 m c t.val t.isLt).1 (ix2 r l) = qAt m c (ix2 (rowOf t r) l) := by
  by_cases h0 : t.val % 32 = 0
  · rw [outsAt0_A m c t h0]
    dsimp only
    rw [q_A, norm_block, in2]
    rfl
  · rw [outsAt0_B m c t h0]
    dsimp only
    rw [q_B, norm_block, in2]
    rfl

theorem k_out (c : Dev nD) (t : Fin cfg0.N) (r : Fin 256) (l : Fin 1024) :
    (outsAt0 m c t.val t.isLt).2.1 (ix2 r l) = kAt m c (ix2 (rowOf t r) l) := by
  by_cases h0 : t.val % 32 = 0
  · rw [outsAt0_A m c t h0]
    dsimp only
    rw [k_A, norm_block, in2]
    rfl
  · rw [outsAt0_B m c t h0]
    dsimp only
    rw [k_B, norm_block, in2]
    rfl

theorem v_out (c : Dev nD) (t : Fin cfg0.N) (r : Fin 256) (l : Fin 1024) :
    (outsAt0 m c t.val t.isLt).2.2.1 (ix2 r l) = vAt m c (ix2 (rowOf t r) l) := by
  by_cases h0 : t.val % 32 = 0
  · rw [outsAt0_A m c t h0]
    dsimp only
    rw [v_A, norm_block, in2]
    rfl
  · rw [outsAt0_B m c t h0]
    dsimp only
    rw [v_B, norm_block, in2]
    rfl

theorem z_out (c : Dev nD) (t : Fin cfg0.N) (r : Fin 256) (l : Fin 1024) :
    (outsAt0 m c t.val t.isLt).2.2.2.1 (ix2 r l) = zAt m c (ix2 (rowOf t r) l) := by
  by_cases h0 : t.val % 32 = 0
  · rw [outsAt0_A m c t h0]
    dsimp only
    rw [z_A, norm_block, in2]
    rfl
  · rw [outsAt0_B m c t h0]
    dsimp only
    rw [z_B, norm_block, in2]
    rfl

theorem xbc_out (c : Dev nD) (t : Fin cfg0.N) (r : Fin 256) (l : Fin 1536) :
    (outsAt0 m c t.val t.isLt).2.2.2.2.1 (ix2 r l) = xbcAt m c (ix2 (rowOf t r) l) := by
  by_cases h0 : t.val % 32 = 0
  · rw [outsAt0_A m c t h0]
    dsimp only
    rw [xbc_A]
    exact conv_block m c t _ (fun j l => (if_pos h0).symm) r l
  · rw [outsAt0_B m c t h0]
    dsimp only
    rw [xbc_B]
    refine conv_block m c t _ (fun j l => ?_) r l
    rw [if_neg h0]
    refine (carried m c ⟨t.val - 1, Nat.lt_of_le_of_lt (Nat.sub_le _ _) t.isLt⟩ j l).trans ?_
    exact congrArg (fun r => rawRow _ _ _ r l) (Fin.ext (by show (t.val - 1) * 256 + (248 + j.val) = t.val * 256 + j.val - 8; omega))

theorem dt_out (c : Dev nD) (t : Fin cfg0.N) (r : Fin 256) (l : Fin 128) :
    (outsAt0 m c t.val t.isLt).2.2.2.2.2.1 (ix2 r l) = dtAt m c (ix2 (rowOf t r) l) := by
  by_cases h0 : t.val % 32 = 0
  · rw [outsAt0_A m c t h0]
    dsimp only
    rw [dt_A, norm_block, in3]
    rfl
  · rw [outsAt0_B m c t h0]
    dsimp only
    rw [dt_B, norm_block, in3]
    rfl

theorem u_out (c : Dev nD) (t : Fin cfg0.N) (r : Fin 256) (l : Fin 1024) :
    (outsAt0 m c t.val t.isLt).2.2.2.2.2.2.1 (ix2 r l) = uAt m c (ix2 (rowOf t r) l) := by
  by_cases h0 : t.val % 32 = 0
  · rw [outsAt0_A m c t h0]
    dsimp only
    rw [u_A, norm_block, in4]
    rfl
  · rw [outsAt0_B m c t h0]
    dsimp only
    rw [u_B, norm_block, in4]
    rfl

theorem vn_out (c : Dev nD) (t : Fin cfg0.N) (r : Fin 256) (l : Fin 1024) :
    (outsAt0 m c t.val t.isLt).2.2.2.2.2.2.2.1 (ix2 r l) = vnAt m c (ix2 (rowOf t r) l) := by
  by_cases h0 : t.val % 32 = 0
  · rw [outsAt0_A m c t h0]
    dsimp only
    rw [vn_A, norm_block, in4]
    simp only [in7, in8]
    rfl
  · rw [outsAt0_B m c t h0]
    dsimp only
    rw [vn_B, norm_block, in4]
    simp only [in7, in8]
    rfl

theorem gate_out (c : Dev nD) (t : Fin cfg0.N) (r : Fin 256) (l : Fin 3072) :
    (outsAt0 m c t.val t.isLt).2.2.2.2.2.2.2.2.1 (ix2 r l) = gateAt m c (ix2 (rowOf t r) l) := by
  by_cases h0 : t.val % 32 = 0
  · rw [outsAt0_A m c t h0]
    dsimp only
    rw [gate_A, norm_block, in4]
    rfl
  · rw [outsAt0_B m c t h0]
    dsimp only
    rw [gate_B, norm_block, in4]
    rfl

/-! ### The blocks written back, and the whole results -/

set_option maxRecDepth 4096 in
theorem flushed_q (c : Dev nD) (t : Fin cfg0.N) :
    (dats m 0 c).flushed 9 t = ((cfg0.win 9).blk t).view.read (Elt Ideal) (qAt m c) := by
  have hi := move9 t
  rw [Value.flushed9]
  funext (y : S256x1024.Idx)
  rw [View.read_apply]
  show (outsAt0 m c t.val t.isLt).1 y = qAt m c _
  obtain ⟨r, l, rfl⟩ : ∃ (r : Fin 256) (l : Fin 1024), y = ix2 r l := ⟨y 0, y 1, eq_ix2 y⟩
  rw [q_out]
  exact (at2 (qAt m c) (a := rowOf t r) (b := l) (by show win0_9.index t 0 * 256 + 1 * r.val = t.val * 256 + r.val; rw [hi.1]; omega)
    (by show win0_9.index t 1 * 1024 + 1 * l.val = l.val; rw [hi.2]; omega)).symm

theorem final_q (c : Dev nD) : (dats m 0 c).arrAt 9 cfg0.N = qAt m c :=
  (dats m 0 c).arrAt_eq_of_cover 9 (qAt m c) (fun t _ => flushed_q m c t) (fun i => (Value.covered_iff9 i).2 (by
    have h0 : (i 0).val < 32768 := (i 0).isLt
    have h1 : (i 1).val < 1024 := (i 1).isLt
    omega))

set_option maxRecDepth 4096 in
theorem flushed_k (c : Dev nD) (t : Fin cfg0.N) :
    (dats m 0 c).flushed 10 t = ((cfg0.win 10).blk t).view.read (Elt Ideal) (kAt m c) := by
  have hi := move10 t
  rw [Value.flushed10]
  funext (y : S256x1024.Idx)
  rw [View.read_apply]
  show (outsAt0 m c t.val t.isLt).2.1 y = kAt m c _
  obtain ⟨r, l, rfl⟩ : ∃ (r : Fin 256) (l : Fin 1024), y = ix2 r l := ⟨y 0, y 1, eq_ix2 y⟩
  rw [k_out]
  exact (at2 (kAt m c) (a := rowOf t r) (b := l) (by show win0_10.index t 0 * 256 + 1 * r.val = t.val * 256 + r.val; rw [hi.1]; omega)
    (by show win0_10.index t 1 * 1024 + 1 * l.val = l.val; rw [hi.2]; omega)).symm

theorem final_k (c : Dev nD) : (dats m 0 c).arrAt 10 cfg0.N = kAt m c :=
  (dats m 0 c).arrAt_eq_of_cover 10 (kAt m c) (fun t _ => flushed_k m c t) (fun i => (Value.covered_iff10 i).2 (by
    have h0 : (i 0).val < 32768 := (i 0).isLt
    have h1 : (i 1).val < 1024 := (i 1).isLt
    omega))

set_option maxRecDepth 4096 in
theorem flushed_v (c : Dev nD) (t : Fin cfg0.N) :
    (dats m 0 c).flushed 11 t = ((cfg0.win 11).blk t).view.read (Elt Ideal) (vAt m c) := by
  have hi := move11 t
  rw [Value.flushed11]
  funext (y : S256x1024.Idx)
  rw [View.read_apply]
  show (outsAt0 m c t.val t.isLt).2.2.1 y = vAt m c _
  obtain ⟨r, l, rfl⟩ : ∃ (r : Fin 256) (l : Fin 1024), y = ix2 r l := ⟨y 0, y 1, eq_ix2 y⟩
  rw [v_out]
  exact (at2 (vAt m c) (a := rowOf t r) (b := l) (by show win0_11.index t 0 * 256 + 1 * r.val = t.val * 256 + r.val; rw [hi.1]; omega)
    (by show win0_11.index t 1 * 1024 + 1 * l.val = l.val; rw [hi.2]; omega)).symm

theorem final_v (c : Dev nD) : (dats m 0 c).arrAt 11 cfg0.N = vAt m c :=
  (dats m 0 c).arrAt_eq_of_cover 11 (vAt m c) (fun t _ => flushed_v m c t) (fun i => (Value.covered_iff11 i).2 (by
    have h0 : (i 0).val < 32768 := (i 0).isLt
    have h1 : (i 1).val < 1024 := (i 1).isLt
    omega))

set_option maxRecDepth 4096 in
theorem flushed_z (c : Dev nD) (t : Fin cfg0.N) :
    (dats m 0 c).flushed 12 t = ((cfg0.win 12).blk t).view.read (Elt Ideal) (zAt m c) := by
  have hi := move12 t
  rw [Value.flushed12]
  funext (y : S256x1024.Idx)
  rw [View.read_apply]
  show (outsAt0 m c t.val t.isLt).2.2.2.1 y = zAt m c _
  obtain ⟨r, l, rfl⟩ : ∃ (r : Fin 256) (l : Fin 1024), y = ix2 r l := ⟨y 0, y 1, eq_ix2 y⟩
  rw [z_out]
  exact (at2 (zAt m c) (a := rowOf t r) (b := l) (by show win0_12.index t 0 * 256 + 1 * r.val = t.val * 256 + r.val; rw [hi.1]; omega)
    (by show win0_12.index t 1 * 1024 + 1 * l.val = l.val; rw [hi.2]; omega)).symm

theorem final_z (c : Dev nD) : (dats m 0 c).arrAt 12 cfg0.N = zAt m c :=
  (dats m 0 c).arrAt_eq_of_cover 12 (zAt m c) (fun t _ => flushed_z m c t) (fun i => (Value.covered_iff12 i).2 (by
    have h0 : (i 0).val < 32768 := (i 0).isLt
    have h1 : (i 1).val < 1024 := (i 1).isLt
    omega))

set_option maxRecDepth 4096 in
theorem flushed_xbc (c : Dev nD) (t : Fin cfg0.N) :
    (dats m 0 c).flushed 13 t = ((cfg0.win 13).blk t).view.read (Elt Ideal) (xbcAt m c) := by
  have hi := move13 t
  rw [Value.flushed13]
  funext (y : S256x1536.Idx)
  rw [View.read_apply]
  show (outsAt0 m c t.val t.isLt).2.2.2.2.1 y = xbcAt m c _
  obtain ⟨r, l, rfl⟩ : ∃ (r : Fin 256) (l : Fin 1536), y = ix2 r l := ⟨y 0, y 1, eq_ix2 y⟩
  rw [xbc_out]
  exact (at2 (xbcAt m c) (a := rowOf t r) (b := l) (by show win0_13.index t 0 * 256 + 1 * r.val = t.val * 256 + r.val; rw [hi.1]; omega)
    (by show win0_13.index t 1 * 1536 + 1 * l.val = l.val; rw [hi.2]; omega)).symm

theorem final_xbc (c : Dev nD) : (dats m 0 c).arrAt 13 cfg0.N = xbcAt m c :=
  (dats m 0 c).arrAt_eq_of_cover 13 (xbcAt m c) (fun t _ => flushed_xbc m c t) (fun i => (Value.covered_iff13 i).2 (by
    have h0 : (i 0).val < 32768 := (i 0).isLt
    have h1 : (i 1).val < 1536 := (i 1).isLt
    omega))

set_option maxRecDepth 4096 in
theorem flushed_dt (c : Dev nD) (t : Fin cfg0.N) :
    (dats m 0 c).flushed 14 t = ((cfg0.win 14).blk t).view.read (Elt Ideal) (dtAt m c) := by
  have hi := move14 t
  rw [Value.flushed14]
  funext (y : S256x128.Idx)
  rw [View.read_apply]
  show (outsAt0 m c t.val t.isLt).2.2.2.2.2.1 y = dtAt m c _
  obtain ⟨r, l, rfl⟩ : ∃ (r : Fin 256) (l : Fin 128), y = ix2 r l := ⟨y 0, y 1, eq_ix2 y⟩
  rw [dt_out]
  exact (at2 (dtAt m c) (a := rowOf t r) (b := l) (by show win0_14.index t 0 * 256 + 1 * r.val = t.val * 256 + r.val; rw [hi.1]; omega)
    (by show win0_14.index t 1 * 128 + 1 * l.val = l.val; rw [hi.2]; omega)).symm

theorem final_dt (c : Dev nD) : (dats m 0 c).arrAt 14 cfg0.N = dtAt m c :=
  (dats m 0 c).arrAt_eq_of_cover 14 (dtAt m c) (fun t _ => flushed_dt m c t) (fun i => (Value.covered_iff14 i).2 (by
    have h0 : (i 0).val < 32768 := (i 0).isLt
    have h1 : (i 1).val < 128 := (i 1).isLt
    omega))

set_option maxRecDepth 4096 in
theorem flushed_u (c : Dev nD) (t : Fin cfg0.N) :
    (dats m 0 c).flushed 15 t = ((cfg0.win 15).blk t).view.read (Elt Ideal) (uAt m c) := by
  have hi := move15 t
  rw [Value.flushed15]
  funext (y : S256x1024.Idx)
  rw [View.read_apply]
  show (outsAt0 m c t.val t.isLt).2.2.2.2.2.2.1 y = uAt m c _
  obtain ⟨r, l, rfl⟩ : ∃ (r : Fin 256) (l : Fin 1024), y = ix2 r l := ⟨y 0, y 1, eq_ix2 y⟩
  rw [u_out]
  exact (at2 (uAt m c) (a := rowOf t r) (b := l) (by show win0_15.index t 0 * 256 + 1 * r.val = t.val * 256 + r.val; rw [hi.1]; omega)
    (by show win0_15.index t 1 * 1024 + 1 * l.val = l.val; rw [hi.2]; omega)).symm

theorem final_u (c : Dev nD) : (dats m 0 c).arrAt 15 cfg0.N = uAt m c :=
  (dats m 0 c).arrAt_eq_of_cover 15 (uAt m c) (fun t _ => flushed_u m c t) (fun i => (Value.covered_iff15 i).2 (by
    have h0 : (i 0).val < 32768 := (i 0).isLt
    have h1 : (i 1).val < 1024 := (i 1).isLt
    omega))

set_option maxRecDepth 4096 in
theorem flushed_vn (c : Dev nD) (t : Fin cfg0.N) :
    (dats m 0 c).flushed 16 t = ((cfg0.win 16).blk t).view.read (Elt Ideal) (vnAt m c) := by
  have hi := move16 t
  rw [Value.flushed16]
  funext (y : S256x1024.Idx)
  rw [View.read_apply]
  show (outsAt0 m c t.val t.isLt).2.2.2.2.2.2.2.1 y = vnAt m c _
  obtain ⟨r, l, rfl⟩ : ∃ (r : Fin 256) (l : Fin 1024), y = ix2 r l := ⟨y 0, y 1, eq_ix2 y⟩
  rw [vn_out]
  exact (at2 (vnAt m c) (a := rowOf t r) (b := l) (by show win0_16.index t 0 * 256 + 1 * r.val = t.val * 256 + r.val; rw [hi.1]; omega)
    (by show win0_16.index t 1 * 1024 + 1 * l.val = l.val; rw [hi.2]; omega)).symm

theorem final_vn (c : Dev nD) : (dats m 0 c).arrAt 16 cfg0.N = vnAt m c :=
  (dats m 0 c).arrAt_eq_of_cover 16 (vnAt m c) (fun t _ => flushed_vn m c t) (fun i => (Value.covered_iff16 i).2 (by
    have h0 : (i 0).val < 32768 := (i 0).isLt
    have h1 : (i 1).val < 1024 := (i 1).isLt
    omega))

set_option maxRecDepth 4096 in
theorem flushed_gate (c : Dev nD) (t : Fin cfg0.N) :
    (dats m 0 c).flushed 17 t = ((cfg0.win 17).blk t).view.read (Elt Ideal) (gateAt m c) := by
  have hi := move17 t
  rw [Value.flushed17]
  funext (y : S256x3072.Idx)
  rw [View.read_apply]
  show (outsAt0 m c t.val t.isLt).2.2.2.2.2.2.2.2.1 y = gateAt m c _
  obtain ⟨r, l, rfl⟩ : ∃ (r : Fin 256) (l : Fin 3072), y = ix2 r l := ⟨y 0, y 1, eq_ix2 y⟩
  rw [gate_out]
  exact (at2 (gateAt m c) (a := rowOf t r) (b := l) (by show win0_17.index t 0 * 256 + 1 * r.val = t.val * 256 + r.val; rw [hi.1]; omega)
    (by show win0_17.index t 1 * 3072 + 1 * l.val = l.val; rw [hi.2]; omega)).symm

theorem final_gate (c : Dev nD) : (dats m 0 c).arrAt 17 cfg0.N = gateAt m c :=
  (dats m 0 c).arrAt_eq_of_cover 17 (gateAt m c) (fun t _ => flushed_gate m c t) (fun i => (Value.covered_iff17 i).2 (by
    have h0 : (i 0).val < 32768 := (i 0).isLt
    have h1 : (i 1).val < 3072 := (i 1).isLt
    omega))

end Cert.Proof.Inproj

end
-- ==== Proof.Inproj.Reference.lean ====
/-
  The input projection's reference, index by index: its nine results are the same functions of a normalized row.
-/
module

public import proofs.«01_k».proof.Proof.Blocks
public import proofs.«01_k».proof.Proof.Inproj.Rows
public import proofs.«01_k».proof.Proof.Gen.InprojRefIdeal.Read

@[expose] public section

noncomputable section

namespace Cert.Proof.InprojRef

open Idealize.ShloMosaic Idealize.ShloMosaic.TcCoe Cert.InprojRefIdeal Cert.InprojRefIdeal.Read
open Idealize.SL.Sem Idealize.ShloMosaic.StableHlo
open scoped BigOperators

variable (h : FVec Ideal S32768x1024 .f32) (g : FVec Ideal S1024 .f32) (wa : FVec Ideal S2x1024x5632 .bf16) (wd : FVec Ideal S2x1024x128 .bf16)
  (wb : FVec Ideal S2x1024x5120 .bf16) (cw : FVec Ideal S4x1536 .f32) (cb : FVec Ideal S1536 .f32) (lg lb : FVec Ideal S1024 .f32)

theorem norm_apply (r : Fin 32768) (k : Fin 1024) :
    val_main_v12 (F := Ideal) h g (ix2 r k) = rms (fun k => g (ix1 k)) (fun k => h (ix2 r k)) k := by
  pointwise [val_main_v12, val_main_v11, val_main_v10, val_main_v9, val_main_v8, val_main_v7, val_main_v6, val_main_v5, val_main_v4, val_main_v3, val_main_v2, val_main_v1, val_main_v0, val_main_cst_1, val_main_cst_0, val_main_cst]
  unfold rms
  rfl

/-- The normalized row. -/
theorem norm_row (r : Fin 32768) :
    (fun k => val_main_v12 (F := Ideal) h g (ix2 r k)) = rms (fun k => g (ix1 k)) (fun k => h (ix2 r k)) :=
  funext fun k => norm_apply h g r k

/-! ### The three products -/

theorem prodA_apply (r : Fin 32768) (l : Fin 5632) :
    val_main_v16 (F := Ideal) h g wa (ix2 r l) = prod (rms (fun k => g (ix1 k)) (fun k => h (ix2 r k))) (fun k l => wa (ix3 0 k l)) l := by
  rw [← norm_row]
  generalize hx : val_main_v12 (F := Ideal) h g = x
  pointwise [val_main_v16, val_main_v15, val_main_v14, val_main_v13]
  rw [hx]
  rfl

theorem dt_apply (r : Fin 32768) (l : Fin 128) :
    val_main_v25 (F := Ideal) h g wd (ix2 r l) = prod (rms (fun k => g (ix1 k)) (fun k => h (ix2 r k))) (fun k l => wd (ix3 0 k l)) l := by
  rw [← norm_row]
  generalize hx : val_main_v12 (F := Ideal) h g = x
  pointwise [val_main_v25, val_main_v24, val_main_v23, val_main_v22]
  rw [hx]
  rfl

theorem prodB_apply (r : Fin 32768) (l : Fin 5120) :
    val_main_v29 (F := Ideal) h g wb (ix2 r l) = prod (rms (fun k => g (ix1 k)) (fun k => h (ix2 r k))) (fun k l => wb (ix3 0 k l)) l := by
  rw [← norm_row]
  generalize hx : val_main_v12 (F := Ideal) h g = x
  pointwise [val_main_v29, val_main_v28, val_main_v27, val_main_v26]
  rw [hx]
  rfl

/-! ### The results without the rows before -/

theorem q_apply (r : Fin 32768) (l : Fin 1024) :
    val_main_v93 (F := Ideal) h g wa (ix2 r l) = scaled (val_main_v16 (F := Ideal) h g wa (ix2 r ⟨0 + l.val, by omega⟩)) := by
  generalize hx : val_main_v16 (F := Ideal) h g wa = x
  pointwise [val_main_v93, val_main_v48, val_main_v47, val_main_v17, val_main_cst_6]
  rw [hx]
  unfold scaled
  congr 1

theorem k_apply (r : Fin 32768) (l : Fin 1024) :
    val_main_v94 (F := Ideal) h g wa (ix2 r l) = kept (val_main_v16 (F := Ideal) h g wa (ix2 r ⟨1024 + l.val, by omega⟩)) := by
  generalize hx : val_main_v16 (F := Ideal) h g wa = x
  pointwise [val_main_v94, val_main_v18]
  rw [hx]
  rfl

theorem v_apply (r : Fin 32768) (l : Fin 1024) :
    val_main_v95 (F := Ideal) h g wa (ix2 r l) = kept (val_main_v16 (F := Ideal) h g wa (ix2 r ⟨2048 + l.val, by omega⟩)) := by
  generalize hx : val_main_v16 (F := Ideal) h g wa = x
  pointwise [val_main_v95, val_main_v19]
  rw [hx]
  rfl

theorem z_apply (r : Fin 32768) (l : Fin 1024) :
    val_main_v97 (F := Ideal) h g wa (ix2 r l) = swish (val_main_v16 (F := Ideal) h g wa (ix2 r ⟨3072 + l.val, by omega⟩)) := by
  generalize hx : val_main_v16 (F := Ideal) h g wa = x
  pointwise [val_main_v97, val_main_v96, val_main_call1_v5, val_main_call1_v4, val_main_call1_cst_0, val_main_call1_v3, val_main_call1_v2, val_main_call1_cst, val_main_call1_v1, val_main_call1_v0, val_main_v20]
  rw [hx]
  rfl

theorem gelu_apply (r : Fin 32768) (l : Fin 2048) :
    val_main_v44 (F := Ideal) h g wb (ix2 r l) = gelu (val_main_v29 (F := Ideal) h g wb (ix2 r ⟨l.val, by omega⟩)) := by
  generalize hx : val_main_v29 (F := Ideal) h g wb = x
  pointwise [val_main_v44, val_main_v43, val_main_v42, val_main_v41, val_main_v40, val_main_v39, val_main_v38, val_main_v37, val_main_v36, val_main_v35, val_main_v34, val_main_v33, val_main_v32, val_main_v30, val_main_cst_2, val_main_cst_3, val_main_cst_4, val_main_cst_5]
  rw [hx]
  unfold gelu
  rfl

theorem u_apply (r : Fin 32768) (l : Fin 1024) :
    val_main_v99 (F := Ideal) h g wb (ix2 r l) = gelu (val_main_v29 (F := Ideal) h g wb (ix2 r ⟨0 + l.val, by omega⟩)) := by
  refine Eq.trans ?_ ((gelu_apply h g wb r ⟨l.val, by omega⟩).trans (congrArg gelu (at2 _ rfl (Nat.zero_add _).symm)))
  generalize hx : val_main_v44 (F := Ideal) h g wb = x
  pointwise [val_main_v99, val_main_v45]
  rw [hx]

theorem gate_apply (r : Fin 32768) (l : Fin 3072) :
    val_main_v107 (F := Ideal) h g wb (ix2 r l) = sigm (val_main_v29 (F := Ideal) h g wb (ix2 r ⟨2048 + l.val, by omega⟩)) := by
  generalize hx : val_main_v29 (F := Ideal) h g wb = x
  pointwise [val_main_v107, val_main_v106, val_main_v105, val_main_v104, val_main_v103, val_main_v102, val_main_v101, val_main_v31, val_main_cst_13, val_main_cst_14]
  rw [hx]
  rfl

theorem vn_apply (r : Fin 32768) (l : Fin 1024) :
    val_main_v100 (F := Ideal) h g wb lg lb (ix2 r l)
      = layerNorm (fun k => lg (ix1 k)) (fun k => lb (ix1 k)) (fun c => gelu (val_main_v29 (F := Ideal) h g wb (ix2 r ⟨1024 + c.val, by omega⟩))) l := by
  have e : ∀ c : Fin 1024, gelu (val_main_v29 (F := Ideal) h g wb (ix2 r ⟨1024 + c.val, by omega⟩))
      = val_main_v44 (F := Ideal) h g wb (ix2 r ⟨1024 + c.val, by omega⟩) := fun c => (gelu_apply h g wb r ⟨1024 + c.val, by omega⟩).symm
  simp only [e]
  generalize hx : val_main_v44 (F := Ideal) h g wb = x
  pointwise [val_main_v100, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v46, val_main_cst_8, val_main_cst_9, val_main_cst_10, val_main_cst_11, val_main_cst_12]
  rw [hx]
  unfold layerNorm meanOf
  rfl

/-! ### The convolution -/

/-- The channels, cut into the four sequences and put behind three rows of zeros. -/
theorem padded_apply (b : Fin 4) (s : Fin 8195) (c : Fin 1536) :
    val_main_v50 (F := Ideal) h g wa (ix3 b s c)
      = if e : 3 ≤ s.val then val_main_v49 (F := Ideal) h g wa (ix3 b ⟨s.val - 3, by omega⟩ c) else 0 := by
  generalize hx : val_main_v49 (F := Ideal) h g wa = x
  pointwise [val_main_v50, val_main_cst_7]
  rw [hx]
  by_cases e : 3 ≤ s.val
  · rw [dif_pos e, dif_pos ⟨e, by omega⟩]
  · rw [dif_neg e, dif_neg (fun e' => e e'.1)]

theorem raw_apply (b : Fin 4) (s : Fin 8192) (c : Fin 1536) :
    val_main_v49 (F := Ideal) h g wa (ix3 b s c)
      = val_main_v16 (F := Ideal) h g wa (ix2 ⟨b.val * 8192 + s.val, by omega⟩ ⟨4096 + c.val, by omega⟩) := by
  rw [val_main_v49_apply, val_main_v21_apply]
  have hb := b.isLt
  have hs := s.isLt
  have hc := c.isLt
  refine at2 _ ?_ ?_
  · show ((b.val * 8192 + s.val) * 1536 + c.val) / 1536 = b.val * 8192 + s.val
    omega
  · show 4096 + ((b.val * 8192 + s.val) * 1536 + c.val) % 1536 = 4096 + c.val
    omega

/-- A row further back in the padded sequences. -/
theorem lag_apply (raw : Fin 32768 → Fin 1536 → EReal)
    (hraw : ∀ r c, val_main_v16 (F := Ideal) h g wa (ix2 r ⟨4096 + c.val, by omega⟩) = raw r c) (r : Fin 32768) (c : Fin 1536)
    (d n : ℕ) (hd : d + n = 3) :
    val_main_v50 (F := Ideal) h g wa (ix3 ⟨r.val / 8192, by omega⟩ ⟨n + r.val % 8192, by omega⟩ c) = lag raw d r c := by
  rw [padded_apply]
  unfold lag
  by_cases hj : d ≤ r.val % 8192
  · rw [if_pos hj, dif_pos (by show 3 ≤ n + r.val % 8192; omega), raw_apply, hraw]
    exact congrArg (fun r => raw r c) (Fin.ext (by show r.val / 8192 * 8192 + (n + r.val % 8192 - 3) = r.val - d; omega))
  · rw [if_neg hj, dif_neg (by show ¬ 3 ≤ n + r.val % 8192; omega)]

theorem taps_apply (b : Fin 4) (s : Fin 8192) (c : Fin 1536) :
    val_main_v71 (F := Ideal) h g wa cw cb (ix3 b s c)
      = swish (cw (ix2 0 c) * val_main_v50 (F := Ideal) h g wa (ix3 b ⟨0 + s.val, by omega⟩ c) + cw (ix2 1 c) * val_main_v50 (F := Ideal) h g wa (ix3 b ⟨1 + s.val, by omega⟩ c)
        + cw (ix2 2 c) * val_main_v50 (F := Ideal) h g wa (ix3 b ⟨2 + s.val, by omega⟩ c) + cw (ix2 3 c) * val_main_v49 (F := Ideal) h g wa (ix3 b s c)
        + cb (ix1 c)) := by
  generalize hx : val_main_v50 (F := Ideal) h g wa = x
  generalize hy : val_main_v49 (F := Ideal) h g wa = y
  have e0 : x (ix3 b ⟨0 + s.val, by omega⟩ c) = x (ix3 b ⟨s.val, by omega⟩ c) := at3 x rfl (Nat.zero_add _) rfl
  rw [e0]
  pointwise [val_main_v71, val_main_call0_v5, val_main_call0_v4, val_main_call0_cst_0, val_main_call0_v3, val_main_call0_v2, val_main_call0_cst, val_main_call0_v1, val_main_call0_v0, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51]
  rw [hx, hy]
  unfold swish
  rfl

theorem xbc_apply (r : Fin 32768) (c : Fin 1536) (raw : Fin 32768 → Fin 1536 → EReal)
    (hraw : ∀ r c, val_main_v16 (F := Ideal) h g wa (ix2 r ⟨4096 + c.val, by omega⟩) = raw r c) :
    val_main_v98 (F := Ideal) h g wa cw cb (ix2 r c) = mixed raw (fun t c => cw (ix2 t c)) (fun c => cb (ix1 c)) r c := by
  have e : val_main_v98 (F := Ideal) h g wa cw cb (ix2 r c)
      = val_main_v71 (F := Ideal) h g wa cw cb (ix3 ⟨r.val / 8192, by omega⟩ ⟨r.val % 8192, by omega⟩ c) := by
    refine Eq.trans (b := val_main_v72 (F := Ideal) h g wa cw cb (ix2 r c)) rfl ?_
    rw [val_main_v72_apply]
    have hr := r.isLt
    have hc := c.isLt
    refine at3 _ ?_ ?_ ?_
    · show (r.val * 1536 + c.val) / 12582912 = r.val / 8192
      omega
    · show (r.val * 1536 + c.val) / 1536 % 8192 = r.val % 8192
      omega
    · show (r.val * 1536 + c.val) % 1536 = c.val
      omega
  have e0 : raw ⟨r.val / 8192 * 8192 + r.val % 8192, by omega⟩ c = raw r c :=
    congrArg (fun r => raw r c) (Fin.ext (by show r.val / 8192 * 8192 + r.val % 8192 = r.val; omega))
  rw [e, taps_apply, lag_apply h g wa raw hraw r c 3 0 rfl, lag_apply h g wa raw hraw r c 2 1 rfl, lag_apply h g wa raw hraw r c 1 2 rfl,
    raw_apply, hraw, e0]
  unfold mixed conv
  dsimp only
  congr 1
  ac_rfl

end Cert.Proof.InprojRef

end
-- ==== Proof.Inproj.Claims.lean ====
/-
  The input projection's claims: the reference's frame, and equality of the nine results at every index.
-/
module

public import proofs.«01_k».proof.Defs
public import proofs.«01_k».proof.Proof.Inproj.Kernel
public import proofs.«01_k».proof.Proof.Inproj.Reference
public import proofs.«01_k».proof.Proof.Gen.InprojRefIdeal
public import proofs.«01_k».proof.Proof.Gen.InprojRefIdeal.Run
public import Idealize.ShloMosaic.Adequacy

@[expose] public section

noncomputable section

namespace Cert.Proof.Inproj

open Idealize.ShloMosaic Idealize.ShloMosaic.TcCoe Idealize.SL.Sem
open Cert.InprojIdeal
open Cert.InprojRefIdeal.Read

theorem frame_ref : quiescent_InprojRefIdeal (hInprojRefIdeal := Cert.InprojRefIdeal.Gen.facts) := fun m ρ _ =>
  (θ_run _ _ _).mono (fun r h => ⟨fun c => (h c).2.2.2.2.2.2.2.2.2, Idealize.ShloMosaic.sem_eq_zero_of_no_sems (by decide) r.2⟩)
    (Cert.InprojRefIdeal.Value.run (F := Ideal) m ρ)

/-! ### The reference's results are the kernel's functions of the arguments -/

section

variable (h : FVec Ideal S32768x1024 .f32) (g : FVec Ideal S1024 .f32) (wa : FVec Ideal S2x1024x5632 .bf16) (wd : FVec Ideal S2x1024x128 .bf16)
  (wb : FVec Ideal S2x1024x5120 .bf16) (cw : FVec Ideal S4x1536 .f32) (cb : FVec Ideal S1536 .f32) (lg lb : FVec Ideal S1024 .f32)

theorem ref_q : val_main_v93 (F := Ideal) h g wa = fun i => qRow h g wa (i 0) (i 1) := by
  funext i
  obtain ⟨r, l, rfl⟩ : ∃ (r : Fin 32768) (l : Fin 1024), i = ix2 r l := ⟨i 0, i 1, eq_ix2 i⟩
  refine (InprojRef.q_apply h g wa r l).trans ?_
  rw [InprojRef.prodA_apply]
  rfl

theorem ref_k : val_main_v94 (F := Ideal) h g wa = fun i => kRow h g wa (i 0) (i 1) := by
  funext i
  obtain ⟨r, l, rfl⟩ : ∃ (r : Fin 32768) (l : Fin 1024), i = ix2 r l := ⟨i 0, i 1, eq_ix2 i⟩
  refine (InprojRef.k_apply h g wa r l).trans ?_
  rw [InprojRef.prodA_apply]
  rfl

theorem ref_v : val_main_v95 (F := Ideal) h g wa = fun i => vRow h g wa (i 0) (i 1) := by
  funext i
  obtain ⟨r, l, rfl⟩ : ∃ (r : Fin 32768) (l : Fin 1024), i = ix2 r l := ⟨i 0, i 1, eq_ix2 i⟩
  refine (InprojRef.v_apply h g wa r l).trans ?_
  rw [InprojRef.prodA_apply]
  rfl

theorem ref_z : val_main_v97 (F := Ideal) h g wa = fun i => zRow h g wa (i 0) (i 1) := by
  funext i
  obtain ⟨r, l, rfl⟩ : ∃ (r : Fin 32768) (l : Fin 1024), i = ix2 r l := ⟨i 0, i 1, eq_ix2 i⟩
  refine (InprojRef.z_apply h g wa r l).trans ?_
  rw [InprojRef.prodA_apply]
  rfl

theorem ref_xbc : val_main_v98 (F := Ideal) h g wa cw cb = fun i => xbcRow h g wa cw cb (i 0) (i 1) := by
  funext i
  obtain ⟨r, l, rfl⟩ : ∃ (r : Fin 32768) (l : Fin 1536), i = ix2 r l := ⟨i 0, i 1, eq_ix2 i⟩
  exact InprojRef.xbc_apply h g wa cw cb r l (rawRow h g wa) fun r c => InprojRef.prodA_apply h g wa r ⟨4096 + c.val, by omega⟩

theorem ref_dt : val_main_v25 (F := Ideal) h g wd = fun i => dtRow h g wd (i 0) (i 1) := by
  funext i
  obtain ⟨r, l, rfl⟩ : ∃ (r : Fin 32768) (l : Fin 128), i = ix2 r l := ⟨i 0, i 1, eq_ix2 i⟩
  exact InprojRef.dt_apply h g wd r l

theorem ref_u : val_main_v99 (F := Ideal) h g wb = fun i => uRow h g wb (i 0) (i 1) := by
  funext i
  obtain ⟨r, l, rfl⟩ : ∃ (r : Fin 32768) (l : Fin 1024), i = ix2 r l := ⟨i 0, i 1, eq_ix2 i⟩
  refine (InprojRef.u_apply h g wb r l).trans ?_
  rw [InprojRef.prodB_apply]
  rfl

theorem ref_vn : val_main_v100 (F := Ideal) h g wb lg lb = fun i => vnRow h g wb lg lb (i 0) (i 1) := by
  funext i
  obtain ⟨r, l, rfl⟩ : ∃ (r : Fin 32768) (l : Fin 1024), i = ix2 r l := ⟨i 0, i 1, eq_ix2 i⟩
  refine (InprojRef.vn_apply h g wb lg lb r l).trans ?_
  simp only [InprojRef.prodB_apply]
  rfl

theorem ref_gate : val_main_v107 (F := Ideal) h g wb = fun i => gateRow h g wb (i 0) (i 1) := by
  funext i
  obtain ⟨r, l, rfl⟩ : ∃ (r : Fin 32768) (l : Fin 3072), i = ix2 r l := ⟨i 0, i 1, eq_ix2 i⟩
  refine (InprojRef.gate_apply h g wb r l).trans ?_
  rw [InprojRef.prodB_apply]
  rfl

end

theorem algebraic : algebraic_InprojIdeal_InprojRefIdeal (hInprojIdeal := Cert.InprojIdeal.Gen.facts) (hInprojRefIdeal := Cert.InprojRefIdeal.Gen.facts) :=
  fun m ρ m' ρ' _ hag => ⟨fun c => qAt m c, fun c => kAt m c, fun c => vAt m c, fun c => zAt m c, fun c => xbcAt m c, fun c => dtAt m c, fun c => uAt m c, fun c => vnAt m c, fun c => gateAt m c,
    (θ_run _ _ _).mono (fun _ h c => by
      obtain ⟨e0, e1, e2, e3, e4, e5, e6, e7, e8, hf⟩ := h c
      exact ⟨e0.trans (final_q m c), e1.trans (final_k m c), e2.trans (final_v m c), e3.trans (final_z m c), e4.trans (final_xbc m c), e5.trans (final_dt m c), e6.trans (final_u m c), e7.trans (final_vn m c), e8.trans (final_gate m c), hf⟩) (Cert.InprojIdeal.Value.run_blocks (F := Ideal) m ρ),
    (θ_run _ _ _).mono (fun _ h c => by
      obtain ⟨h0, h1, h2, h3, h4, h5, h6, h7, h8⟩ := hag c
      obtain ⟨e0, e1, e2, e3, e4, e5, e6, e7, e8, hf⟩ := h c
      refine ⟨e0.trans ((val_main_v93_eq _ _ _).trans ((ref_q _ _ _).trans (by rw [h0, h1, h2]; rfl))),
        e1.trans ((val_main_v94_eq _ _ _).trans ((ref_k _ _ _).trans (by rw [h0, h1, h2]; rfl))),
        e2.trans ((val_main_v95_eq _ _ _).trans ((ref_v _ _ _).trans (by rw [h0, h1, h2]; rfl))),
        e3.trans ((val_main_v97_eq _ _ _).trans ((ref_z _ _ _).trans (by rw [h0, h1, h2]; rfl))),
        e4.trans ((val_main_v98_eq m' c).trans ((ref_xbc _ _ _ _ _).trans (by rw [h0, h1, h2, h5, h6]; rfl))),
        e5.trans ((val_main_v25_eq _ _ _).trans ((ref_dt _ _ _).trans (by rw [h0, h1, h3]; rfl))),
        e6.trans ((val_main_v99_eq m' c).trans ((ref_u _ _ _).trans (by rw [h0, h1, h4]; rfl))),
        e7.trans ((val_main_v100_eq m' c).trans ((ref_vn _ _ _ _ _).trans (by rw [h0, h1, h4, h7, h8]; rfl))),
        e8.trans ((val_main_v107_eq _ _ _).trans ((ref_gate _ _ _).trans (by rw [h0, h1, h4]; rfl))), hf⟩) (Cert.InprojRefIdeal.Value.run (F := Ideal) m' ρ')⟩

end Cert.Proof.Inproj

end
-- ==== Proof.lean ====
module

public import proofs.«01_k».proof.Defs
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.SsdIdeal
public import proofs.«01_k».proof.Proof.Gen.SsdIdeal.Skeleton
public import proofs.«01_k».proof.Proof.Gen.SsdIdeal.Launch
public import proofs.«01_k».proof.Proof.Gen.SsdIdeal.Points
public import proofs.«01_k».proof.Proof.Gen.SsdIdeal.Frame
public import proofs.«01_k».proof.Proof.Gen.SsdRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.SsdIdeal.Value
public import proofs.«01_k».proof.Proof.Gen.SsdRefIdeal.Run
public import proofs.«01_k».proof.Proof.Gen.FfnIdeal.Value
public import proofs.«01_k».proof.Proof.Gen.FfnRefIdeal.Run
public import proofs.«01_k».proof.Proof.Gen.SsdRefIdeal.Step
public import proofs.«01_k».proof.Proof.Gen.FfnRefIdeal.Read
public import proofs.«01_k».proof.Proof.Gen.FfntIdeal.Value
public import proofs.«01_k».proof.Proof.Gen.FfntRefIdeal.Run
public import proofs.«01_k».proof.Proof.Gen.FfntRefIdeal.Read
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.InprojIdeal.Value
public import proofs.«01_k».proof.Proof.Gen.InprojRefIdeal.Run
public import proofs.«01_k».proof.Proof.Gen.InprojRefIdeal.Read
public import proofs.«01_k».proof.Proof.Gen.Ffnt
public import proofs.«01_k».proof.Proof.Gen.Ffnt.Skeleton
public import proofs.«01_k».proof.Proof.Gen.Ffnt.Launch
public import proofs.«01_k».proof.Proof.Gen.Ffnt.Points
public import proofs.«01_k».proof.Proof.Gen.Ffnt.Frame
public import proofs.«01_k».proof.Proof.Gen.FfntIdeal
public import proofs.«01_k».proof.Proof.Gen.FfntIdeal.Skeleton
public import proofs.«01_k».proof.Proof.Gen.FfntIdeal.Launch
public import proofs.«01_k».proof.Proof.Gen.FfntIdeal.Points
public import proofs.«01_k».proof.Proof.Gen.FfntIdeal.Frame
public import proofs.«01_k».proof.Proof.Gen.FfntRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Ssd.Claims
public import proofs.«01_k».proof.Proof.Ffn.Claims
public import proofs.«01_k».proof.Proof.Ffnt.Claims
public import proofs.«01_k».proof.Proof.Merge.Claims
public import proofs.«01_k».proof.Proof.Inproj.Claims
public import Idealize.ShloMosaic.Adequacy
public import Idealize.ShloMosaic.Init

@[expose] public section

noncomputable section

namespace Cert.Proof

open Idealize.ShloMosaic Idealize.SL.Sem

theorem claim : Cert.Claim := ⟨Cert.Ssd.Gen.facts, Cert.SsdIdeal.Gen.facts, Cert.SsdRefIdeal.Gen.facts, Cert.Ffn.Gen.facts, Cert.FfnIdeal.Gen.facts, Cert.FfnRefIdeal.Gen.facts, Cert.Ffnt.Gen.facts, Cert.FfntIdeal.Gen.facts, Cert.FfntRefIdeal.Gen.facts, Cert.Merge.Gen.facts, Cert.MergeIdeal.Gen.facts, Cert.MergeRefIdeal.Gen.facts, Cert.Inproj.Gen.facts, Cert.InprojIdeal.Gen.facts, Cert.InprojRefIdeal.Gen.facts,
  fun m ρ _ => Cert.Ssd.Gen.frame m ρ, fun m ρ _ => Cert.SsdIdeal.Gen.frame m ρ, Ssd.frame_ref,
  fun m ρ _ => Cert.Ffn.Gen.frame m ρ, fun m ρ _ => Cert.FfnIdeal.Gen.frame m ρ, Ffn.frame_ref,
  fun m ρ _ => Cert.Ffnt.Gen.frame m ρ, fun m ρ _ => Cert.FfntIdeal.Gen.frame m ρ, Ffnt.frame_ref,
  fun m ρ _ => Cert.Merge.Gen.frame m ρ, fun m ρ _ => Cert.MergeIdeal.Gen.frame m ρ, Merge.frame_ref,
  fun m ρ _ => Cert.Inproj.Gen.frame m ρ, fun m ρ _ => Cert.InprojIdeal.Gen.frame m ρ, Inproj.frame_ref,
  trivial, Ssd.algebraic, trivial, Ffn.algebraic, trivial, Ffnt.algebraic, trivial, Merge.algebraic, trivial, Inproj.algebraic⟩

end Cert.Proof

end
